-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts) (hPre_finite_logits : Cert.Pre_finite_logits.Facts),
    quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ algebraic_KernelIdeal_ReferenceIdeal_pre_finite_logits (hKernelIdeal := hKernelIdeal) (hReferenceIdeal := hReferenceIdeal) (hPre_finite_logits := hPre_finite_logits)
-- ==== Pre_finite_logits.lean ====
abbrev S128x16x900 : Shape := ⟨3, ![128, 16, 900]⟩
abbrev S128x8 : Shape := ⟨2, ![128, 8]⟩
abbrev S8x768x900 : Shape := ⟨3, ![8, 768, 900]⟩
abbrev S8x768 : Shape := ⟨2, ![8, 768]⟩
abbrev S_ : Shape := ⟨0, ![]⟩

class Facts : Prop where
  bcast_S_S128x8 : S_.BroadcastsInDim S128x8 (![] : Fin 0 → Fin S128x8.rank)

variable [Facts]

def fn {F : FTy → Type} [FloatOps F] (main_arg0 : FVec F S128x16x900 .f32) (main_arg1 : FVec F S128x8 .f32) (main_arg2 : IVec S128x8 32) (main_arg3 : FVec F S8x768x900 .f32) (main_arg4 : FVec F S8x768 .f32) : IVec S128x8 1 :=
  let main_v0 : FVec F S128x8 .f32 := Host.absf main_arg1
  let main_cst : FVec F S_ .f32 := constant S_ .f32 0x7F800000#32
  let main_v1 : FVec F S128x8 .f32 := broadcastInDim S128x8 ![] bcast_S_S128x8 main_cst
  let main_v2 : IVec S128x8 1 := cmpf .olt main_v0 main_v1
  main_v2
-- ==== KernelIdeal.lean ====
abbrev S128x16x900 : Shape := ⟨3, ![128, 16, 900]⟩
abbrev S128x8 : Shape := ⟨2, ![128, 8]⟩
abbrev S8x768x900 : Shape := ⟨3, ![8, 768, 900]⟩
abbrev S8x768 : Shape := ⟨2, ![8, 768]⟩
abbrev S8x1x768 : Shape := ⟨3, ![8, 1, 768]⟩
abbrev S128x16x768 : Shape := ⟨3, ![128, 16, 768]⟩
abbrev S392x1 : Shape := ⟨2, ![392, 1]⟩
abbrev S368x1 : Shape := ⟨2, ![368, 1]⟩
abbrev S128x2 : Shape := ⟨2, ![128, 2]⟩
abbrev S128 : Shape := ⟨1, ![128]⟩
abbrev S128x1 : Shape := ⟨2, ![128, 1]⟩
abbrev S128x128 : Shape := ⟨2, ![128, 128]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x23 : Shape := ⟨2, ![8, 23]⟩
abbrev S23x1 : Shape := ⟨2, ![23, 1]⟩
abbrev S128x368 : Shape := ⟨2, ![128, 368]⟩
abbrev S1x1 : Shape := ⟨2, ![1, 1]⟩
abbrev S256x16 : Shape := ⟨2, ![256, 16]⟩
abbrev S1x768x900 : Shape := ⟨3, ![1, 768, 900]⟩
abbrev S768x900 : Shape := ⟨2, ![768, 900]⟩
abbrev S1x16x900 : Shape := ⟨3, ![1, 16, 900]⟩
abbrev S16x900 : Shape := ⟨2, ![16, 900]⟩
abbrev S256x900 : Shape := ⟨2, ![256, 900]⟩
abbrev S256x768 : Shape := ⟨2, ![256, 768]⟩
abbrev S16x1 : Shape := ⟨2, ![16, 1]⟩
abbrev S256x1 : Shape := ⟨2, ![256, 1]⟩
abbrev S1x1x768 : Shape := ⟨3, ![1, 1, 768]⟩
abbrev S1x768 : Shape := ⟨2, ![1, 768]⟩
abbrev S1x16x768 : Shape := ⟨3, ![1, 16, 768]⟩
abbrev S16x768 : Shape := ⟨2, ![16, 768]⟩

abbrev nBuf : Space → Nat
  | .hbm => 7
  | .vmem => 10
  | .smem => 0
  | _ => 0

abbrev bufTy : (tb : Table) → Fin (tcTables nBuf tb) → BufTy
  | .hbm, ⟨0, _⟩ => ⟨S128x16x900, .f32⟩
  | .hbm, ⟨1, _⟩ => ⟨S128x8, .f32⟩
  | .hbm, ⟨2, _⟩ => ⟨S128x8, .i32⟩
  | .hbm, ⟨3, _⟩ => ⟨S8x768x900, .f32⟩
  | .hbm, ⟨4, _⟩ => ⟨S8x768, .f32⟩
  | .hbm, ⟨5, _⟩ => ⟨S8x1x768, .f32⟩
  | .hbm, ⟨6, _⟩ => ⟨S128x16x768, .bf16⟩
  | .local _ .vmem, ⟨0, _⟩ => ⟨S128x16x900, .f32⟩
  | .local _ .vmem, ⟨1, _⟩ => ⟨S128x8, .f32⟩
  | .local _ .vmem, ⟨2, _⟩ => ⟨S128x8, .i32⟩
  | .local _ .vmem, ⟨3, _⟩ => ⟨S8x768x900, .f32⟩
  | .local _ .vmem, ⟨4, _⟩ => ⟨S8x1x768, .f32⟩
  | .local _ .vmem, ⟨5, _⟩ => ⟨S128x16x768, .bf16⟩
  | .local _ .vmem, ⟨6, _⟩ => ⟨S392x1, .i32⟩
  | .local _ .vmem, ⟨7, _⟩ => ⟨S368x1, .f32⟩
  | .local _ .vmem, ⟨8, _⟩ => ⟨S128x2, .i32⟩
  | .local _ .vmem, ⟨9, _⟩ => ⟨S8x768x900, .bf16⟩
  | _, _ => ⟨S128x16x900, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop (v226 : BitVec 32) : Scf.Loop 32 :=
  let c0_i32_96 : BitVec 32 := 0#32
  let v227 : BitVec 32 := Scalar.subi v226 c0_i32_96
  let c1_i32_98 : BitVec 32 := 1#32
  let v229 : BitVec 32 := Scalar.divsi v227 c1_i32_98
  let v230 : BitVec 32 := Scalar.muli v229 c1_i32_98
  let v231 : BitVec 32 := Scalar.addi c0_i32_96 v230
  let c1_i32_99 : BitVec 32 := 1#32
  ⟨c0_i32_96, v231, c1_i32_99⟩

def k0_off1 (v226 : BitVec 32) (k0_t1 : Fin (k0_t1_loop v226).trips) : Fin 2 → Nat :=
  let c368_i32 : BitVec 32 := 368#32
  let c0_i32_96 : BitVec 32 := 0#32
  let c1_i32_99 : BitVec 32 := 1#32
  let arg10 : BitVec 32 := Scf.iv c0_i32_96 c1_i32_99 k0_t1
  let v234 : BitVec 32 := Scalar.addi c368_i32 arg10
  let v235 : Index := Scalar.indexCast v234
  let c0_101 : Index := 0#32
  ![v235.toNat, 0]
def k0_off2 (v237 : BitVec 32) : Fin 3 → Nat :=
  let v238 : Index := Scalar.indexCast v237
  let c0_102 : Index := 0#32
  let c0_103 : Index := 0#32
  ![v238.toNat, 0, 0]

def k0_off3 (v226 : BitVec 32) (k0_t1 : Fin (k0_t1_loop v226).trips) (c0_i32_105 : BitVec 32) : Fin 2 → Nat :=
  let c0_i32_96 : BitVec 32 := 0#32
  let c1_i32_99 : BitVec 32 := 1#32
  let arg10 : BitVec 32 := Scf.iv c0_i32_96 c1_i32_99 k0_t1
  let c16_i32_104 : BitVec 32 := 16#32
  let v241 : BitVec 32 := Scalar.muli arg10 c16_i32_104
  let v242 : BitVec 32 := Scalar.addi v241 c0_i32_105
  let v243 : Index := Scalar.indexCast v242
  let c0_106 : Index := 0#32
  ![v243.toNat, 0]
def k0_off4 (v245 : BitVec 32) : Fin 3 → Nat :=
  let v321 : Index := Scalar.indexCast v245
  let c0_139 : Index := 0#32
  let c0_140 : Index := 0#32
  ![v321.toNat, 0, 0]

def k0_off5 (v250 : BitVec 32) : Fin 3 → Nat :=
  let v324 : Index := Scalar.indexCast v250
  let c0_141 : Index := 0#32
  let c0_142 : Index := 0#32
  ![v324.toNat, 0, 0]

def k0_off6 (v255 : BitVec 32) : Fin 3 → Nat :=
  let v327 : Index := Scalar.indexCast v255
  let c0_143 : Index := 0#32
  let c0_144 : Index := 0#32
  ![v327.toNat, 0, 0]

def k0_off7 (v260 : BitVec 32) : Fin 3 → Nat :=
  let v330 : Index := Scalar.indexCast v260
  let c0_145 : Index := 0#32
  let c0_146 : Index := 0#32
  ![v330.toNat, 0, 0]

def k0_off8 (v265 : BitVec 32) : Fin 3 → Nat :=
  let v333 : Index := Scalar.indexCast v265
  let c0_147 : Index := 0#32
  let c0_148 : Index := 0#32
  ![v333.toNat, 0, 0]

def k0_off9 (v270 : BitVec 32) : Fin 3 → Nat :=
  let v336 : Index := Scalar.indexCast v270
  let c0_149 : Index := 0#32
  let c0_150 : Index := 0#32
  ![v336.toNat, 0, 0]

def k0_off10 (v275 : BitVec 32) : Fin 3 → Nat :=
  let v339 : Index := Scalar.indexCast v275
  let c0_151 : Index := 0#32
  let c0_152 : Index := 0#32
  ![v339.toNat, 0, 0]

def k0_off11 (v280 : BitVec 32) : Fin 3 → Nat :=
  let v342 : Index := Scalar.indexCast v280
  let c0_153 : Index := 0#32
  let c0_154 : Index := 0#32
  ![v342.toNat, 0, 0]

def k0_off12 (v285 : BitVec 32) : Fin 3 → Nat :=
  let v345 : Index := Scalar.indexCast v285
  let c0_155 : Index := 0#32
  let c0_156 : Index := 0#32
  ![v345.toNat, 0, 0]

def k0_off13 (v290 : BitVec 32) : Fin 3 → Nat :=
  let v348 : Index := Scalar.indexCast v290
  let c0_157 : Index := 0#32
  let c0_158 : Index := 0#32
  ![v348.toNat, 0, 0]

def k0_off14 (v295 : BitVec 32) : Fin 3 → Nat :=
  let v351 : Index := Scalar.indexCast v295
  let c0_159 : Index := 0#32
  let c0_160 : Index := 0#32
  ![v351.toNat, 0, 0]

def k0_off15 (v300 : BitVec 32) : Fin 3 → Nat :=
  let v354 : Index := Scalar.indexCast v300
  let c0_161 : Index := 0#32
  let c0_162 : Index := 0#32
  ![v354.toNat, 0, 0]

def k0_off16 (v305 : BitVec 32) : Fin 3 → Nat :=
  let v357 : Index := Scalar.indexCast v305
  let c0_163 : Index := 0#32
  let c0_164 : Index := 0#32
  ![v357.toNat, 0, 0]

def k0_off17 (v310 : BitVec 32) : Fin 3 → Nat :=
  let v360 : Index := Scalar.indexCast v310
  let c0_165 : Index := 0#32
  let c0_166 : Index := 0#32
  ![v360.toNat, 0, 0]

def k0_off18 (v315 : BitVec 32) : Fin 3 → Nat :=
  let v363 : Index := Scalar.indexCast v315
  let c0_167 : Index := 0#32
  let c0_168 : Index := 0#32
  ![v363.toNat, 0, 0]

def k0_off19 (v320 : BitVec 32) : Fin 3 → Nat :=
  let v366 : Index := Scalar.indexCast v320
  let c0_169 : Index := 0#32
  let c0_170 : Index := 0#32
  ![v366.toNat, 0, 0]

def k0_off20 (v226 : BitVec 32) (k0_t1 : Fin (k0_t1_loop v226).trips) : Fin 2 → Nat :=
  let c0_i32_96 : BitVec 32 := 0#32
  let c1_i32_99 : BitVec 32 := 1#32
  let arg10 : BitVec 32 := Scf.iv c0_i32_96 c1_i32_99 k0_t1
  let c16_i32_172 : BitVec 32 := 16#32
  let v372 : BitVec 32 := Scalar.muli arg10 c16_i32_172
  let v373 : Index := Scalar.indexCast v372
  let c0_173 : Index := 0#32
  ![v373.toNat, 0]
def k0_off21 (v237 : BitVec 32) : Fin 3 → Nat :=
  let v376 : Index := Scalar.indexCast v237
  let c0_175 : Index := 0#32
  let c0_176 : Index := 0#32
  ![v376.toNat, 0, 0]

def k0_chk2 (v237 : BitVec 32) : Prop :=
  (∀ a, (k0_off2 v237) a + S1x768x900.size a ≤ S8x768x900.size a) ∧
  (∀ a, (k0_off21 v237) a + S1x1x768.size a ≤ S8x1x768.size a)
theorem k0_off2_inb : ∀ (v237 : BitVec 32) (k0_hw2 : k0_chk2 v237), ∀ a, (k0_off2 v237) a + S1x768x900.size a ≤ S8x768x900.size a := fun v237 k0_hw2 => k0_hw2.1
theorem k0_off21_inb : ∀ (v237 : BitVec 32) (k0_hw2 : k0_chk2 v237), ∀ a, (k0_off21 v237) a + S1x1x768.size a ≤ S8x1x768.size a := fun v237 k0_hw2 => k0_hw2.2

def k0_off22 (v245 : BitVec 32) : Fin 3 → Nat :=
  let v384 : Index := Scalar.indexCast v245
  let c0_177 : Index := 0#32
  let c0_178 : Index := 0#32
  ![v384.toNat, 0, 0]

def k0_chk3 (v245 : BitVec 32) : Prop :=
  (∀ a, (k0_off4 v245) a + S1x16x900.size a ≤ S128x16x900.size a) ∧
  (∀ a, (k0_off22 v245) a + S1x16x768.size a ≤ S128x16x768.size a) ∧
  (∀ (hinb : ∀ a, (k0_off22 v245) a + S1x16x768.size a ≤ S128x16x768.size a), (Rect.unit (s := S128x16x768) (k0_off22 v245) S1x16x768.size hinb).PackedRows (EltTy.packing .bf16))
theorem k0_off4_inb : ∀ (v245 : BitVec 32) (k0_hw3 : k0_chk3 v245), ∀ a, (k0_off4 v245) a + S1x16x900.size a ≤ S128x16x900.size a := fun v245 k0_hw3 => k0_hw3.1
theorem k0_off22_inb : ∀ (v245 : BitVec 32) (k0_hw3 : k0_chk3 v245), ∀ a, (k0_off22 v245) a + S1x16x768.size a ≤ S128x16x768.size a := fun v245 k0_hw3 => k0_hw3.2.1
theorem k0_off22_packedbf16 : ∀ (v245 : BitVec 32) (k0_hw3 : k0_chk3 v245), (Rect.unit (s := S128x16x768) (k0_off22 v245) S1x16x768.size (k0_off22_inb v245 k0_hw3)).PackedRows (EltTy.packing .bf16) := fun v245 k0_hw3 => k0_hw3.2.2 (k0_off22_inb v245 k0_hw3)

def k0_off23 (v250 : BitVec 32) : Fin 3 → Nat :=
  let v393 : Index := Scalar.indexCast v250
  let c0_181 : Index := 0#32
  let c0_182 : Index := 0#32
  ![v393.toNat, 0, 0]

def k0_chk4 (v250 : BitVec 32) : Prop :=
  (∀ a, (k0_off5 v250) a + S1x16x900.size a ≤ S128x16x900.size a) ∧
  (∀ a, (k0_off23 v250) a + S1x16x768.size a ≤ S128x16x768.size a) ∧
  (∀ (hinb : ∀ a, (k0_off23 v250) a + S1x16x768.size a ≤ S128x16x768.size a), (Rect.unit (s := S128x16x768) (k0_off23 v250) S1x16x768.size hinb).PackedRows (EltTy.packing .bf16))
theorem k0_off5_inb : ∀ (v250 : BitVec 32) (k0_hw4 : k0_chk4 v250), ∀ a, (k0_off5 v250) a + S1x16x900.size a ≤ S128x16x900.size a := fun v250 k0_hw4 => k0_hw4.1
theorem k0_off23_inb : ∀ (v250 : BitVec 32) (k0_hw4 : k0_chk4 v250), ∀ a, (k0_off23 v250) a + S1x16x768.size a ≤ S128x16x768.size a := fun v250 k0_hw4 => k0_hw4.2.1
theorem k0_off23_packedbf16 : ∀ (v250 : BitVec 32) (k0_hw4 : k0_chk4 v250), (Rect.unit (s := S128x16x768) (k0_off23 v250) S1x16x768.size (k0_off23_inb v250 k0_hw4)).PackedRows (EltTy.packing .bf16) := fun v250 k0_hw4 => k0_hw4.2.2 (k0_off23_inb v250 k0_hw4)

def k0_off24 (v255 : BitVec 32) : Fin 3 → Nat :=
  let v402 : Index := Scalar.indexCast v255
  let c0_185 : Index := 0#32
  let c0_186 : Index := 0#32
  ![v402.toNat, 0, 0]

def k0_chk5 (v255 : BitVec 32) : Prop :=
  (∀ a, (k0_off6 v255) a + S1x16x900.size a ≤ S128x16x900.size a) ∧
  (∀ a, (k0_off24 v255) a + S1x16x768.size a ≤ S128x16x768.size a) ∧
  (∀ (hinb : ∀ a, (k0_off24 v255) a + S1x16x768.size a ≤ S128x16x768.size a), (Rect.unit (s := S128x16x768) (k0_off24 v255) S1x16x768.size hinb).PackedRows (EltTy.packing .bf16))
theorem k0_off6_inb : ∀ (v255 : BitVec 32) (k0_hw5 : k0_chk5 v255), ∀ a, (k0_off6 v255) a + S1x16x900.size a ≤ S128x16x900.size a := fun v255 k0_hw5 => k0_hw5.1
theorem k0_off24_inb : ∀ (v255 : BitVec 32) (k0_hw5 : k0_chk5 v255), ∀ a, (k0_off24 v255) a + S1x16x768.size a ≤ S128x16x768.size a := fun v255 k0_hw5 => k0_hw5.2.1
theorem k0_off24_packedbf16 : ∀ (v255 : BitVec 32) (k0_hw5 : k0_chk5 v255), (Rect.unit (s := S128x16x768) (k0_off24 v255) S1x16x768.size (k0_off24_inb v255 k0_hw5)).PackedRows (EltTy.packing .bf16) := fun v255 k0_hw5 => k0_hw5.2.2 (k0_off24_inb v255 k0_hw5)

def k0_off25 (v260 : BitVec 32) : Fin 3 → Nat :=
  let v411 : Index := Scalar.indexCast v260
  let c0_189 : Index := 0#32
  let c0_190 : Index := 0#32
  ![v411.toNat, 0, 0]

def k0_chk6 (v260 : BitVec 32) : Prop :=
  (∀ a, (k0_off7 v260) a + S1x16x900.size a ≤ S128x16x900.size a) ∧
  (∀ a, (k0_off25 v260) a + S1x16x768.size a ≤ S128x16x768.size a) ∧
  (∀ (hinb : ∀ a, (k0_off25 v260) a + S1x16x768.size a ≤ S128x16x768.size a), (Rect.unit (s := S128x16x768) (k0_off25 v260) S1x16x768.size hinb).PackedRows (EltTy.packing .bf16))
theorem k0_off7_inb : ∀ (v260 : BitVec 32) (k0_hw6 : k0_chk6 v260), ∀ a, (k0_off7 v260) a + S1x16x900.size a ≤ S128x16x900.size a := fun v260 k0_hw6 => k0_hw6.1
theorem k0_off25_inb : ∀ (v260 : BitVec 32) (k0_hw6 : k0_chk6 v260), ∀ a, (k0_off25 v260) a + S1x16x768.size a ≤ S128x16x768.size a := fun v260 k0_hw6 => k0_hw6.2.1
theorem k0_off25_packedbf16 : ∀ (v260 : BitVec 32) (k0_hw6 : k0_chk6 v260), (Rect.unit (s := S128x16x768) (k0_off25 v260) S1x16x768.size (k0_off25_inb v260 k0_hw6)).PackedRows (EltTy.packing .bf16) := fun v260 k0_hw6 => k0_hw6.2.2 (k0_off25_inb v260 k0_hw6)

def k0_off26 (v265 : BitVec 32) : Fin 3 → Nat :=
  let v420 : Index := Scalar.indexCast v265
  let c0_193 : Index := 0#32
  let c0_194 : Index := 0#32
  ![v420.toNat, 0, 0]

def k0_chk7 (v265 : BitVec 32) : Prop :=
  (∀ a, (k0_off8 v265) a + S1x16x900.size a ≤ S128x16x900.size a) ∧
  (∀ a, (k0_off26 v265) a + S1x16x768.size a ≤ S128x16x768.size a) ∧
  (∀ (hinb : ∀ a, (k0_off26 v265) a + S1x16x768.size a ≤ S128x16x768.size a), (Rect.unit (s := S128x16x768) (k0_off26 v265) S1x16x768.size hinb).PackedRows (EltTy.packing .bf16))
theorem k0_off8_inb : ∀ (v265 : BitVec 32) (k0_hw7 : k0_chk7 v265), ∀ a, (k0_off8 v265) a + S1x16x900.size a ≤ S128x16x900.size a := fun v265 k0_hw7 => k0_hw7.1
theorem k0_off26_inb : ∀ (v265 : BitVec 32) (k0_hw7 : k0_chk7 v265), ∀ a, (k0_off26 v265) a + S1x16x768.size a ≤ S128x16x768.size a := fun v265 k0_hw7 => k0_hw7.2.1
theorem k0_off26_packedbf16 : ∀ (v265 : BitVec 32) (k0_hw7 : k0_chk7 v265), (Rect.unit (s := S128x16x768) (k0_off26 v265) S1x16x768.size (k0_off26_inb v265 k0_hw7)).PackedRows (EltTy.packing .bf16) := fun v265 k0_hw7 => k0_hw7.2.2 (k0_off26_inb v265 k0_hw7)

def k0_off27 (v270 : BitVec 32) : Fin 3 → Nat :=
  let v429 : Index := Scalar.indexCast v270
  let c0_197 : Index := 0#32
  let c0_198 : Index := 0#32
  ![v429.toNat, 0, 0]

def k0_chk8 (v270 : BitVec 32) : Prop :=
  (∀ a, (k0_off9 v270) a + S1x16x900.size a ≤ S128x16x900.size a) ∧
  (∀ a, (k0_off27 v270) a + S1x16x768.size a ≤ S128x16x768.size a) ∧
  (∀ (hinb : ∀ a, (k0_off27 v270) a + S1x16x768.size a ≤ S128x16x768.size a), (Rect.unit (s := S128x16x768) (k0_off27 v270) S1x16x768.size hinb).PackedRows (EltTy.packing .bf16))
theorem k0_off9_inb : ∀ (v270 : BitVec 32) (k0_hw8 : k0_chk8 v270), ∀ a, (k0_off9 v270) a + S1x16x900.size a ≤ S128x16x900.size a := fun v270 k0_hw8 => k0_hw8.1
theorem k0_off27_inb : ∀ (v270 : BitVec 32) (k0_hw8 : k0_chk8 v270), ∀ a, (k0_off27 v270) a + S1x16x768.size a ≤ S128x16x768.size a := fun v270 k0_hw8 => k0_hw8.2.1
theorem k0_off27_packedbf16 : ∀ (v270 : BitVec 32) (k0_hw8 : k0_chk8 v270), (Rect.unit (s := S128x16x768) (k0_off27 v270) S1x16x768.size (k0_off27_inb v270 k0_hw8)).PackedRows (EltTy.packing .bf16) := fun v270 k0_hw8 => k0_hw8.2.2 (k0_off27_inb v270 k0_hw8)

def k0_off28 (v275 : BitVec 32) : Fin 3 → Nat :=
  let v438 : Index := Scalar.indexCast v275
  let c0_201 : Index := 0#32
  let c0_202 : Index := 0#32
  ![v438.toNat, 0, 0]

def k0_chk9 (v275 : BitVec 32) : Prop :=
  (∀ a, (k0_off10 v275) a + S1x16x900.size a ≤ S128x16x900.size a) ∧
  (∀ a, (k0_off28 v275) a + S1x16x768.size a ≤ S128x16x768.size a) ∧
  (∀ (hinb : ∀ a, (k0_off28 v275) a + S1x16x768.size a ≤ S128x16x768.size a), (Rect.unit (s := S128x16x768) (k0_off28 v275) S1x16x768.size hinb).PackedRows (EltTy.packing .bf16))
theorem k0_off10_inb : ∀ (v275 : BitVec 32) (k0_hw9 : k0_chk9 v275), ∀ a, (k0_off10 v275) a + S1x16x900.size a ≤ S128x16x900.size a := fun v275 k0_hw9 => k0_hw9.1
theorem k0_off28_inb : ∀ (v275 : BitVec 32) (k0_hw9 : k0_chk9 v275), ∀ a, (k0_off28 v275) a + S1x16x768.size a ≤ S128x16x768.size a := fun v275 k0_hw9 => k0_hw9.2.1
theorem k0_off28_packedbf16 : ∀ (v275 : BitVec 32) (k0_hw9 : k0_chk9 v275), (Rect.unit (s := S128x16x768) (k0_off28 v275) S1x16x768.size (k0_off28_inb v275 k0_hw9)).PackedRows (EltTy.packing .bf16) := fun v275 k0_hw9 => k0_hw9.2.2 (k0_off28_inb v275 k0_hw9)

def k0_off29 (v280 : BitVec 32) : Fin 3 → Nat :=
  let v447 : Index := Scalar.indexCast v280
  let c0_205 : Index := 0#32
  let c0_206 : Index := 0#32
  ![v447.toNat, 0, 0]

def k0_chk10 (v280 : BitVec 32) : Prop :=
  (∀ a, (k0_off11 v280) a + S1x16x900.size a ≤ S128x16x900.size a) ∧
  (∀ a, (k0_off29 v280) a + S1x16x768.size a ≤ S128x16x768.size a) ∧
  (∀ (hinb : ∀ a, (k0_off29 v280) a + S1x16x768.size a ≤ S128x16x768.size a), (Rect.unit (s := S128x16x768) (k0_off29 v280) S1x16x768.size hinb).PackedRows (EltTy.packing .bf16))
theorem k0_off11_inb : ∀ (v280 : BitVec 32) (k0_hw10 : k0_chk10 v280), ∀ a, (k0_off11 v280) a + S1x16x900.size a ≤ S128x16x900.size a := fun v280 k0_hw10 => k0_hw10.1
theorem k0_off29_inb : ∀ (v280 : BitVec 32) (k0_hw10 : k0_chk10 v280), ∀ a, (k0_off29 v280) a + S1x16x768.size a ≤ S128x16x768.size a := fun v280 k0_hw10 => k0_hw10.2.1
theorem k0_off29_packedbf16 : ∀ (v280 : BitVec 32) (k0_hw10 : k0_chk10 v280), (Rect.unit (s := S128x16x768) (k0_off29 v280) S1x16x768.size (k0_off29_inb v280 k0_hw10)).PackedRows (EltTy.packing .bf16) := fun v280 k0_hw10 => k0_hw10.2.2 (k0_off29_inb v280 k0_hw10)

def k0_off30 (v285 : BitVec 32) : Fin 3 → Nat :=
  let v456 : Index := Scalar.indexCast v285
  let c0_209 : Index := 0#32
  let c0_210 : Index := 0#32
  ![v456.toNat, 0, 0]

def k0_chk11 (v285 : BitVec 32) : Prop :=
  (∀ a, (k0_off12 v285) a + S1x16x900.size a ≤ S128x16x900.size a) ∧
  (∀ a, (k0_off30 v285) a + S1x16x768.size a ≤ S128x16x768.size a) ∧
  (∀ (hinb : ∀ a, (k0_off30 v285) a + S1x16x768.size a ≤ S128x16x768.size a), (Rect.unit (s := S128x16x768) (k0_off30 v285) S1x16x768.size hinb).PackedRows (EltTy.packing .bf16))
theorem k0_off12_inb : ∀ (v285 : BitVec 32) (k0_hw11 : k0_chk11 v285), ∀ a, (k0_off12 v285) a + S1x16x900.size a ≤ S128x16x900.size a := fun v285 k0_hw11 => k0_hw11.1
theorem k0_off30_inb : ∀ (v285 : BitVec 32) (k0_hw11 : k0_chk11 v285), ∀ a, (k0_off30 v285) a + S1x16x768.size a ≤ S128x16x768.size a := fun v285 k0_hw11 => k0_hw11.2.1
theorem k0_off30_packedbf16 : ∀ (v285 : BitVec 32) (k0_hw11 : k0_chk11 v285), (Rect.unit (s := S128x16x768) (k0_off30 v285) S1x16x768.size (k0_off30_inb v285 k0_hw11)).PackedRows (EltTy.packing .bf16) := fun v285 k0_hw11 => k0_hw11.2.2 (k0_off30_inb v285 k0_hw11)

def k0_off31 (v290 : BitVec 32) : Fin 3 → Nat :=
  let v465 : Index := Scalar.indexCast v290
  let c0_213 : Index := 0#32
  let c0_214 : Index := 0#32
  ![v465.toNat, 0, 0]

def k0_chk12 (v290 : BitVec 32) : Prop :=
  (∀ a, (k0_off13 v290) a + S1x16x900.size a ≤ S128x16x900.size a) ∧
  (∀ a, (k0_off31 v290) a + S1x16x768.size a ≤ S128x16x768.size a) ∧
  (∀ (hinb : ∀ a, (k0_off31 v290) a + S1x16x768.size a ≤ S128x16x768.size a), (Rect.unit (s := S128x16x768) (k0_off31 v290) S1x16x768.size hinb).PackedRows (EltTy.packing .bf16))
theorem k0_off13_inb : ∀ (v290 : BitVec 32) (k0_hw12 : k0_chk12 v290), ∀ a, (k0_off13 v290) a + S1x16x900.size a ≤ S128x16x900.size a := fun v290 k0_hw12 => k0_hw12.1
theorem k0_off31_inb : ∀ (v290 : BitVec 32) (k0_hw12 : k0_chk12 v290), ∀ a, (k0_off31 v290) a + S1x16x768.size a ≤ S128x16x768.size a := fun v290 k0_hw12 => k0_hw12.2.1
theorem k0_off31_packedbf16 : ∀ (v290 : BitVec 32) (k0_hw12 : k0_chk12 v290), (Rect.unit (s := S128x16x768) (k0_off31 v290) S1x16x768.size (k0_off31_inb v290 k0_hw12)).PackedRows (EltTy.packing .bf16) := fun v290 k0_hw12 => k0_hw12.2.2 (k0_off31_inb v290 k0_hw12)

def k0_off32 (v295 : BitVec 32) : Fin 3 → Nat :=
  let v474 : Index := Scalar.indexCast v295
  let c0_217 : Index := 0#32
  let c0_218 : Index := 0#32
  ![v474.toNat, 0, 0]

def k0_chk13 (v295 : BitVec 32) : Prop :=
  (∀ a, (k0_off14 v295) a + S1x16x900.size a ≤ S128x16x900.size a) ∧
  (∀ a, (k0_off32 v295) a + S1x16x768.size a ≤ S128x16x768.size a) ∧
  (∀ (hinb : ∀ a, (k0_off32 v295) a + S1x16x768.size a ≤ S128x16x768.size a), (Rect.unit (s := S128x16x768) (k0_off32 v295) S1x16x768.size hinb).PackedRows (EltTy.packing .bf16))
theorem k0_off14_inb : ∀ (v295 : BitVec 32) (k0_hw13 : k0_chk13 v295), ∀ a, (k0_off14 v295) a + S1x16x900.size a ≤ S128x16x900.size a := fun v295 k0_hw13 => k0_hw13.1
theorem k0_off32_inb : ∀ (v295 : BitVec 32) (k0_hw13 : k0_chk13 v295), ∀ a, (k0_off32 v295) a + S1x16x768.size a ≤ S128x16x768.size a := fun v295 k0_hw13 => k0_hw13.2.1
theorem k0_off32_packedbf16 : ∀ (v295 : BitVec 32) (k0_hw13 : k0_chk13 v295), (Rect.unit (s := S128x16x768) (k0_off32 v295) S1x16x768.size (k0_off32_inb v295 k0_hw13)).PackedRows (EltTy.packing .bf16) := fun v295 k0_hw13 => k0_hw13.2.2 (k0_off32_inb v295 k0_hw13)

def k0_off33 (v300 : BitVec 32) : Fin 3 → Nat :=
  let v483 : Index := Scalar.indexCast v300
  let c0_221 : Index := 0#32
  let c0_222 : Index := 0#32
  ![v483.toNat, 0, 0]

def k0_chk14 (v300 : BitVec 32) : Prop :=
  (∀ a, (k0_off15 v300) a + S1x16x900.size a ≤ S128x16x900.size a) ∧
  (∀ a, (k0_off33 v300) a + S1x16x768.size a ≤ S128x16x768.size a) ∧
  (∀ (hinb : ∀ a, (k0_off33 v300) a + S1x16x768.size a ≤ S128x16x768.size a), (Rect.unit (s := S128x16x768) (k0_off33 v300) S1x16x768.size hinb).PackedRows (EltTy.packing .bf16))
theorem k0_off15_inb : ∀ (v300 : BitVec 32) (k0_hw14 : k0_chk14 v300), ∀ a, (k0_off15 v300) a + S1x16x900.size a ≤ S128x16x900.size a := fun v300 k0_hw14 => k0_hw14.1
theorem k0_off33_inb : ∀ (v300 : BitVec 32) (k0_hw14 : k0_chk14 v300), ∀ a, (k0_off33 v300) a + S1x16x768.size a ≤ S128x16x768.size a := fun v300 k0_hw14 => k0_hw14.2.1
theorem k0_off33_packedbf16 : ∀ (v300 : BitVec 32) (k0_hw14 : k0_chk14 v300), (Rect.unit (s := S128x16x768) (k0_off33 v300) S1x16x768.size (k0_off33_inb v300 k0_hw14)).PackedRows (EltTy.packing .bf16) := fun v300 k0_hw14 => k0_hw14.2.2 (k0_off33_inb v300 k0_hw14)

def k0_off34 (v305 : BitVec 32) : Fin 3 → Nat :=
  let v492 : Index := Scalar.indexCast v305
  let c0_225 : Index := 0#32
  let c0_226 : Index := 0#32
  ![v492.toNat, 0, 0]

def k0_chk15 (v305 : BitVec 32) : Prop :=
  (∀ a, (k0_off16 v305) a + S1x16x900.size a ≤ S128x16x900.size a) ∧
  (∀ a, (k0_off34 v305) a + S1x16x768.size a ≤ S128x16x768.size a) ∧
  (∀ (hinb : ∀ a, (k0_off34 v305) a + S1x16x768.size a ≤ S128x16x768.size a), (Rect.unit (s := S128x16x768) (k0_off34 v305) S1x16x768.size hinb).PackedRows (EltTy.packing .bf16))
theorem k0_off16_inb : ∀ (v305 : BitVec 32) (k0_hw15 : k0_chk15 v305), ∀ a, (k0_off16 v305) a + S1x16x900.size a ≤ S128x16x900.size a := fun v305 k0_hw15 => k0_hw15.1
theorem k0_off34_inb : ∀ (v305 : BitVec 32) (k0_hw15 : k0_chk15 v305), ∀ a, (k0_off34 v305) a + S1x16x768.size a ≤ S128x16x768.size a := fun v305 k0_hw15 => k0_hw15.2.1
theorem k0_off34_packedbf16 : ∀ (v305 : BitVec 32) (k0_hw15 : k0_chk15 v305), (Rect.unit (s := S128x16x768) (k0_off34 v305) S1x16x768.size (k0_off34_inb v305 k0_hw15)).PackedRows (EltTy.packing .bf16) := fun v305 k0_hw15 => k0_hw15.2.2 (k0_off34_inb v305 k0_hw15)

def k0_off35 (v310 : BitVec 32) : Fin 3 → Nat :=
  let v501 : Index := Scalar.indexCast v310
  let c0_229 : Index := 0#32
  let c0_230 : Index := 0#32
  ![v501.toNat, 0, 0]

def k0_chk16 (v310 : BitVec 32) : Prop :=
  (∀ a, (k0_off17 v310) a + S1x16x900.size a ≤ S128x16x900.size a) ∧
  (∀ a, (k0_off35 v310) a + S1x16x768.size a ≤ S128x16x768.size a) ∧
  (∀ (hinb : ∀ a, (k0_off35 v310) a + S1x16x768.size a ≤ S128x16x768.size a), (Rect.unit (s := S128x16x768) (k0_off35 v310) S1x16x768.size hinb).PackedRows (EltTy.packing .bf16))
theorem k0_off17_inb : ∀ (v310 : BitVec 32) (k0_hw16 : k0_chk16 v310), ∀ a, (k0_off17 v310) a + S1x16x900.size a ≤ S128x16x900.size a := fun v310 k0_hw16 => k0_hw16.1
theorem k0_off35_inb : ∀ (v310 : BitVec 32) (k0_hw16 : k0_chk16 v310), ∀ a, (k0_off35 v310) a + S1x16x768.size a ≤ S128x16x768.size a := fun v310 k0_hw16 => k0_hw16.2.1
theorem k0_off35_packedbf16 : ∀ (v310 : BitVec 32) (k0_hw16 : k0_chk16 v310), (Rect.unit (s := S128x16x768) (k0_off35 v310) S1x16x768.size (k0_off35_inb v310 k0_hw16)).PackedRows (EltTy.packing .bf16) := fun v310 k0_hw16 => k0_hw16.2.2 (k0_off35_inb v310 k0_hw16)

def k0_off36 (v315 : BitVec 32) : Fin 3 → Nat :=
  let v510 : Index := Scalar.indexCast v315
  let c0_233 : Index := 0#32
  let c0_234 : Index := 0#32
  ![v510.toNat, 0, 0]

def k0_chk17 (v315 : BitVec 32) : Prop :=
  (∀ a, (k0_off18 v315) a + S1x16x900.size a ≤ S128x16x900.size a) ∧
  (∀ a, (k0_off36 v315) a + S1x16x768.size a ≤ S128x16x768.size a) ∧
  (∀ (hinb : ∀ a, (k0_off36 v315) a + S1x16x768.size a ≤ S128x16x768.size a), (Rect.unit (s := S128x16x768) (k0_off36 v315) S1x16x768.size hinb).PackedRows (EltTy.packing .bf16))
theorem k0_off18_inb : ∀ (v315 : BitVec 32) (k0_hw17 : k0_chk17 v315), ∀ a, (k0_off18 v315) a + S1x16x900.size a ≤ S128x16x900.size a := fun v315 k0_hw17 => k0_hw17.1
theorem k0_off36_inb : ∀ (v315 : BitVec 32) (k0_hw17 : k0_chk17 v315), ∀ a, (k0_off36 v315) a + S1x16x768.size a ≤ S128x16x768.size a := fun v315 k0_hw17 => k0_hw17.2.1
theorem k0_off36_packedbf16 : ∀ (v315 : BitVec 32) (k0_hw17 : k0_chk17 v315), (Rect.unit (s := S128x16x768) (k0_off36 v315) S1x16x768.size (k0_off36_inb v315 k0_hw17)).PackedRows (EltTy.packing .bf16) := fun v315 k0_hw17 => k0_hw17.2.2 (k0_off36_inb v315 k0_hw17)

def k0_off37 (v320 : BitVec 32) : Fin 3 → Nat :=
  let v519 : Index := Scalar.indexCast v320
  let c0_237 : Index := 0#32
  let c0_238 : Index := 0#32
  ![v519.toNat, 0, 0]

def k0_chk18 (v320 : BitVec 32) : Prop :=
  (∀ a, (k0_off19 v320) a + S1x16x900.size a ≤ S128x16x900.size a) ∧
  (∀ a, (k0_off37 v320) a + S1x16x768.size a ≤ S128x16x768.size a) ∧
  (∀ (hinb : ∀ a, (k0_off37 v320) a + S1x16x768.size a ≤ S128x16x768.size a), (Rect.unit (s := S128x16x768) (k0_off37 v320) S1x16x768.size hinb).PackedRows (EltTy.packing .bf16))
theorem k0_off19_inb : ∀ (v320 : BitVec 32) (k0_hw18 : k0_chk18 v320), ∀ a, (k0_off19 v320) a + S1x16x900.size a ≤ S128x16x900.size a := fun v320 k0_hw18 => k0_hw18.1
theorem k0_off37_inb : ∀ (v320 : BitVec 32) (k0_hw18 : k0_chk18 v320), ∀ a, (k0_off37 v320) a + S1x16x768.size a ≤ S128x16x768.size a := fun v320 k0_hw18 => k0_hw18.2.1
theorem k0_off37_packedbf16 : ∀ (v320 : BitVec 32) (k0_hw18 : k0_chk18 v320), (Rect.unit (s := S128x16x768) (k0_off37 v320) S1x16x768.size (k0_off37_inb v320 k0_hw18)).PackedRows (EltTy.packing .bf16) := fun v320 k0_hw18 => k0_hw18.2.2 (k0_off37_inb v320 k0_hw18)

@[reducible] def k0_t2_loop (v226 : BitVec 32) : Scf.Loop 32 :=
  let c0_i32_96 : BitVec 32 := 0#32
  let v227 : BitVec 32 := Scalar.subi v226 c0_i32_96
  let c1_i32_98 : BitVec 32 := 1#32
  let v229 : BitVec 32 := Scalar.divsi v227 c1_i32_98
  let v230 : BitVec 32 := Scalar.muli v229 c1_i32_98
  let v231 : BitVec 32 := Scalar.addi c0_i32_96 v230
  let v228 : BitVec 32 := Scalar.addi c0_i32_96 v227
  let c1_i32_100 : BitVec 32 := 1#32
  ⟨v231, v228, c1_i32_100⟩
def k0_off38 (v226 : BitVec 32) (k0_t2 : Fin (k0_t2_loop v226).trips) : Fin 2 → Nat :=
  let c368_i32 : BitVec 32 := 368#32
  let c0_i32_96 : BitVec 32 := 0#32
  let v227 : BitVec 32 := Scalar.subi v226 c0_i32_96
  let c1_i32_98 : BitVec 32 := 1#32
  let v229 : BitVec 32 := Scalar.divsi v227 c1_i32_98
  let v230 : BitVec 32 := Scalar.muli v229 c1_i32_98
  let v231 : BitVec 32 := Scalar.addi c0_i32_96 v230
  let c1_i32_100 : BitVec 32 := 1#32
  let arg10 : BitVec 32 := Scf.iv v231 c1_i32_100 k0_t2
  let v234 : BitVec 32 := Scalar.addi c368_i32 arg10
  let v235 : Index := Scalar.indexCast v234
  let c0_101 : Index := 0#32
  ![v235.toNat, 0]
def k0_off39 (v237 : BitVec 32) : Fin 3 → Nat :=
  let v238 : Index := Scalar.indexCast v237
  let c0_102 : Index := 0#32
  let c0_103 : Index := 0#32
  ![v238.toNat, 0, 0]

def k0_off40 (v226 : BitVec 32) (k0_t2 : Fin (k0_t2_loop v226).trips) (c0_i32_105 : BitVec 32) : Fin 2 → Nat :=
  let c0_i32_96 : BitVec 32 := 0#32
  let v227 : BitVec 32 := Scalar.subi v226 c0_i32_96
  let c1_i32_98 : BitVec 32 := 1#32
  let v229 : BitVec 32 := Scalar.divsi v227 c1_i32_98
  let v230 : BitVec 32 := Scalar.muli v229 c1_i32_98
  let v231 : BitVec 32 := Scalar.addi c0_i32_96 v230
  let c1_i32_100 : BitVec 32 := 1#32
  let arg10 : BitVec 32 := Scf.iv v231 c1_i32_100 k0_t2
  let c16_i32_104 : BitVec 32 := 16#32
  let v241 : BitVec 32 := Scalar.muli arg10 c16_i32_104
  let v242 : BitVec 32 := Scalar.addi v241 c0_i32_105
  let v243 : Index := Scalar.indexCast v242
  let c0_106 : Index := 0#32
  ![v243.toNat, 0]
def k0_off41 (v245 : BitVec 32) : Fin 3 → Nat :=
  let v321 : Index := Scalar.indexCast v245
  let c0_139 : Index := 0#32
  let c0_140 : Index := 0#32
  ![v321.toNat, 0, 0]

def k0_off42 (v250 : BitVec 32) : Fin 3 → Nat :=
  let v324 : Index := Scalar.indexCast v250
  let c0_141 : Index := 0#32
  let c0_142 : Index := 0#32
  ![v324.toNat, 0, 0]

def k0_off43 (v255 : BitVec 32) : Fin 3 → Nat :=
  let v327 : Index := Scalar.indexCast v255
  let c0_143 : Index := 0#32
  let c0_144 : Index := 0#32
  ![v327.toNat, 0, 0]

def k0_off44 (v260 : BitVec 32) : Fin 3 → Nat :=
  let v330 : Index := Scalar.indexCast v260
  let c0_145 : Index := 0#32
  let c0_146 : Index := 0#32
  ![v330.toNat, 0, 0]

def k0_off45 (v265 : BitVec 32) : Fin 3 → Nat :=
  let v333 : Index := Scalar.indexCast v265
  let c0_147 : Index := 0#32
  let c0_148 : Index := 0#32
  ![v333.toNat, 0, 0]

def k0_off46 (v270 : BitVec 32) : Fin 3 → Nat :=
  let v336 : Index := Scalar.indexCast v270
  let c0_149 : Index := 0#32
  let c0_150 : Index := 0#32
  ![v336.toNat, 0, 0]

def k0_off47 (v275 : BitVec 32) : Fin 3 → Nat :=
  let v339 : Index := Scalar.indexCast v275
  let c0_151 : Index := 0#32
  let c0_152 : Index := 0#32
  ![v339.toNat, 0, 0]

def k0_off48 (v280 : BitVec 32) : Fin 3 → Nat :=
  let v342 : Index := Scalar.indexCast v280
  let c0_153 : Index := 0#32
  let c0_154 : Index := 0#32
  ![v342.toNat, 0, 0]

def k0_off49 (v285 : BitVec 32) : Fin 3 → Nat :=
  let v345 : Index := Scalar.indexCast v285
  let c0_155 : Index := 0#32
  let c0_156 : Index := 0#32
  ![v345.toNat, 0, 0]

def k0_off50 (v290 : BitVec 32) : Fin 3 → Nat :=
  let v348 : Index := Scalar.indexCast v290
  let c0_157 : Index := 0#32
  let c0_158 : Index := 0#32
  ![v348.toNat, 0, 0]

def k0_off51 (v295 : BitVec 32) : Fin 3 → Nat :=
  let v351 : Index := Scalar.indexCast v295
  let c0_159 : Index := 0#32
  let c0_160 : Index := 0#32
  ![v351.toNat, 0, 0]

def k0_off52 (v300 : BitVec 32) : Fin 3 → Nat :=
  let v354 : Index := Scalar.indexCast v300
  let c0_161 : Index := 0#32
  let c0_162 : Index := 0#32
  ![v354.toNat, 0, 0]

def k0_off53 (v305 : BitVec 32) : Fin 3 → Nat :=
  let v357 : Index := Scalar.indexCast v305
  let c0_163 : Index := 0#32
  let c0_164 : Index := 0#32
  ![v357.toNat, 0, 0]

def k0_off54 (v310 : BitVec 32) : Fin 3 → Nat :=
  let v360 : Index := Scalar.indexCast v310
  let c0_165 : Index := 0#32
  let c0_166 : Index := 0#32
  ![v360.toNat, 0, 0]

def k0_off55 (v315 : BitVec 32) : Fin 3 → Nat :=
  let v363 : Index := Scalar.indexCast v315
  let c0_167 : Index := 0#32
  let c0_168 : Index := 0#32
  ![v363.toNat, 0, 0]

def k0_off56 (v320 : BitVec 32) : Fin 3 → Nat :=
  let v366 : Index := Scalar.indexCast v320
  let c0_169 : Index := 0#32
  let c0_170 : Index := 0#32
  ![v366.toNat, 0, 0]

def k0_off57 (v226 : BitVec 32) (k0_t2 : Fin (k0_t2_loop v226).trips) : Fin 2 → Nat :=
  let c0_i32_96 : BitVec 32 := 0#32
  let v227 : BitVec 32 := Scalar.subi v226 c0_i32_96
  let c1_i32_98 : BitVec 32 := 1#32
  let v229 : BitVec 32 := Scalar.divsi v227 c1_i32_98
  let v230 : BitVec 32 := Scalar.muli v229 c1_i32_98
  let v231 : BitVec 32 := Scalar.addi c0_i32_96 v230
  let c1_i32_100 : BitVec 32 := 1#32
  let arg10 : BitVec 32 := Scf.iv v231 c1_i32_100 k0_t2
  let c16_i32_172 : BitVec 32 := 16#32
  let v372 : BitVec 32 := Scalar.muli arg10 c16_i32_172
  let v373 : Index := Scalar.indexCast v372
  let c0_173 : Index := 0#32
  ![v373.toNat, 0]

def k0_chk1 (v226 : BitVec 32) : Prop :=
  ((k0_t1_loop v226).OK) ∧
  (∀ k0_t1 : Fin (k0_t1_loop v226).trips, ∀ a, (k0_off1 v226 k0_t1) a + S1x1.size a ≤ S392x1.size a) ∧
  (∀ k0_t1 : Fin (k0_t1_loop v226).trips, ∀ (r : Fin 16), ∀ a, (k0_off3 v226 k0_t1 (BitVec.ofNat 32 r.val)) a + S1x1.size a ≤ S392x1.size a) ∧
  (∀ k0_t1 : Fin (k0_t1_loop v226).trips, ∀ a, (k0_off20 v226 k0_t1) a + S16x1.size a ≤ S368x1.size a) ∧
  ((k0_t2_loop v226).OK) ∧
  (∀ k0_t2 : Fin (k0_t2_loop v226).trips, ∀ a, (k0_off38 v226 k0_t2) a + S1x1.size a ≤ S392x1.size a) ∧
  (∀ k0_t2 : Fin (k0_t2_loop v226).trips, ∀ (r : Fin 16), ∀ a, (k0_off40 v226 k0_t2 (BitVec.ofNat 32 r.val)) a + S1x1.size a ≤ S392x1.size a) ∧
  (∀ k0_t2 : Fin (k0_t2_loop v226).trips, ∀ a, (k0_off57 v226 k0_t2) a + S16x1.size a ≤ S368x1.size a)
theorem k0_t1_ok : ∀ (v226 : BitVec 32) (k0_hw1 : k0_chk1 v226), (k0_t1_loop v226).OK := fun v226 k0_hw1 => k0_hw1.1
theorem k0_off1_inb : ∀ (v226 : BitVec 32) (k0_hw1 : k0_chk1 v226) (k0_t1 : Fin (k0_t1_loop v226).trips), ∀ a, (k0_off1 v226 k0_t1) a + S1x1.size a ≤ S392x1.size a := fun v226 k0_hw1 k0_t1 => k0_hw1.2.1 k0_t1
theorem k0_off3_inb : ∀ (v226 : BitVec 32) (k0_hw1 : k0_chk1 v226) (k0_t1 : Fin (k0_t1_loop v226).trips), ∀ (r : Fin 16), ∀ a, (k0_off3 v226 k0_t1 (BitVec.ofNat 32 r.val)) a + S1x1.size a ≤ S392x1.size a := fun v226 k0_hw1 k0_t1 r => k0_hw1.2.2.1 k0_t1 r
theorem k0_off20_inb : ∀ (v226 : BitVec 32) (k0_hw1 : k0_chk1 v226) (k0_t1 : Fin (k0_t1_loop v226).trips), ∀ a, (k0_off20 v226 k0_t1) a + S16x1.size a ≤ S368x1.size a := fun v226 k0_hw1 k0_t1 => k0_hw1.2.2.2.1 k0_t1
theorem k0_t2_ok : ∀ (v226 : BitVec 32) (k0_hw1 : k0_chk1 v226), (k0_t2_loop v226).OK := fun v226 k0_hw1 => k0_hw1.2.2.2.2.1
theorem k0_off38_inb : ∀ (v226 : BitVec 32) (k0_hw1 : k0_chk1 v226) (k0_t2 : Fin (k0_t2_loop v226).trips), ∀ a, (k0_off38 v226 k0_t2) a + S1x1.size a ≤ S392x1.size a := fun v226 k0_hw1 k0_t2 => k0_hw1.2.2.2.2.2.1 k0_t2
theorem k0_off40_inb : ∀ (v226 : BitVec 32) (k0_hw1 : k0_chk1 v226) (k0_t2 : Fin (k0_t2_loop v226).trips), ∀ (r : Fin 16), ∀ a, (k0_off40 v226 k0_t2 (BitVec.ofNat 32 r.val)) a + S1x1.size a ≤ S392x1.size a := fun v226 k0_hw1 k0_t2 r => k0_hw1.2.2.2.2.2.2.1 k0_t2 r
theorem k0_off57_inb : ∀ (v226 : BitVec 32) (k0_hw1 : k0_chk1 v226) (k0_t2 : Fin (k0_t2_loop v226).trips), ∀ a, (k0_off57 v226 k0_t2) a + S16x1.size a ≤ S368x1.size a := fun v226 k0_hw1 k0_t2 => k0_hw1.2.2.2.2.2.2.2 k0_t2

def k0_off58 (v237 : BitVec 32) : Fin 3 → Nat :=
  let v376 : Index := Scalar.indexCast v237
  let c0_175 : Index := 0#32
  let c0_176 : Index := 0#32
  ![v376.toNat, 0, 0]

def k0_chk19 (v237 : BitVec 32) : Prop :=
  (∀ a, (k0_off39 v237) a + S1x768x900.size a ≤ S8x768x900.size a) ∧
  (∀ a, (k0_off58 v237) a + S1x1x768.size a ≤ S8x1x768.size a)
theorem k0_off39_inb : ∀ (v237 : BitVec 32) (k0_hw19 : k0_chk19 v237), ∀ a, (k0_off39 v237) a + S1x768x900.size a ≤ S8x768x900.size a := fun v237 k0_hw19 => k0_hw19.1
theorem k0_off58_inb : ∀ (v237 : BitVec 32) (k0_hw19 : k0_chk19 v237), ∀ a, (k0_off58 v237) a + S1x1x768.size a ≤ S8x1x768.size a := fun v237 k0_hw19 => k0_hw19.2

def k0_off59 (v245 : BitVec 32) : Fin 3 → Nat :=
  let v384 : Index := Scalar.indexCast v245
  let c0_177 : Index := 0#32
  let c0_178 : Index := 0#32
  ![v384.toNat, 0, 0]

def k0_chk20 (v245 : BitVec 32) : Prop :=
  (∀ a, (k0_off41 v245) a + S1x16x900.size a ≤ S128x16x900.size a) ∧
  (∀ a, (k0_off59 v245) a + S1x16x768.size a ≤ S128x16x768.size a) ∧
  (∀ (hinb : ∀ a, (k0_off59 v245) a + S1x16x768.size a ≤ S128x16x768.size a), (Rect.unit (s := S128x16x768) (k0_off59 v245) S1x16x768.size hinb).PackedRows (EltTy.packing .bf16))
theorem k0_off41_inb : ∀ (v245 : BitVec 32) (k0_hw20 : k0_chk20 v245), ∀ a, (k0_off41 v245) a + S1x16x900.size a ≤ S128x16x900.size a := fun v245 k0_hw20 => k0_hw20.1
theorem k0_off59_inb : ∀ (v245 : BitVec 32) (k0_hw20 : k0_chk20 v245), ∀ a, (k0_off59 v245) a + S1x16x768.size a ≤ S128x16x768.size a := fun v245 k0_hw20 => k0_hw20.2.1
theorem k0_off59_packedbf16 : ∀ (v245 : BitVec 32) (k0_hw20 : k0_chk20 v245), (Rect.unit (s := S128x16x768) (k0_off59 v245) S1x16x768.size (k0_off59_inb v245 k0_hw20)).PackedRows (EltTy.packing .bf16) := fun v245 k0_hw20 => k0_hw20.2.2 (k0_off59_inb v245 k0_hw20)

def k0_off60 (v250 : BitVec 32) : Fin 3 → Nat :=
  let v393 : Index := Scalar.indexCast v250
  let c0_181 : Index := 0#32
  let c0_182 : Index := 0#32
  ![v393.toNat, 0, 0]

def k0_chk21 (v250 : BitVec 32) : Prop :=
  (∀ a, (k0_off42 v250) a + S1x16x900.size a ≤ S128x16x900.size a) ∧
  (∀ a, (k0_off60 v250) a + S1x16x768.size a ≤ S128x16x768.size a) ∧
  (∀ (hinb : ∀ a, (k0_off60 v250) a + S1x16x768.size a ≤ S128x16x768.size a), (Rect.unit (s := S128x16x768) (k0_off60 v250) S1x16x768.size hinb).PackedRows (EltTy.packing .bf16))
theorem k0_off42_inb : ∀ (v250 : BitVec 32) (k0_hw21 : k0_chk21 v250), ∀ a, (k0_off42 v250) a + S1x16x900.size a ≤ S128x16x900.size a := fun v250 k0_hw21 => k0_hw21.1
theorem k0_off60_inb : ∀ (v250 : BitVec 32) (k0_hw21 : k0_chk21 v250), ∀ a, (k0_off60 v250) a + S1x16x768.size a ≤ S128x16x768.size a := fun v250 k0_hw21 => k0_hw21.2.1
theorem k0_off60_packedbf16 : ∀ (v250 : BitVec 32) (k0_hw21 : k0_chk21 v250), (Rect.unit (s := S128x16x768) (k0_off60 v250) S1x16x768.size (k0_off60_inb v250 k0_hw21)).PackedRows (EltTy.packing .bf16) := fun v250 k0_hw21 => k0_hw21.2.2 (k0_off60_inb v250 k0_hw21)

def k0_off61 (v255 : BitVec 32) : Fin 3 → Nat :=
  let v402 : Index := Scalar.indexCast v255
  let c0_185 : Index := 0#32
  let c0_186 : Index := 0#32
  ![v402.toNat, 0, 0]

def k0_chk22 (v255 : BitVec 32) : Prop :=
  (∀ a, (k0_off43 v255) a + S1x16x900.size a ≤ S128x16x900.size a) ∧
  (∀ a, (k0_off61 v255) a + S1x16x768.size a ≤ S128x16x768.size a) ∧
  (∀ (hinb : ∀ a, (k0_off61 v255) a + S1x16x768.size a ≤ S128x16x768.size a), (Rect.unit (s := S128x16x768) (k0_off61 v255) S1x16x768.size hinb).PackedRows (EltTy.packing .bf16))
theorem k0_off43_inb : ∀ (v255 : BitVec 32) (k0_hw22 : k0_chk22 v255), ∀ a, (k0_off43 v255) a + S1x16x900.size a ≤ S128x16x900.size a := fun v255 k0_hw22 => k0_hw22.1
theorem k0_off61_inb : ∀ (v255 : BitVec 32) (k0_hw22 : k0_chk22 v255), ∀ a, (k0_off61 v255) a + S1x16x768.size a ≤ S128x16x768.size a := fun v255 k0_hw22 => k0_hw22.2.1
theorem k0_off61_packedbf16 : ∀ (v255 : BitVec 32) (k0_hw22 : k0_chk22 v255), (Rect.unit (s := S128x16x768) (k0_off61 v255) S1x16x768.size (k0_off61_inb v255 k0_hw22)).PackedRows (EltTy.packing .bf16) := fun v255 k0_hw22 => k0_hw22.2.2 (k0_off61_inb v255 k0_hw22)

def k0_off62 (v260 : BitVec 32) : Fin 3 → Nat :=
  let v411 : Index := Scalar.indexCast v260
  let c0_189 : Index := 0#32
  let c0_190 : Index := 0#32
  ![v411.toNat, 0, 0]

def k0_chk23 (v260 : BitVec 32) : Prop :=
  (∀ a, (k0_off44 v260) a + S1x16x900.size a ≤ S128x16x900.size a) ∧
  (∀ a, (k0_off62 v260) a + S1x16x768.size a ≤ S128x16x768.size a) ∧
  (∀ (hinb : ∀ a, (k0_off62 v260) a + S1x16x768.size a ≤ S128x16x768.size a), (Rect.unit (s := S128x16x768) (k0_off62 v260) S1x16x768.size hinb).PackedRows (EltTy.packing .bf16))
theorem k0_off44_inb : ∀ (v260 : BitVec 32) (k0_hw23 : k0_chk23 v260), ∀ a, (k0_off44 v260) a + S1x16x900.size a ≤ S128x16x900.size a := fun v260 k0_hw23 => k0_hw23.1
theorem k0_off62_inb : ∀ (v260 : BitVec 32) (k0_hw23 : k0_chk23 v260), ∀ a, (k0_off62 v260) a + S1x16x768.size a ≤ S128x16x768.size a := fun v260 k0_hw23 => k0_hw23.2.1
theorem k0_off62_packedbf16 : ∀ (v260 : BitVec 32) (k0_hw23 : k0_chk23 v260), (Rect.unit (s := S128x16x768) (k0_off62 v260) S1x16x768.size (k0_off62_inb v260 k0_hw23)).PackedRows (EltTy.packing .bf16) := fun v260 k0_hw23 => k0_hw23.2.2 (k0_off62_inb v260 k0_hw23)

def k0_off63 (v265 : BitVec 32) : Fin 3 → Nat :=
  let v420 : Index := Scalar.indexCast v265
  let c0_193 : Index := 0#32
  let c0_194 : Index := 0#32
  ![v420.toNat, 0, 0]

def k0_chk24 (v265 : BitVec 32) : Prop :=
  (∀ a, (k0_off45 v265) a + S1x16x900.size a ≤ S128x16x900.size a) ∧
  (∀ a, (k0_off63 v265) a + S1x16x768.size a ≤ S128x16x768.size a) ∧
  (∀ (hinb : ∀ a, (k0_off63 v265) a + S1x16x768.size a ≤ S128x16x768.size a), (Rect.unit (s := S128x16x768) (k0_off63 v265) S1x16x768.size hinb).PackedRows (EltTy.packing .bf16))
theorem k0_off45_inb : ∀ (v265 : BitVec 32) (k0_hw24 : k0_chk24 v265), ∀ a, (k0_off45 v265) a + S1x16x900.size a ≤ S128x16x900.size a := fun v265 k0_hw24 => k0_hw24.1
theorem k0_off63_inb : ∀ (v265 : BitVec 32) (k0_hw24 : k0_chk24 v265), ∀ a, (k0_off63 v265) a + S1x16x768.size a ≤ S128x16x768.size a := fun v265 k0_hw24 => k0_hw24.2.1
theorem k0_off63_packedbf16 : ∀ (v265 : BitVec 32) (k0_hw24 : k0_chk24 v265), (Rect.unit (s := S128x16x768) (k0_off63 v265) S1x16x768.size (k0_off63_inb v265 k0_hw24)).PackedRows (EltTy.packing .bf16) := fun v265 k0_hw24 => k0_hw24.2.2 (k0_off63_inb v265 k0_hw24)

def k0_off64 (v270 : BitVec 32) : Fin 3 → Nat :=
  let v429 : Index := Scalar.indexCast v270
  let c0_197 : Index := 0#32
  let c0_198 : Index := 0#32
  ![v429.toNat, 0, 0]

def k0_chk25 (v270 : BitVec 32) : Prop :=
  (∀ a, (k0_off46 v270) a + S1x16x900.size a ≤ S128x16x900.size a) ∧
  (∀ a, (k0_off64 v270) a + S1x16x768.size a ≤ S128x16x768.size a) ∧
  (∀ (hinb : ∀ a, (k0_off64 v270) a + S1x16x768.size a ≤ S128x16x768.size a), (Rect.unit (s := S128x16x768) (k0_off64 v270) S1x16x768.size hinb).PackedRows (EltTy.packing .bf16))
theorem k0_off46_inb : ∀ (v270 : BitVec 32) (k0_hw25 : k0_chk25 v270), ∀ a, (k0_off46 v270) a + S1x16x900.size a ≤ S128x16x900.size a := fun v270 k0_hw25 => k0_hw25.1
theorem k0_off64_inb : ∀ (v270 : BitVec 32) (k0_hw25 : k0_chk25 v270), ∀ a, (k0_off64 v270) a + S1x16x768.size a ≤ S128x16x768.size a := fun v270 k0_hw25 => k0_hw25.2.1
theorem k0_off64_packedbf16 : ∀ (v270 : BitVec 32) (k0_hw25 : k0_chk25 v270), (Rect.unit (s := S128x16x768) (k0_off64 v270) S1x16x768.size (k0_off64_inb v270 k0_hw25)).PackedRows (EltTy.packing .bf16) := fun v270 k0_hw25 => k0_hw25.2.2 (k0_off64_inb v270 k0_hw25)

def k0_off65 (v275 : BitVec 32) : Fin 3 → Nat :=
  let v438 : Index := Scalar.indexCast v275
  let c0_201 : Index := 0#32
  let c0_202 : Index := 0#32
  ![v438.toNat, 0, 0]

def k0_chk26 (v275 : BitVec 32) : Prop :=
  (∀ a, (k0_off47 v275) a + S1x16x900.size a ≤ S128x16x900.size a) ∧
  (∀ a, (k0_off65 v275) a + S1x16x768.size a ≤ S128x16x768.size a) ∧
  (∀ (hinb : ∀ a, (k0_off65 v275) a + S1x16x768.size a ≤ S128x16x768.size a), (Rect.unit (s := S128x16x768) (k0_off65 v275) S1x16x768.size hinb).PackedRows (EltTy.packing .bf16))
theorem k0_off47_inb : ∀ (v275 : BitVec 32) (k0_hw26 : k0_chk26 v275), ∀ a, (k0_off47 v275) a + S1x16x900.size a ≤ S128x16x900.size a := fun v275 k0_hw26 => k0_hw26.1
theorem k0_off65_inb : ∀ (v275 : BitVec 32) (k0_hw26 : k0_chk26 v275), ∀ a, (k0_off65 v275) a + S1x16x768.size a ≤ S128x16x768.size a := fun v275 k0_hw26 => k0_hw26.2.1
theorem k0_off65_packedbf16 : ∀ (v275 : BitVec 32) (k0_hw26 : k0_chk26 v275), (Rect.unit (s := S128x16x768) (k0_off65 v275) S1x16x768.size (k0_off65_inb v275 k0_hw26)).PackedRows (EltTy.packing .bf16) := fun v275 k0_hw26 => k0_hw26.2.2 (k0_off65_inb v275 k0_hw26)

def k0_off66 (v280 : BitVec 32) : Fin 3 → Nat :=
  let v447 : Index := Scalar.indexCast v280
  let c0_205 : Index := 0#32
  let c0_206 : Index := 0#32
  ![v447.toNat, 0, 0]

def k0_chk27 (v280 : BitVec 32) : Prop :=
  (∀ a, (k0_off48 v280) a + S1x16x900.size a ≤ S128x16x900.size a) ∧
  (∀ a, (k0_off66 v280) a + S1x16x768.size a ≤ S128x16x768.size a) ∧
  (∀ (hinb : ∀ a, (k0_off66 v280) a + S1x16x768.size a ≤ S128x16x768.size a), (Rect.unit (s := S128x16x768) (k0_off66 v280) S1x16x768.size hinb).PackedRows (EltTy.packing .bf16))
theorem k0_off48_inb : ∀ (v280 : BitVec 32) (k0_hw27 : k0_chk27 v280), ∀ a, (k0_off48 v280) a + S1x16x900.size a ≤ S128x16x900.size a := fun v280 k0_hw27 => k0_hw27.1
theorem k0_off66_inb : ∀ (v280 : BitVec 32) (k0_hw27 : k0_chk27 v280), ∀ a, (k0_off66 v280) a + S1x16x768.size a ≤ S128x16x768.size a := fun v280 k0_hw27 => k0_hw27.2.1
theorem k0_off66_packedbf16 : ∀ (v280 : BitVec 32) (k0_hw27 : k0_chk27 v280), (Rect.unit (s := S128x16x768) (k0_off66 v280) S1x16x768.size (k0_off66_inb v280 k0_hw27)).PackedRows (EltTy.packing .bf16) := fun v280 k0_hw27 => k0_hw27.2.2 (k0_off66_inb v280 k0_hw27)

def k0_off67 (v285 : BitVec 32) : Fin 3 → Nat :=
  let v456 : Index := Scalar.indexCast v285
  let c0_209 : Index := 0#32
  let c0_210 : Index := 0#32
  ![v456.toNat, 0, 0]

def k0_chk28 (v285 : BitVec 32) : Prop :=
  (∀ a, (k0_off49 v285) a + S1x16x900.size a ≤ S128x16x900.size a) ∧
  (∀ a, (k0_off67 v285) a + S1x16x768.size a ≤ S128x16x768.size a) ∧
  (∀ (hinb : ∀ a, (k0_off67 v285) a + S1x16x768.size a ≤ S128x16x768.size a), (Rect.unit (s := S128x16x768) (k0_off67 v285) S1x16x768.size hinb).PackedRows (EltTy.packing .bf16))
theorem k0_off49_inb : ∀ (v285 : BitVec 32) (k0_hw28 : k0_chk28 v285), ∀ a, (k0_off49 v285) a + S1x16x900.size a ≤ S128x16x900.size a := fun v285 k0_hw28 => k0_hw28.1
theorem k0_off67_inb : ∀ (v285 : BitVec 32) (k0_hw28 : k0_chk28 v285), ∀ a, (k0_off67 v285) a + S1x16x768.size a ≤ S128x16x768.size a := fun v285 k0_hw28 => k0_hw28.2.1
theorem k0_off67_packedbf16 : ∀ (v285 : BitVec 32) (k0_hw28 : k0_chk28 v285), (Rect.unit (s := S128x16x768) (k0_off67 v285) S1x16x768.size (k0_off67_inb v285 k0_hw28)).PackedRows (EltTy.packing .bf16) := fun v285 k0_hw28 => k0_hw28.2.2 (k0_off67_inb v285 k0_hw28)

def k0_off68 (v290 : BitVec 32) : Fin 3 → Nat :=
  let v465 : Index := Scalar.indexCast v290
  let c0_213 : Index := 0#32
  let c0_214 : Index := 0#32
  ![v465.toNat, 0, 0]

def k0_chk29 (v290 : BitVec 32) : Prop :=
  (∀ a, (k0_off50 v290) a + S1x16x900.size a ≤ S128x16x900.size a) ∧
  (∀ a, (k0_off68 v290) a + S1x16x768.size a ≤ S128x16x768.size a) ∧
  (∀ (hinb : ∀ a, (k0_off68 v290) a + S1x16x768.size a ≤ S128x16x768.size a), (Rect.unit (s := S128x16x768) (k0_off68 v290) S1x16x768.size hinb).PackedRows (EltTy.packing .bf16))
theorem k0_off50_inb : ∀ (v290 : BitVec 32) (k0_hw29 : k0_chk29 v290), ∀ a, (k0_off50 v290) a + S1x16x900.size a ≤ S128x16x900.size a := fun v290 k0_hw29 => k0_hw29.1
theorem k0_off68_inb : ∀ (v290 : BitVec 32) (k0_hw29 : k0_chk29 v290), ∀ a, (k0_off68 v290) a + S1x16x768.size a ≤ S128x16x768.size a := fun v290 k0_hw29 => k0_hw29.2.1
theorem k0_off68_packedbf16 : ∀ (v290 : BitVec 32) (k0_hw29 : k0_chk29 v290), (Rect.unit (s := S128x16x768) (k0_off68 v290) S1x16x768.size (k0_off68_inb v290 k0_hw29)).PackedRows (EltTy.packing .bf16) := fun v290 k0_hw29 => k0_hw29.2.2 (k0_off68_inb v290 k0_hw29)

def k0_off69 (v295 : BitVec 32) : Fin 3 → Nat :=
  let v474 : Index := Scalar.indexCast v295
  let c0_217 : Index := 0#32
  let c0_218 : Index := 0#32
  ![v474.toNat, 0, 0]

def k0_chk30 (v295 : BitVec 32) : Prop :=
  (∀ a, (k0_off51 v295) a + S1x16x900.size a ≤ S128x16x900.size a) ∧
  (∀ a, (k0_off69 v295) a + S1x16x768.size a ≤ S128x16x768.size a) ∧
  (∀ (hinb : ∀ a, (k0_off69 v295) a + S1x16x768.size a ≤ S128x16x768.size a), (Rect.unit (s := S128x16x768) (k0_off69 v295) S1x16x768.size hinb).PackedRows (EltTy.packing .bf16))
theorem k0_off51_inb : ∀ (v295 : BitVec 32) (k0_hw30 : k0_chk30 v295), ∀ a, (k0_off51 v295) a + S1x16x900.size a ≤ S128x16x900.size a := fun v295 k0_hw30 => k0_hw30.1
theorem k0_off69_inb : ∀ (v295 : BitVec 32) (k0_hw30 : k0_chk30 v295), ∀ a, (k0_off69 v295) a + S1x16x768.size a ≤ S128x16x768.size a := fun v295 k0_hw30 => k0_hw30.2.1
theorem k0_off69_packedbf16 : ∀ (v295 : BitVec 32) (k0_hw30 : k0_chk30 v295), (Rect.unit (s := S128x16x768) (k0_off69 v295) S1x16x768.size (k0_off69_inb v295 k0_hw30)).PackedRows (EltTy.packing .bf16) := fun v295 k0_hw30 => k0_hw30.2.2 (k0_off69_inb v295 k0_hw30)

def k0_off70 (v300 : BitVec 32) : Fin 3 → Nat :=
  let v483 : Index := Scalar.indexCast v300
  let c0_221 : Index := 0#32
  let c0_222 : Index := 0#32
  ![v483.toNat, 0, 0]

def k0_chk31 (v300 : BitVec 32) : Prop :=
  (∀ a, (k0_off52 v300) a + S1x16x900.size a ≤ S128x16x900.size a) ∧
  (∀ a, (k0_off70 v300) a + S1x16x768.size a ≤ S128x16x768.size a) ∧
  (∀ (hinb : ∀ a, (k0_off70 v300) a + S1x16x768.size a ≤ S128x16x768.size a), (Rect.unit (s := S128x16x768) (k0_off70 v300) S1x16x768.size hinb).PackedRows (EltTy.packing .bf16))
theorem k0_off52_inb : ∀ (v300 : BitVec 32) (k0_hw31 : k0_chk31 v300), ∀ a, (k0_off52 v300) a + S1x16x900.size a ≤ S128x16x900.size a := fun v300 k0_hw31 => k0_hw31.1
theorem k0_off70_inb : ∀ (v300 : BitVec 32) (k0_hw31 : k0_chk31 v300), ∀ a, (k0_off70 v300) a + S1x16x768.size a ≤ S128x16x768.size a := fun v300 k0_hw31 => k0_hw31.2.1
theorem k0_off70_packedbf16 : ∀ (v300 : BitVec 32) (k0_hw31 : k0_chk31 v300), (Rect.unit (s := S128x16x768) (k0_off70 v300) S1x16x768.size (k0_off70_inb v300 k0_hw31)).PackedRows (EltTy.packing .bf16) := fun v300 k0_hw31 => k0_hw31.2.2 (k0_off70_inb v300 k0_hw31)

def k0_off71 (v305 : BitVec 32) : Fin 3 → Nat :=
  let v492 : Index := Scalar.indexCast v305
  let c0_225 : Index := 0#32
  let c0_226 : Index := 0#32
  ![v492.toNat, 0, 0]

def k0_chk32 (v305 : BitVec 32) : Prop :=
  (∀ a, (k0_off53 v305) a + S1x16x900.size a ≤ S128x16x900.size a) ∧
  (∀ a, (k0_off71 v305) a + S1x16x768.size a ≤ S128x16x768.size a) ∧
  (∀ (hinb : ∀ a, (k0_off71 v305) a + S1x16x768.size a ≤ S128x16x768.size a), (Rect.unit (s := S128x16x768) (k0_off71 v305) S1x16x768.size hinb).PackedRows (EltTy.packing .bf16))
theorem k0_off53_inb : ∀ (v305 : BitVec 32) (k0_hw32 : k0_chk32 v305), ∀ a, (k0_off53 v305) a + S1x16x900.size a ≤ S128x16x900.size a := fun v305 k0_hw32 => k0_hw32.1
theorem k0_off71_inb : ∀ (v305 : BitVec 32) (k0_hw32 : k0_chk32 v305), ∀ a, (k0_off71 v305) a + S1x16x768.size a ≤ S128x16x768.size a := fun v305 k0_hw32 => k0_hw32.2.1
theorem k0_off71_packedbf16 : ∀ (v305 : BitVec 32) (k0_hw32 : k0_chk32 v305), (Rect.unit (s := S128x16x768) (k0_off71 v305) S1x16x768.size (k0_off71_inb v305 k0_hw32)).PackedRows (EltTy.packing .bf16) := fun v305 k0_hw32 => k0_hw32.2.2 (k0_off71_inb v305 k0_hw32)

def k0_off72 (v310 : BitVec 32) : Fin 3 → Nat :=
  let v501 : Index := Scalar.indexCast v310
  let c0_229 : Index := 0#32
  let c0_230 : Index := 0#32
  ![v501.toNat, 0, 0]

def k0_chk33 (v310 : BitVec 32) : Prop :=
  (∀ a, (k0_off54 v310) a + S1x16x900.size a ≤ S128x16x900.size a) ∧
  (∀ a, (k0_off72 v310) a + S1x16x768.size a ≤ S128x16x768.size a) ∧
  (∀ (hinb : ∀ a, (k0_off72 v310) a + S1x16x768.size a ≤ S128x16x768.size a), (Rect.unit (s := S128x16x768) (k0_off72 v310) S1x16x768.size hinb).PackedRows (EltTy.packing .bf16))
theorem k0_off54_inb : ∀ (v310 : BitVec 32) (k0_hw33 : k0_chk33 v310), ∀ a, (k0_off54 v310) a + S1x16x900.size a ≤ S128x16x900.size a := fun v310 k0_hw33 => k0_hw33.1
theorem k0_off72_inb : ∀ (v310 : BitVec 32) (k0_hw33 : k0_chk33 v310), ∀ a, (k0_off72 v310) a + S1x16x768.size a ≤ S128x16x768.size a := fun v310 k0_hw33 => k0_hw33.2.1
theorem k0_off72_packedbf16 : ∀ (v310 : BitVec 32) (k0_hw33 : k0_chk33 v310), (Rect.unit (s := S128x16x768) (k0_off72 v310) S1x16x768.size (k0_off72_inb v310 k0_hw33)).PackedRows (EltTy.packing .bf16) := fun v310 k0_hw33 => k0_hw33.2.2 (k0_off72_inb v310 k0_hw33)

def k0_off73 (v315 : BitVec 32) : Fin 3 → Nat :=
  let v510 : Index := Scalar.indexCast v315
  let c0_233 : Index := 0#32
  let c0_234 : Index := 0#32
  ![v510.toNat, 0, 0]

def k0_chk34 (v315 : BitVec 32) : Prop :=
  (∀ a, (k0_off55 v315) a + S1x16x900.size a ≤ S128x16x900.size a) ∧
  (∀ a, (k0_off73 v315) a + S1x16x768.size a ≤ S128x16x768.size a) ∧
  (∀ (hinb : ∀ a, (k0_off73 v315) a + S1x16x768.size a ≤ S128x16x768.size a), (Rect.unit (s := S128x16x768) (k0_off73 v315) S1x16x768.size hinb).PackedRows (EltTy.packing .bf16))
theorem k0_off55_inb : ∀ (v315 : BitVec 32) (k0_hw34 : k0_chk34 v315), ∀ a, (k0_off55 v315) a + S1x16x900.size a ≤ S128x16x900.size a := fun v315 k0_hw34 => k0_hw34.1
theorem k0_off73_inb : ∀ (v315 : BitVec 32) (k0_hw34 : k0_chk34 v315), ∀ a, (k0_off73 v315) a + S1x16x768.size a ≤ S128x16x768.size a := fun v315 k0_hw34 => k0_hw34.2.1
theorem k0_off73_packedbf16 : ∀ (v315 : BitVec 32) (k0_hw34 : k0_chk34 v315), (Rect.unit (s := S128x16x768) (k0_off73 v315) S1x16x768.size (k0_off73_inb v315 k0_hw34)).PackedRows (EltTy.packing .bf16) := fun v315 k0_hw34 => k0_hw34.2.2 (k0_off73_inb v315 k0_hw34)

def k0_off74 (v320 : BitVec 32) : Fin 3 → Nat :=
  let v519 : Index := Scalar.indexCast v320
  let c0_237 : Index := 0#32
  let c0_238 : Index := 0#32
  ![v519.toNat, 0, 0]

def k0_chk35 (v320 : BitVec 32) : Prop :=
  (∀ a, (k0_off56 v320) a + S1x16x900.size a ≤ S128x16x900.size a) ∧
  (∀ a, (k0_off74 v320) a + S1x16x768.size a ≤ S128x16x768.size a) ∧
  (∀ (hinb : ∀ a, (k0_off74 v320) a + S1x16x768.size a ≤ S128x16x768.size a), (Rect.unit (s := S128x16x768) (k0_off74 v320) S1x16x768.size hinb).PackedRows (EltTy.packing .bf16))
theorem k0_off56_inb : ∀ (v320 : BitVec 32) (k0_hw35 : k0_chk35 v320), ∀ a, (k0_off56 v320) a + S1x16x900.size a ≤ S128x16x900.size a := fun v320 k0_hw35 => k0_hw35.1
theorem k0_off74_inb : ∀ (v320 : BitVec 32) (k0_hw35 : k0_chk35 v320), ∀ a, (k0_off74 v320) a + S1x16x768.size a ≤ S128x16x768.size a := fun v320 k0_hw35 => k0_hw35.2.1
theorem k0_off74_packedbf16 : ∀ (v320 : BitVec 32) (k0_hw35 : k0_chk35 v320), (Rect.unit (s := S128x16x768) (k0_off74 v320) S1x16x768.size (k0_off74_inb v320 k0_hw35)).PackedRows (EltTy.packing .bf16) := fun v320 k0_hw35 => k0_hw35.2.2 (k0_off74_inb v320 k0_hw35)

abbrev stage0_0 : Fin 1 → Memref sig .tc .vmem S128x16x900 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768x900 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x16x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S128x16x900 : Shape := ⟨3, ![128, 16, 900]⟩
abbrev S128x8 : Shape := ⟨2, ![128, 8]⟩
abbrev S8x768x900 : Shape := ⟨3, ![8, 768, 900]⟩
abbrev S8x768 : Shape := ⟨2, ![8, 768]⟩
abbrev S_ : Shape := ⟨0, ![]⟩
abbrev S128 : Shape := ⟨1, ![128]⟩
abbrev S128x1 : Shape := ⟨2, ![128, 1]⟩
abbrev S128x2 : Shape := ⟨2, ![128, 2]⟩
abbrev S128x2x1 : Shape := ⟨3, ![128, 2, 1]⟩
abbrev S128x2x2 : Shape := ⟨3, ![128, 2, 2]⟩
abbrev S8x768x128x16 : Shape := ⟨4, ![8, 768, 128, 16]⟩
abbrev S8x128x16x768 : Shape := ⟨4, ![8, 128, 16, 768]⟩
abbrev S8x1x1x768 : Shape := ⟨4, ![8, 1, 1, 768]⟩
abbrev S128x16x768 : Shape := ⟨3, ![128, 16, 768]⟩

abbrev nBuf : Space → Nat
  | .hbm => 68
  | .vmem => 0
  | .smem => 0
  | _ => 0

abbrev bufTy : (tb : Table) → Fin (tcTables nBuf tb) → BufTy
  | .hbm, ⟨0, _⟩ => ⟨S128x16x900, .f32⟩
  | .hbm, ⟨1, _⟩ => ⟨S128x8, .f32⟩
  | .hbm, ⟨2, _⟩ => ⟨S128x8, .i32⟩
  | .hbm, ⟨3, _⟩ => ⟨S8x768x900, .f32⟩
  | .hbm, ⟨4, _⟩ => ⟨S8x768, .f32⟩
  | .hbm, ⟨5, _⟩ => ⟨S_, .i32⟩
  | .hbm, ⟨6, _⟩ => ⟨S128x8, .i32⟩
  | .hbm, ⟨7, _⟩ => ⟨S128x8, .i1⟩
  | .hbm, ⟨8, _⟩ => ⟨S128x8, .f32⟩
  | .hbm, ⟨9, _⟩ => ⟨S_, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128x1, .f32⟩
  | .hbm, ⟨15, _⟩ => ⟨S128x8, .f32⟩
  | .hbm, ⟨16, _⟩ => ⟨S128x8, .f32⟩
  | .hbm, ⟨17, _⟩ => ⟨S128x8, .f32⟩
  | .hbm, ⟨18, _⟩ => ⟨S_, .f32⟩
  | .hbm, ⟨19, _⟩ => ⟨S128, .f32⟩
  | .hbm, ⟨20, _⟩ => ⟨S128x1, .f32⟩
  | .hbm, ⟨21, _⟩ => ⟨S128x8, .f32⟩
  | .hbm, ⟨22, _⟩ => ⟨S128x8, .f32⟩
  | .hbm, ⟨23, _⟩ => ⟨S128x8, .f32⟩
  | .hbm, ⟨24, _⟩ => ⟨S128x2, .f32⟩
  | .hbm, ⟨25, _⟩ => ⟨S128x2, .i32⟩
  | .hbm, ⟨26, _⟩ => ⟨S128, .i32⟩
  | .hbm, ⟨27, _⟩ => ⟨S128x1, .i32⟩
  | .hbm, ⟨28, _⟩ => ⟨S_, .i1⟩
  | .hbm, ⟨29, _⟩ => ⟨S128x8, .i1⟩
  | .hbm, ⟨30, _⟩ => ⟨S_, .i32⟩
  | .hbm, ⟨31, _⟩ => ⟨S128x1, .i32⟩
  | .hbm, ⟨32, _⟩ => ⟨S128x1, .i1⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x1, .i32⟩
  | .hbm, ⟨37, _⟩ => ⟨S_, .i32⟩
  | .hbm, ⟨38, _⟩ => ⟨S128x2, .i32⟩
  | .hbm, ⟨39, _⟩ => ⟨S128x2, .i1⟩
  | .hbm, ⟨40, _⟩ => ⟨S_, .i32⟩
  | .hbm, ⟨41, _⟩ => ⟨S128x2, .i32⟩
  | .hbm, ⟨42, _⟩ => ⟨S128x2, .i32⟩
  | .hbm, ⟨43, _⟩ => ⟨S128x2, .i32⟩
  | .hbm, ⟨44, _⟩ => ⟨S128x2, .i32⟩
  | .hbm, ⟨45, _⟩ => ⟨S128x2x1, .i32⟩
  | .hbm, ⟨46, _⟩ => ⟨S128x2x1, .i32⟩
  | .hbm, ⟨47, _⟩ => ⟨S128x2x2, .i32⟩
  | .hbm, ⟨48, _⟩ => ⟨S_, .i1⟩
  | .hbm, ⟨49, _⟩ => ⟨S128x2, .i1⟩
  | .hbm, ⟨50, _⟩ => ⟨S128x8, .i1⟩
  | .hbm, ⟨51, _⟩ => ⟨S128x8, .f32⟩
  | .hbm, ⟨52, _⟩ => ⟨S128x8, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128x1, .f32⟩
  | .hbm, ⟨59, _⟩ => ⟨S128x8, .f32⟩
  | .hbm, ⟨60, _⟩ => ⟨S128x8, .f32⟩
  | .hbm, ⟨61, _⟩ => ⟨S8x768x128x16, .f32⟩
  | .hbm, ⟨62, _⟩ => ⟨S8x128x16x768, .f32⟩
  | .hbm, ⟨63, _⟩ => ⟨S8x1x1x768, .f32⟩
  | .hbm, ⟨64, _⟩ => ⟨S8x128x16x768, .f32⟩
  | .hbm, ⟨65, _⟩ => ⟨S8x128x16x768, .f32⟩
  | .hbm, ⟨66, _⟩ => ⟨S128x16x768, .f32⟩
  | .hbm, ⟨67, _⟩ => ⟨S128x16x768, .bf16⟩
  | _, _ => ⟨S128x16x900, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_values : Ref sig .tc := ⟨.hbm, 24, rfl⟩
abbrev main_indices : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Proof.Trip.lean ====
/-
  One trip of the kernel's loop. It reads an expert and sixteen source rows from the integer column, and with these in
  range its run ends, touches only the output, and leaves there what `tripRun` names.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Exec
public import Idealize.ShloMosaic.Lib.Tactic

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The variants of the run: none is used, the program has no label. -/
abbrev 𝒱₀ : Variants := Variants.none

/-- The contents of the buffer a memory reference names. -/
abbrev Bf {sp : Space} {S : Shape} {e : EltTy} (c : Dev nD) (M : Memref sig .tc sp S e) : Type :=
  Buf (Elt F) (M.view.loc (c : Thread nD τ))

/-- The buffer of the memory reference `M`, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- An expert below 8 keeps the loads of the weights and of the bias within their arrays. -/
theorem chk2_of {w : BitVec 32} (h : w.toNat < 8) : k0_chk2 w := by
  constructor <;> intro a <;> fin_cases a <;> simp [k0_off2, k0_off21, Scalar.indexCast, S1x768x900, S8x768x900, S1x1x768, S8x1x768] <;> omega

/-- A source row below 128 keeps the load of the data and the update of the output within their arrays. -/
theorem chk3_of {w : BitVec 32} (h : w.toNat < 128) : k0_chk3 w := by
  refine ⟨?_, ?_, ?_⟩
  · intro a; fin_cases a <;> simp [k0_off4, Scalar.indexCast, S1x16x900, S128x16x900] <;> omega
  · intro a; fin_cases a <;> simp [k0_off22, Scalar.indexCast, S1x16x768, S128x16x768] <;> omega
  · intro hinb
    exact .inr ⟨by decide, rfl, .inl ⟨⟨0, rfl⟩, ⟨8, rfl⟩⟩⟩

/-- The same for slot 1 of the block. -/
theorem chk4_of {w : BitVec 32} (h : w.toNat < 128) : k0_chk4 w := chk3_of h
/-- The same for slot 2 of the block. -/
theorem chk5_of {w : BitVec 32} (h : w.toNat < 128) : k0_chk5 w := chk3_of h
/-- The same for slot 3 of the block. -/
theorem chk6_of {w : BitVec 32} (h : w.toNat < 128) : k0_chk6 w := chk3_of h
/-- The same for slot 4 of the block. -/
theorem chk7_of {w : BitVec 32} (h : w.toNat < 128) : k0_chk7 w := chk3_of h
/-- The same for slot 5 of the block. -/
theorem chk8_of {w : BitVec 32} (h : w.toNat < 128) : k0_chk8 w := chk3_of h
/-- The same for slot 6 of the block. -/
theorem chk9_of {w : BitVec 32} (h : w.toNat < 128) : k0_chk9 w := chk3_of h
/-- The same for slot 7 of the block. -/
theorem chk10_of {w : BitVec 32} (h : w.toNat < 128) : k0_chk10 w := chk3_of h
/-- The same for slot 8 of the block. -/
theorem chk11_of {w : BitVec 32} (h : w.toNat < 128) : k0_chk11 w := chk3_of h
/-- The same for slot 9 of the block. -/
theorem chk12_of {w : BitVec 32} (h : w.toNat < 128) : k0_chk12 w := chk3_of h
/-- The same for slot 10 of the block. -/
theorem chk13_of {w : BitVec 32} (h : w.toNat < 128) : k0_chk13 w := chk3_of h
/-- The same for slot 11 of the block. -/
theorem chk14_of {w : BitVec 32} (h : w.toNat < 128) : k0_chk14 w := chk3_of h
/-- The same for slot 12 of the block. -/
theorem chk15_of {w : BitVec 32} (h : w.toNat < 128) : k0_chk15 w := chk3_of h
/-- The same for slot 13 of the block. -/
theorem chk16_of {w : BitVec 32} (h : w.toNat < 128) : k0_chk16 w := chk3_of h
/-- The same for slot 14 of the block. -/
theorem chk17_of {w : BitVec 32} (h : w.toNat < 128) : k0_chk17 w := chk3_of h
/-- The same for slot 15 of the block. -/
theorem chk18_of {w : BitVec 32} (h : w.toNat < 128) : k0_chk18 w := chk3_of h

set_option maxHeartbeats 1000000 in
noncomputable def tripRun (c : Dev nD) (arg0 : Memref sig .tc .vmem S128x16x900 .f32) (harg0 : arg0.IsWhole) (arg1 : Memref sig .tc .vmem S128x8 .f32) (harg1 : arg1.IsWhole) (arg2 : Memref sig .tc .vmem S128x8 .i32) (harg2 : arg2.IsWhole) (arg3 : Memref sig .tc .vmem S8x768x900 .f32) (harg3 : arg3.IsWhole) (arg4 : Memref sig .tc .vmem S8x1x768 .f32) (harg4 : arg4.IsWhole) (arg5 : Memref sig .tc .vmem S128x16x768 .bf16) (harg5 : arg5.IsWhole) (arg6 : Memref sig .tc .vmem S392x1 .i32) (harg6 : arg6.IsWhole) (arg7 : Memref sig .tc .vmem S368x1 .f32) (harg7 : arg7.IsWhole) (arg8 : Memref sig .tc .vmem S128x2 .i32) (harg8 : arg8.IsWhole) (arg9 : Memref sig .tc .vmem S8x768x900 .bf16) (harg9 : arg9.IsWhole) (v174 : FVec F S256x16 .f32) (v226 : BitVec 32) (k0_hw1 : k0_chk1 v226) (c0_i32_96 : BitVec 32)
    (f0 : Bf (F := F) c arg0) (f4 : Bf (F := F) c arg4) (f5 : Bf (F := F) c arg5) (f6 : Bf (F := F) c arg6) (f7 : Bf (F := F) c arg7) (f9 : Bf (F := F) c arg9)
    (k : Fin (k0_t1_loop v226).trips)
    (he : (extractAt ![0, 0] (arg6.view.readAt (Elt F) (Rect.unit (s := S392x1) (k0_off1 v226 k) S1x1.size (k0_off1_inb v226 k0_hw1 k)).toLoadRect f6) inpos_S1x1_p0_0 : BitVec 32).toNat < 8)
    (hs : ∀ j : Fin 16, (extractAt ![0, 0] (arg6.view.readAt (Elt F) (Rect.unit (s := S392x1) (k0_off3 v226 k (BitVec.ofNat 32 j.val)) S1x1.size (k0_off3_inb v226 k0_hw1 k j)).toLoadRect f6) inpos_S1x1_p0_0 : BitVec 32).toNat < 128) :
    { W : Bf (F := F) c arg5 // ∀ acc : BitVec 32,
    iprop(pt c arg0 f0 ∗ pt c arg4 f4 ∗ pt c arg5 f5 ∗ pt c arg6 f6 ∗ pt c arg7 f7 ∗ pt c arg9 f9)
      ⊢ wp frame (wpE (defs₀ (F := F)) 𝒱₀ (c : Thread nD τ) none) Set.univ
          (k0_t1_body (F := F) arg0 harg0 arg1 harg1 arg2 harg2 arg3 harg3 arg4 harg4 arg5 harg5 arg6 harg6 arg7 harg7 arg8 harg8 arg9 harg9 v174 v226 k0_hw1 c0_i32_96 k acc)
          (fun _ => iprop(pt c arg0 f0 ∗ pt c arg4 f4 ∗ pt c arg5 W ∗ pt c arg6 f6 ∗ pt c arg7 f7 ∗ pt c arg9 f9)) } := by
  refine ⟨?_, fun acc => ?run⟩
  case run =>
    unfold k0_t1_body
    iintro ⟨H0, H4, H5, H6, H7, H9⟩
    sl_exec (disch := first | ((with_reducible refine chk2_of ?_); exact he) | ((with_reducible refine chk3_of ?_); exact hs 0) | ((with_reducible refine chk4_of ?_); exact hs 1) | ((with_reducible refine chk5_of ?_); exact hs 2) | ((with_reducible refine chk6_of ?_); exact hs 3) | ((with_reducible refine chk7_of ?_); exact hs 4) | ((with_reducible refine chk8_of ?_); exact hs 5) | ((with_reducible refine chk9_of ?_); exact hs 6) | ((with_reducible refine chk10_of ?_); exact hs 7) | ((with_reducible refine chk11_of ?_); exact hs 8) | ((with_reducible refine chk12_of ?_); exact hs 9) | ((with_reducible refine chk13_of ?_); exact hs 10) | ((with_reducible refine chk14_of ?_); exact hs 11) | ((with_reducible refine chk15_of ?_); exact hs 12) | ((with_reducible refine chk16_of ?_); exact hs 13) | ((with_reducible refine chk17_of ?_); exact hs 14) | ((with_reducible refine chk18_of ?_); exact hs 15))
    rw [wp_ret]; imodintro
    isplitl [H0]; · iexact H0
    isplitl [H4]; · iexact H4
    isplitl [H5]; · iexact H5
    isplitl [H6]; · iexact H6
    isplitl [H7]; · iexact H7
    iexact H9

end Cert.Proof.KernelIdeal

end
-- ==== Proof.Rows.lean ====
/-
  What one trip leaves in the output: sixteen read-modify-writes, each adding sixteen rows of the block's result to the
  rows of one batch entry.
-/
module

public import proofs.«01_k».proof.Proof.Trip
public import Idealize.ShloMosaic.Lib.VecWindow
public import Idealize.ShloMosaic.Lib.WritesUnit
public import Idealize.ShloMosaic.Lib.ValueIdx
public import Idealize.ShloMosaic.Lib.Pipeline.Value

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.ValueIdx

/-- The output with rows `16 * j, …, 16 * j + 15` of the block result `y` added to the sixteen rows of batch entry `w`. -/
def addRow (w : BitVec 32) (y : S256x768.Idx → EReal) (j : ℕ) (hj : j < 16) (X : S128x16x768.Idx → EReal) : S128x16x768.Idx → EReal :=
  fun i => if (i 0).val = w.toNat then X i + y (ix2 ⟨16 * j + (i 1).val, by have : (i 1).val < 16 := (i 1).isLt; omega⟩ (i 2)) else X i

/-- One read-modify-write of the loop's body: the sixteen rows of one batch entry are loaded, the rows of the block's
result are added and the sum is stored where it was loaded from. -/
theorem read_step {κ : Kind} {sp : Space} (v : View sig κ sp S128x16x768 .bf16) (f : v.ty.Contents (Elt Ideal)) (L : List (View.Piece (Elt Ideal) S128x16x768 .bf16))
    (w : BitVec 32) (off : Fin 3 → ℕ) (hoff : off = ![w.toNat, 0, 0]) (inb : ∀ a, off a + S1x16x768.size a ≤ S128x16x768.size a)
    (y : FVec Ideal S256x768 .bf16) (j : ℕ) (hj : j < 16) (o2 : Fin 2 → ℕ) (ho2 : o2 = ![16 * j, 0]) (hsl : S256x768.Slices o2 S16x768)
    (h1 : S1x16x768.ShapeCasts S16x768) (h2 : S16x768.ShapeCasts S1x16x768) :
    v.read (Elt Ideal) (v.writes (Elt Ideal) f (⟨Rect.unit (s := S128x16x768) off S1x16x768.size inb,
        shapeCast S1x16x768 (addf (shapeCast S16x768 (v.readAt (Elt Ideal) (Rect.unit (s := S128x16x768) off S1x16x768.size inb).toLoadRect (v.writes (Elt Ideal) f L)) h1 : FVec Ideal S16x768 .bf16)
          (extractStridedSlice S16x768 o2 y hsl)) h2⟩ :: L))
      = addRow w y j hj (v.read (Elt Ideal) (v.writes (Elt Ideal) f L)) := by
  subst hoff ho2
  funext i
  rw [View.read_writes_cons_unit v f inb _ L i rfl, View.readAt_unit v _ inb rfl inb]
  set X := v.read (Elt Ideal) (v.writes (Elt Ideal) f L) with hX
  have hi0 := (i 0).isLt
  have hi1 : (i 1).val < 16 := (i 1).isLt
  have hi2 : (i 2).val < 768 := (i 2).isLt
  unfold addRow
  by_cases hw : (i 0).val = w.toNat
  · have hm : ∀ a : Fin 3, (![w.toNat, 0, 0] : Fin 3 → ℕ) a ≤ (i a).val ∧ (i a).val < (![w.toNat, 0, 0] : Fin 3 → ℕ) a + S1x16x768.size a := by
      intro a; fin_cases a
      · exact ⟨hw.ge, hw.le.trans_lt (Nat.lt_succ_self _)⟩
      · exact ⟨Nat.zero_le _, by simpa [S1x16x768] using hi1⟩
      · exact ⟨Nat.zero_le _, by simpa [S1x16x768] using hi2⟩
    rw [dif_pos hm, if_pos hw]
    refine (shapeCast_addUnit_apply ![16, 768] _ h2 _).trans ?_
    refine congrArg₂ (· + ·) ((shapeCast_dropUnit_apply ![16, 768] _ h1 _).trans ?_) ?_
    · refine congrArg X (funext fun a => Fin.ext ?_)
      fin_cases a
      · show w.toNat + 1 * 0 = (i 0).val
        omega
      · show 0 + 1 * ((i 1).val - 0) = (i 1).val
        omega
      · show 0 + 1 * ((i 2).val - 0) = (i 2).val
        omega
    · refine congrArg y (funext fun a => Fin.ext ?_)
      fin_cases a
      · show 16 * j + ((i 1).val - 0) = 16 * j + (i 1).val
        omega
      · show 0 + ((i 2).val - 0) = (i 2).val
        omega
  · rw [if_neg hw, dif_neg]
    intro hm
    have h0 : w.toNat ≤ (i 0).val ∧ (i 0).val < w.toNat + 1 := hm 0
    omega

/-- The output after the first `n` read-modify-writes of a trip: `sb j` is the batch entry of the block's slot `j`. -/
def steps (sb : Fin 16 → BitVec 32) (y : S256x768.Idx → EReal) (X : S128x16x768.Idx → EReal) : (n : ℕ) → n ≤ 16 → S128x16x768.Idx → EReal
  | 0, _ => X
  | n + 1, h => addRow (sb ⟨n, h⟩) y n h (steps sb y X n (Nat.le_of_succ_le h))

/-- All sixteen read-modify-writes of a trip, written out. -/
theorem steps_all (sb : Fin 16 → BitVec 32) (y : S256x768.Idx → EReal) (X : S128x16x768.Idx → EReal) :
    steps sb y X 16 le_rfl = (addRow (sb 15) y 15 (by decide) (addRow (sb 14) y 14 (by decide) (addRow (sb 13) y 13 (by decide) (addRow (sb 12) y 12 (by decide) (addRow (sb 11) y 11 (by decide) (addRow (sb 10) y 10 (by decide) (addRow (sb 9) y 9 (by decide) (addRow (sb 8) y 8 (by decide) (addRow (sb 7) y 7 (by decide) (addRow (sb 6) y 6 (by decide) (addRow (sb 5) y 5 (by decide) (addRow (sb 4) y 4 (by decide) (addRow (sb 3) y 3 (by decide) (addRow (sb 2) y 2 (by decide) (addRow (sb 1) y 1 (by decide) (addRow (sb 0) y 0 (by decide) X)))))))))))))))) := rfl

/-- The word the trip reads for slot `j` of its block: the batch entry the slot holds. -/
abbrev srcWord (c : Dev nD) (arg6 : Memref sig .tc .vmem S392x1 .i32) (v226 : BitVec 32) (k0_hw1 : k0_chk1 v226) (f6 : Bf (F := Ideal) c arg6) (k : Fin (k0_t1_loop v226).trips) (j : Fin 16) : BitVec 32 :=
  extractAt ![0, 0] (arg6.view.readAt (Elt Ideal) (Rect.unit (s := S392x1) (k0_off3 v226 k (BitVec.ofNat 32 j.val)) S1x1.size (k0_off3_inb v226 k0_hw1 k j)).toLoadRect f6) inpos_S1x1_p0_0

/-- The word the trip reads for its block: the expert of the block. -/
abbrev expWord (c : Dev nD) (arg6 : Memref sig .tc .vmem S392x1 .i32) (v226 : BitVec 32) (k0_hw1 : k0_chk1 v226) (f6 : Bf (F := Ideal) c arg6) (k : Fin (k0_t1_loop v226).trips) : BitVec 32 :=
  extractAt ![0, 0] (arg6.view.readAt (Elt Ideal) (Rect.unit (s := S392x1) (k0_off1 v226 k) S1x1.size (k0_off1_inb v226 k0_hw1 k)).toLoadRect f6) inpos_S1x1_p0_0

set_option maxHeartbeats 1000000 in
/-- What one trip leaves in the output: sixteen read-modify-writes of the rows of the block's result. -/
theorem tripRun_read (c : Dev nD) (arg0 : Memref sig .tc .vmem S128x16x900 .f32) (harg0 : arg0.IsWhole) (arg1 : Memref sig .tc .vmem S128x8 .f32) (harg1 : arg1.IsWhole) (arg2 : Memref sig .tc .vmem S128x8 .i32) (harg2 : arg2.IsWhole) (arg3 : Memref sig .tc .vmem S8x768x900 .f32) (harg3 : arg3.IsWhole) (arg4 : Memref sig .tc .vmem S8x1x768 .f32) (harg4 : arg4.IsWhole) (arg5 : Memref sig .tc .vmem S128x16x768 .bf16) (harg5 : arg5.IsWhole) (arg6 : Memref sig .tc .vmem S392x1 .i32) (harg6 : arg6.IsWhole) (arg7 : Memref sig .tc .vmem S368x1 .f32) (harg7 : arg7.IsWhole) (arg8 : Memref sig .tc .vmem S128x2 .i32) (harg8 : arg8.IsWhole) (arg9 : Memref sig .tc .vmem S8x768x900 .bf16) (harg9 : arg9.IsWhole) (v174 : FVec Ideal S256x16 .f32) (v226 : BitVec 32) (k0_hw1 : k0_chk1 v226) (c0_i32_96 : BitVec 32)
    (f0 : Bf (F := Ideal) c arg0) (f4 : Bf (F := Ideal) c arg4) (f5 : Bf (F := Ideal) c arg5) (f6 : Bf (F := Ideal) c arg6) (f7 : Bf (F := Ideal) c arg7) (f9 : Bf (F := Ideal) c arg9)
    (k : Fin (k0_t1_loop v226).trips)
    (he : (extractAt ![0, 0] (arg6.view.readAt (Elt Ideal) (Rect.unit (s := S392x1) (k0_off1 v226 k) S1x1.size (k0_off1_inb v226 k0_hw1 k)).toLoadRect f6) inpos_S1x1_p0_0 : BitVec 32).toNat < 8)
    (hs : ∀ j : Fin 16, (extractAt ![0, 0] (arg6.view.readAt (Elt Ideal) (Rect.unit (s := S392x1) (k0_off3 v226 k (BitVec.ofNat 32 j.val)) S1x1.size (k0_off3_inb v226 k0_hw1 k j)).toLoadRect f6) inpos_S1x1_p0_0 : BitVec 32).toNat < 128) :
    arg5.view.read (Elt Ideal) (tripRun c arg0 harg0 arg1 harg1 arg2 harg2 arg3 harg3 arg4 harg4 arg5 harg5 arg6 harg6 arg7 harg7 arg8 harg8 arg9 harg9 v174 v226 k0_hw1 c0_i32_96 f0 f4 f5 f6 f7 f9 k he hs).1
      = steps (srcWord c arg6 v226 k0_hw1 f6 k)
          (k0_pay9 v174 (k0_pay3 (arg9.view.readAt (Elt Ideal) (Rect.unit (s := S8x768x900) (k0_off2 (expWord c arg6 v226 k0_hw1 f6 k)) S1x768x900.size (chk2_of he).1).toLoadRect f9))
            (k0_pay8 (k0_pay4 (arg0.view.readAt (Elt Ideal) (Rect.unit (s := S128x16x900) (k0_off4 (srcWord c arg6 v226 k0_hw1 f6 k 0)) S1x16x900.size (chk3_of (hs 0)).1).toLoadRect f0)) (k0_pay5 (arg0.view.readAt (Elt Ideal) (Rect.unit (s := S128x16x900) (k0_off4 (srcWord c arg6 v226 k0_hw1 f6 k 1)) S1x16x900.size (chk3_of (hs 1)).1).toLoadRect f0)) (k0_pay6 (arg0.view.readAt (Elt Ideal) (Rect.unit (s := S128x16x900) (k0_off4 (srcWord c arg6 v226 k0_hw1 f6 k 2)) S1x16x900.size (chk3_of (hs 2)).1).toLoadRect f0)) (k0_pay7 (arg0.view.readAt (Elt Ideal) (Rect.unit (s := S128x16x900) (k0_off4 (srcWord c arg6 v226 k0_hw1 f6 k 3)) S1x16x900.size (chk3_of (hs 3)).1).toLoadRect f0)) (arg0.view.readAt (Elt Ideal) (Rect.unit (s := S128x16x900) (k0_off4 (srcWord c arg6 v226 k0_hw1 f6 k 4)) S1x16x900.size (chk3_of (hs 4)).1).toLoadRect f0) (arg0.view.readAt (Elt Ideal) (Rect.unit (s := S128x16x900) (k0_off4 (srcWord c arg6 v226 k0_hw1 f6 k 5)) S1x16x900.size (chk3_of (hs 5)).1).toLoadRect f0) (arg0.view.readAt (Elt Ideal) (Rect.unit (s := S128x16x900) (k0_off4 (srcWord c arg6 v226 k0_hw1 f6 k 6)) S1x16x900.size (chk3_of (hs 6)).1).toLoadRect f0) (arg0.view.readAt (Elt Ideal) (Rect.unit (s := S128x16x900) (k0_off4 (srcWord c arg6 v226 k0_hw1 f6 k 7)) S1x16x900.size (chk3_of (hs 7)).1).toLoadRect f0) (arg0.view.readAt (Elt Ideal) (Rect.unit (s := S128x16x900) (k0_off4 (srcWord c arg6 v226 k0_hw1 f6 k 8)) S1x16x900.size (chk3_of (hs 8)).1).toLoadRect f0) (arg0.view.readAt (Elt Ideal) (Rect.unit (s := S128x16x900) (k0_off4 (srcWord c arg6 v226 k0_hw1 f6 k 9)) S1x16x900.size (chk3_of (hs 9)).1).toLoadRect f0) (arg0.view.readAt (Elt Ideal) (Rect.unit (s := S128x16x900) (k0_off4 (srcWord c arg6 v226 k0_hw1 f6 k 10)) S1x16x900.size (chk3_of (hs 10)).1).toLoadRect f0) (arg0.view.readAt (Elt Ideal) (Rect.unit (s := S128x16x900) (k0_off4 (srcWord c arg6 v226 k0_hw1 f6 k 11)) S1x16x900.size (chk3_of (hs 11)).1).toLoadRect f0) (arg0.view.readAt (Elt Ideal) (Rect.unit (s := S128x16x900) (k0_off4 (srcWord c arg6 v226 k0_hw1 f6 k 12)) S1x16x900.size (chk3_of (hs 12)).1).toLoadRect f0) (arg0.view.readAt (Elt Ideal) (Rect.unit (s := S128x16x900) (k0_off4 (srcWord c arg6 v226 k0_hw1 f6 k 13)) S1x16x900.size (chk3_of (hs 13)).1).toLoadRect f0) (arg0.view.readAt (Elt Ideal) (Rect.unit (s := S128x16x900) (k0_off4 (srcWord c arg6 v226 k0_hw1 f6 k 14)) S1x16x900.size (chk3_of (hs 14)).1).toLoadRect f0) (arg0.view.readAt (Elt Ideal) (Rect.unit (s := S128x16x900) (k0_off4 (srcWord c arg6 v226 k0_hw1 f6 k 15)) S1x16x900.size (chk3_of (hs 15)).1).toLoadRect f0))
            (constant S256x768 .f32 0x00000000#32)
            (arg7.view.readAt (Elt Ideal) (Rect.unit (s := S368x1) (k0_off20 v226 k) S16x1.size (k0_off20_inb v226 k0_hw1 k)).toLoadRect f7)
            (arg4.view.readAt (Elt Ideal) (Rect.unit (s := S8x1x768) (k0_off21 (expWord c arg6 v226 k0_hw1 f6 k)) S1x1x768.size (chk2_of he).2).toLoadRect f4))
          (arg5.view.read (Elt Ideal) f5) 16 le_rfl := by
  have hy : (tripRun.sl.r_1 (F := Ideal) c arg0 arg4 arg6 arg7 arg9 v174 v226 k0_hw1 f0 f4 f6 f7 f9 k he hs)
      =(k0_pay9 v174 (k0_pay3 (arg9.view.readAt (Elt Ideal) (Rect.unit (s := S8x768x900) (k0_off2 (expWord c arg6 v226 k0_hw1 f6 k)) S1x768x900.size (chk2_of he).1).toLoadRect f9))
            (k0_pay8 (k0_pay4 (arg0.view.readAt (Elt Ideal) (Rect.unit (s := S128x16x900) (k0_off4 (srcWord c arg6 v226 k0_hw1 f6 k 0)) S1x16x900.size (chk3_of (hs 0)).1).toLoadRect f0)) (k0_pay5 (arg0.view.readAt (Elt Ideal) (Rect.unit (s := S128x16x900) (k0_off4 (srcWord c arg6 v226 k0_hw1 f6 k 1)) S1x16x900.size (chk3_of (hs 1)).1).toLoadRect f0)) (k0_pay6 (arg0.view.readAt (Elt Ideal) (Rect.unit (s := S128x16x900) (k0_off4 (srcWord c arg6 v226 k0_hw1 f6 k 2)) S1x16x900.size (chk3_of (hs 2)).1).toLoadRect f0)) (k0_pay7 (arg0.view.readAt (Elt Ideal) (Rect.unit (s := S128x16x900) (k0_off4 (srcWord c arg6 v226 k0_hw1 f6 k 3)) S1x16x900.size (chk3_of (hs 3)).1).toLoadRect f0)) (arg0.view.readAt (Elt Ideal) (Rect.unit (s := S128x16x900) (k0_off4 (srcWord c arg6 v226 k0_hw1 f6 k 4)) S1x16x900.size (chk3_of (hs 4)).1).toLoadRect f0) (arg0.view.readAt (Elt Ideal) (Rect.unit (s := S128x16x900) (k0_off4 (srcWord c arg6 v226 k0_hw1 f6 k 5)) S1x16x900.size (chk3_of (hs 5)).1).toLoadRect f0) (arg0.view.readAt (Elt Ideal) (Rect.unit (s := S128x16x900) (k0_off4 (srcWord c arg6 v226 k0_hw1 f6 k 6)) S1x16x900.size (chk3_of (hs 6)).1).toLoadRect f0) (arg0.view.readAt (Elt Ideal) (Rect.unit (s := S128x16x900) (k0_off4 (srcWord c arg6 v226 k0_hw1 f6 k 7)) S1x16x900.size (chk3_of (hs 7)).1).toLoadRect f0) (arg0.view.readAt (Elt Ideal) (Rect.unit (s := S128x16x900) (k0_off4 (srcWord c arg6 v226 k0_hw1 f6 k 8)) S1x16x900.size (chk3_of (hs 8)).1).toLoadRect f0) (arg0.view.readAt (Elt Ideal) (Rect.unit (s := S128x16x900) (k0_off4 (srcWord c arg6 v226 k0_hw1 f6 k 9)) S1x16x900.size (chk3_of (hs 9)).1).toLoadRect f0) (arg0.view.readAt (Elt Ideal) (Rect.unit (s := S128x16x900) (k0_off4 (srcWord c arg6 v226 k0_hw1 f6 k 10)) S1x16x900.size (chk3_of (hs 10)).1).toLoadRect f0) (arg0.view.readAt (Elt Ideal) (Rect.unit (s := S128x16x900) (k0_off4 (srcWord c arg6 v226 k0_hw1 f6 k 11)) S1x16x900.size (chk3_of (hs 11)).1).toLoadRect f0) (arg0.view.readAt (Elt Ideal) (Rect.unit (s := S128x16x900) (k0_off4 (srcWord c arg6 v226 k0_hw1 f6 k 12)) S1x16x900.size (chk3_of (hs 12)).1).toLoadRect f0) (arg0.view.readAt (Elt Ideal) (Rect.unit (s := S128x16x900) (k0_off4 (srcWord c arg6 v226 k0_hw1 f6 k 13)) S1x16x900.size (chk3_of (hs 13)).1).toLoadRect f0) (arg0.view.readAt (Elt Ideal) (Rect.unit (s := S128x16x900) (k0_off4 (srcWord c arg6 v226 k0_hw1 f6 k 14)) S1x16x900.size (chk3_of (hs 14)).1).toLoadRect f0) (arg0.view.readAt (Elt Ideal) (Rect.unit (s := S128x16x900) (k0_off4 (srcWord c arg6 v226 k0_hw1 f6 k 15)) S1x16x900.size (chk3_of (hs 15)).1).toLoadRect f0))
            (constant S256x768 .f32 0x00000000#32)
            (arg7.view.readAt (Elt Ideal) (Rect.unit (s := S368x1) (k0_off20 v226 k) S16x1.size (k0_off20_inb v226 k0_hw1 k)).toLoadRect f7)
            (arg4.view.readAt (Elt Ideal) (Rect.unit (s := S8x1x768) (k0_off21 (expWord c arg6 v226 k0_hw1 f6 k)) S1x1x768.size (chk2_of he).2).toLoadRect f4)) := rfl
  rw [← hy]
  clear hy
  unfold tripRun
  dsimp only
  rw [steps_all]
  unfold k0_pay1 tripRun.sl.r_3 k0_pay26
  dsimp only
  refine (read_step arg5.view f5 _ (srcWord c arg6 v226 k0_hw1 f6 k 15) (k0_off37 (tripRun.sl.v320 c arg6 v226 k0_hw1 f6 k)) rfl _
    (tripRun.sl.r_1 (F := Ideal) c arg0 arg4 arg6 arg7 arg9 v174 v226 k0_hw1 f0 f4 f6 f7 f9 k he hs) 15 (by decide) ![240, 0] rfl _ _ _).trans ?_
  congr 1
  unfold tripRun.sl.H5_15 k0_pay25
  dsimp only
  try unfold tripRun.sl.v511
  refine (read_step arg5.view f5 _ (srcWord c arg6 v226 k0_hw1 f6 k 14) (k0_off36 (tripRun.sl.v315 c arg6 v226 k0_hw1 f6 k)) rfl _
    (tripRun.sl.r_1 (F := Ideal) c arg0 arg4 arg6 arg7 arg9 v174 v226 k0_hw1 f0 f4 f6 f7 f9 k he hs) 14 (by decide) ![224, 0] rfl _ _ _).trans ?_
  congr 1
  unfold tripRun.sl.H5_14 k0_pay24
  dsimp only
  try unfold tripRun.sl.v502
  refine (read_step arg5.view f5 _ (srcWord c arg6 v226 k0_hw1 f6 k 13) (k0_off35 (tripRun.sl.v310 c arg6 v226 k0_hw1 f6 k)) rfl _
    (tripRun.sl.r_1 (F := Ideal) c arg0 arg4 arg6 arg7 arg9 v174 v226 k0_hw1 f0 f4 f6 f7 f9 k he hs) 13 (by decide) ![208, 0] rfl _ _ _).trans ?_
  congr 1
  unfold tripRun.sl.H5_13 k0_pay23
  dsimp only
  try unfold tripRun.sl.v493
  refine (read_step arg5.view f5 _ (srcWord c arg6 v226 k0_hw1 f6 k 12) (k0_off34 (tripRun.sl.v305 c arg6 v226 k0_hw1 f6 k)) rfl _
    (tripRun.sl.r_1 (F := Ideal) c arg0 arg4 arg6 arg7 arg9 v174 v226 k0_hw1 f0 f4 f6 f7 f9 k he hs) 12 (by decide) ![192, 0] rfl _ _ _).trans ?_
  congr 1
  unfold tripRun.sl.H5_12 k0_pay22 tripRun.sl.r_2 k0_pay21
  dsimp only
  try unfold tripRun.sl.v484
  refine (read_step arg5.view f5 _ (srcWord c arg6 v226 k0_hw1 f6 k 11) (k0_off33 (tripRun.sl.v300 c arg6 v226 k0_hw1 f6 k)) rfl _
    (tripRun.sl.r_1 (F := Ideal) c arg0 arg4 arg6 arg7 arg9 v174 v226 k0_hw1 f0 f4 f6 f7 f9 k he hs) 11 (by decide) ![176, 0] rfl _ _ _).trans ?_
  congr 1
  unfold tripRun.sl.H5_11 k0_pay20
  dsimp only
  try unfold tripRun.sl.v475
  refine (read_step arg5.view f5 _ (srcWord c arg6 v226 k0_hw1 f6 k 10) (k0_off32 (tripRun.sl.v295 c arg6 v226 k0_hw1 f6 k)) rfl _
    (tripRun.sl.r_1 (F := Ideal) c arg0 arg4 arg6 arg7 arg9 v174 v226 k0_hw1 f0 f4 f6 f7 f9 k he hs) 10 (by decide) ![160, 0] rfl _ _ _).trans ?_
  congr 1
  unfold tripRun.sl.H5_10 k0_pay19
  dsimp only
  try unfold tripRun.sl.v466
  refine (read_step arg5.view f5 _ (srcWord c arg6 v226 k0_hw1 f6 k 9) (k0_off31 (tripRun.sl.v290 c arg6 v226 k0_hw1 f6 k)) rfl _
    (tripRun.sl.r_1 (F := Ideal) c arg0 arg4 arg6 arg7 arg9 v174 v226 k0_hw1 f0 f4 f6 f7 f9 k he hs) 9 (by decide) ![144, 0] rfl _ _ _).trans ?_
  congr 1
  unfold tripRun.sl.H5_9 k0_pay18
  dsimp only
  try unfold tripRun.sl.v457
  refine (read_step arg5.view f5 _ (srcWord c arg6 v226 k0_hw1 f6 k 8) (k0_off30 (tripRun.sl.v285 c arg6 v226 k0_hw1 f6 k)) rfl _
    (tripRun.sl.r_1 (F := Ideal) c arg0 arg4 arg6 arg7 arg9 v174 v226 k0_hw1 f0 f4 f6 f7 f9 k he hs) 8 (by decide) ![128, 0] rfl _ _ _).trans ?_
  congr 1
  unfold tripRun.sl.H5_8 k0_pay17
  dsimp only
  try unfold tripRun.sl.v448
  refine (read_step arg5.view f5 _ (srcWord c arg6 v226 k0_hw1 f6 k 7) (k0_off29 (tripRun.sl.v280 c arg6 v226 k0_hw1 f6 k)) rfl _
    (tripRun.sl.r_1 (F := Ideal) c arg0 arg4 arg6 arg7 arg9 v174 v226 k0_hw1 f0 f4 f6 f7 f9 k he hs) 7 (by decide) ![112, 0] rfl _ _ _).trans ?_
  congr 1
  unfold tripRun.sl.H5_7 k0_pay16
  dsimp only
  try unfold tripRun.sl.v439
  refine (read_step arg5.view f5 _ (srcWord c arg6 v226 k0_hw1 f6 k 6) (k0_off28 (tripRun.sl.v275 c arg6 v226 k0_hw1 f6 k)) rfl _
    (tripRun.sl.r_1 (F := Ideal) c arg0 arg4 arg6 arg7 arg9 v174 v226 k0_hw1 f0 f4 f6 f7 f9 k he hs) 6 (by decide) ![96, 0] rfl _ _ _).trans ?_
  congr 1
  unfold tripRun.sl.H5_6 k0_pay15
  dsimp only
  try unfold tripRun.sl.v430
  refine (read_step arg5.view f5 _ (srcWord c arg6 v226 k0_hw1 f6 k 5) (k0_off27 (tripRun.sl.v270 c arg6 v226 k0_hw1 f6 k)) rfl _
    (tripRun.sl.r_1 (F := Ideal) c arg0 arg4 arg6 arg7 arg9 v174 v226 k0_hw1 f0 f4 f6 f7 f9 k he hs) 5 (by decide) ![80, 0] rfl _ _ _).trans ?_
  congr 1
  unfold tripRun.sl.H5_5 k0_pay14
  dsimp only
  try unfold tripRun.sl.v421
  refine (read_step arg5.view f5 _ (srcWord c arg6 v226 k0_hw1 f6 k 4) (k0_off26 (tripRun.sl.v265 c arg6 v226 k0_hw1 f6 k)) rfl _
    (tripRun.sl.r_1 (F := Ideal) c arg0 arg4 arg6 arg7 arg9 v174 v226 k0_hw1 f0 f4 f6 f7 f9 k he hs) 4 (by decide) ![64, 0] rfl _ _ _).trans ?_
  congr 1
  unfold tripRun.sl.H5_4 k0_pay13
  dsimp only
  try unfold tripRun.sl.v412
  refine (read_step arg5.view f5 _ (srcWord c arg6 v226 k0_hw1 f6 k 3) (k0_off25 (tripRun.sl.v260 c arg6 v226 k0_hw1 f6 k)) rfl _
    (tripRun.sl.r_1 (F := Ideal) c arg0 arg4 arg6 arg7 arg9 v174 v226 k0_hw1 f0 f4 f6 f7 f9 k he hs) 3 (by decide) ![48, 0] rfl _ _ _).trans ?_
  congr 1
  unfold tripRun.sl.H5_3 k0_pay12
  dsimp only
  try unfold tripRun.sl.v403
  refine (read_step arg5.view f5 _ (srcWord c arg6 v226 k0_hw1 f6 k 2) (k0_off24 (tripRun.sl.v255 c arg6 v226 k0_hw1 f6 k)) rfl _
    (tripRun.sl.r_1 (F := Ideal) c arg0 arg4 arg6 arg7 arg9 v174 v226 k0_hw1 f0 f4 f6 f7 f9 k he hs) 2 (by decide) ![32, 0] rfl _ _ _).trans ?_
  congr 1
  unfold tripRun.sl.H5_2 k0_pay11
  dsimp only
  try unfold tripRun.sl.v394
  refine (read_step arg5.view f5 _ (srcWord c arg6 v226 k0_hw1 f6 k 1) (k0_off23 (tripRun.sl.v250 c arg6 v226 k0_hw1 f6 k)) rfl _
    (tripRun.sl.r_1 (F := Ideal) c arg0 arg4 arg6 arg7 arg9 v174 v226 k0_hw1 f0 f4 f6 f7 f9 k he hs) 1 (by decide) ![16, 0] rfl _ _ _).trans ?_
  congr 1
  unfold tripRun.sl.H5_1 k0_pay10
  dsimp only
  try unfold tripRun.sl.v385
  refine (read_step arg5.view f5 _ (srcWord c arg6 v226 k0_hw1 f6 k 0) (k0_off22 (tripRun.sl.v245 c arg6 v226 k0_hw1 f6 k)) rfl _
    (tripRun.sl.r_1 (F := Ideal) c arg0 arg4 arg6 arg7 arg9 v174 v226 k0_hw1 f0 f4 f6 f7 f9 k he hs) 0 (by decide) ![0, 0] rfl _ _ _).trans ?_
  congr 1

end Cert.Proof.KernelIdeal

end
-- ==== Proof.Loop.lean ====
/-
  The loop over the blocks. With every word it reads in range, it runs one trip per block, and after the first `n` blocks
  the output holds `outAfter … n`.
-/
module

public import proofs.«01_k».proof.Proof.Rows

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The result of block `k`: the rows of its sixteen batch entries, times the expert's weights, plus the expert's bias,
times the gates of the slots. -/
def blockY (c : Dev nD) (arg0 : Memref sig .tc .vmem S128x16x900 .f32) (arg4 : Memref sig .tc .vmem S8x1x768 .f32) (arg6 : Memref sig .tc .vmem S392x1 .i32) (arg7 : Memref sig .tc .vmem S368x1 .f32) (arg9 : Memref sig .tc .vmem S8x768x900 .bf16) (v174 : FVec Ideal S256x16 .f32) (v226 : BitVec 32) (k0_hw1 : k0_chk1 v226)
    (f0 : Bf (F := Ideal) c arg0) (f4 : Bf (F := Ideal) c arg4) (f6 : Bf (F := Ideal) c arg6) (f7 : Bf (F := Ideal) c arg7) (f9 : Bf (F := Ideal) c arg9) (k : Fin (k0_t1_loop v226).trips)
    (he : (expWord c arg6 v226 k0_hw1 f6 k).toNat < 8) (hs : ∀ j : Fin 16, (srcWord c arg6 v226 k0_hw1 f6 k j).toNat < 128) : S256x768.Idx → EReal :=
  (k0_pay9 v174 (k0_pay3 (arg9.view.readAt (Elt Ideal) (Rect.unit (s := S8x768x900) (k0_off2 (expWord c arg6 v226 k0_hw1 f6 k)) S1x768x900.size (chk2_of he).1).toLoadRect f9))
            (k0_pay8 (k0_pay4 (arg0.view.readAt (Elt Ideal) (Rect.unit (s := S128x16x900) (k0_off4 (srcWord c arg6 v226 k0_hw1 f6 k 0)) S1x16x900.size (chk3_of (hs 0)).1).toLoadRect f0)) (k0_pay5 (arg0.view.readAt (Elt Ideal) (Rect.unit (s := S128x16x900) (k0_off4 (srcWord c arg6 v226 k0_hw1 f6 k 1)) S1x16x900.size (chk3_of (hs 1)).1).toLoadRect f0)) (k0_pay6 (arg0.view.readAt (Elt Ideal) (Rect.unit (s := S128x16x900) (k0_off4 (srcWord c arg6 v226 k0_hw1 f6 k 2)) S1x16x900.size (chk3_of (hs 2)).1).toLoadRect f0)) (k0_pay7 (arg0.view.readAt (Elt Ideal) (Rect.unit (s := S128x16x900) (k0_off4 (srcWord c arg6 v226 k0_hw1 f6 k 3)) S1x16x900.size (chk3_of (hs 3)).1).toLoadRect f0)) (arg0.view.readAt (Elt Ideal) (Rect.unit (s := S128x16x900) (k0_off4 (srcWord c arg6 v226 k0_hw1 f6 k 4)) S1x16x900.size (chk3_of (hs 4)).1).toLoadRect f0) (arg0.view.readAt (Elt Ideal) (Rect.unit (s := S128x16x900) (k0_off4 (srcWord c arg6 v226 k0_hw1 f6 k 5)) S1x16x900.size (chk3_of (hs 5)).1).toLoadRect f0) (arg0.view.readAt (Elt Ideal) (Rect.unit (s := S128x16x900) (k0_off4 (srcWord c arg6 v226 k0_hw1 f6 k 6)) S1x16x900.size (chk3_of (hs 6)).1).toLoadRect f0) (arg0.view.readAt (Elt Ideal) (Rect.unit (s := S128x16x900) (k0_off4 (srcWord c arg6 v226 k0_hw1 f6 k 7)) S1x16x900.size (chk3_of (hs 7)).1).toLoadRect f0) (arg0.view.readAt (Elt Ideal) (Rect.unit (s := S128x16x900) (k0_off4 (srcWord c arg6 v226 k0_hw1 f6 k 8)) S1x16x900.size (chk3_of (hs 8)).1).toLoadRect f0) (arg0.view.readAt (Elt Ideal) (Rect.unit (s := S128x16x900) (k0_off4 (srcWord c arg6 v226 k0_hw1 f6 k 9)) S1x16x900.size (chk3_of (hs 9)).1).toLoadRect f0) (arg0.view.readAt (Elt Ideal) (Rect.unit (s := S128x16x900) (k0_off4 (srcWord c arg6 v226 k0_hw1 f6 k 10)) S1x16x900.size (chk3_of (hs 10)).1).toLoadRect f0) (arg0.view.readAt (Elt Ideal) (Rect.unit (s := S128x16x900) (k0_off4 (srcWord c arg6 v226 k0_hw1 f6 k 11)) S1x16x900.size (chk3_of (hs 11)).1).toLoadRect f0) (arg0.view.readAt (Elt Ideal) (Rect.unit (s := S128x16x900) (k0_off4 (srcWord c arg6 v226 k0_hw1 f6 k 12)) S1x16x900.size (chk3_of (hs 12)).1).toLoadRect f0) (arg0.view.readAt (Elt Ideal) (Rect.unit (s := S128x16x900) (k0_off4 (srcWord c arg6 v226 k0_hw1 f6 k 13)) S1x16x900.size (chk3_of (hs 13)).1).toLoadRect f0) (arg0.view.readAt (Elt Ideal) (Rect.unit (s := S128x16x900) (k0_off4 (srcWord c arg6 v226 k0_hw1 f6 k 14)) S1x16x900.size (chk3_of (hs 14)).1).toLoadRect f0) (arg0.view.readAt (Elt Ideal) (Rect.unit (s := S128x16x900) (k0_off4 (srcWord c arg6 v226 k0_hw1 f6 k 15)) S1x16x900.size (chk3_of (hs 15)).1).toLoadRect f0))
            (constant S256x768 .f32 0x00000000#32)
            (arg7.view.readAt (Elt Ideal) (Rect.unit (s := S368x1) (k0_off20 v226 k) S16x1.size (k0_off20_inb v226 k0_hw1 k)).toLoadRect f7)
            (arg4.view.readAt (Elt Ideal) (Rect.unit (s := S8x1x768) (k0_off21 (expWord c arg6 v226 k0_hw1 f6 k)) S1x1x768.size (chk2_of he).2).toLoadRect f4))

/-- The output array after the first `n` blocks, from the array `X` before the first. -/
def outAfter (c : Dev nD) (arg0 : Memref sig .tc .vmem S128x16x900 .f32) (arg4 : Memref sig .tc .vmem S8x1x768 .f32) (arg6 : Memref sig .tc .vmem S392x1 .i32) (arg7 : Memref sig .tc .vmem S368x1 .f32) (arg9 : Memref sig .tc .vmem S8x768x900 .bf16) (v174 : FVec Ideal S256x16 .f32) (v226 : BitVec 32) (k0_hw1 : k0_chk1 v226)
    (f0 : Bf (F := Ideal) c arg0) (f4 : Bf (F := Ideal) c arg4) (f6 : Bf (F := Ideal) c arg6) (f7 : Bf (F := Ideal) c arg7) (f9 : Bf (F := Ideal) c arg9)
    (he : ∀ k, (expWord c arg6 v226 k0_hw1 f6 k).toNat < 8) (hs : ∀ k, ∀ j : Fin 16, (srcWord c arg6 v226 k0_hw1 f6 k j).toNat < 128) (X : S128x16x768.Idx → EReal) : ℕ → S128x16x768.Idx → EReal
  | 0 => X
  | n + 1 => if h : n < (k0_t1_loop v226).trips then
      steps (srcWord c arg6 v226 k0_hw1 f6 ⟨n, h⟩) (blockY c arg0 arg4 arg6 arg7 arg9 v174 v226 k0_hw1 f0 f4 f6 f7 f9 ⟨n, h⟩ (he _) (hs _))
        (outAfter c arg0 arg4 arg6 arg7 arg9 v174 v226 k0_hw1 f0 f4 f6 f7 f9 he hs X n) 16 le_rfl
    else outAfter c arg0 arg4 arg6 arg7 arg9 v174 v226 k0_hw1 f0 f4 f6 f7 f9 he hs X n

/-- The first loop runs as many trips as the number of blocks says. -/
theorem t1_trips {w : BitVec 32} (h : w.toNat ≤ 23) : (k0_t1_loop w).trips = w.toNat := by
  have key : ∀ n : Fin 24, (k0_t1_loop (BitVec.ofNat 32 n.val)).trips = (BitVec.ofNat 32 n.val).toNat := by decide +kernel
  have e : w = BitVec.ofNat 32 w.toNat := by simp
  rw [e]; exact key ⟨w.toNat, by omega⟩

/-- The second loop, which is there for the rest of the first, runs no trip. -/
theorem t2_trips {w : BitVec 32} (h : w.toNat ≤ 23) : (k0_t2_loop w).trips = 0 := by
  have key : ∀ n : Fin 24, (k0_t2_loop (BitVec.ofNat 32 n.val)).trips = 0 := by decide +kernel
  have e : w = BitVec.ofNat 32 w.toNat := by simp
  rw [e]; exact key ⟨w.toNat, by omega⟩

/-- With at most 23 blocks, all the places that the loop computes from its counter are within their arrays. -/
theorem chk1_of {w : BitVec 32} (h : w.toNat ≤ 23) : k0_chk1 w := by
  have key : ∀ n : Fin 24, k0_chk1 (BitVec.ofNat 32 n.val) := by
    unfold k0_chk1
    decide +kernel
  have e : w = BitVec.ofNat 32 w.toNat := by simp
  rw [e]; exact key ⟨w.toNat, by omega⟩

/-- The buffers the loop touches: everything but the output at fixed contents, the output at contents that read as `X`. -/
def loopInv (c : Dev nD) (arg0 : Memref sig .tc .vmem S128x16x900 .f32) (arg4 : Memref sig .tc .vmem S8x1x768 .f32) (arg5 : Memref sig .tc .vmem S128x16x768 .bf16) (arg6 : Memref sig .tc .vmem S392x1 .i32) (arg7 : Memref sig .tc .vmem S368x1 .f32) (arg9 : Memref sig .tc .vmem S8x768x900 .bf16) (f0 : Bf (F := Ideal) c arg0) (f4 : Bf (F := Ideal) c arg4) (f6 : Bf (F := Ideal) c arg6) (f7 : Bf (F := Ideal) c arg7) (f9 : Bf (F := Ideal) c arg9) (X : S128x16x768.Idx → EReal) : sProp 𝕄 :=
  iprop(pt c arg0 f0 ∗ pt c arg4 f4 ∗ (∃ f5 : Bf (F := Ideal) c arg5, pt c arg5 f5 ∗ ⌜arg5.view.read (Elt Ideal) f5 = X⌝) ∗ pt c arg6 f6 ∗ pt c arg7 f7 ∗ pt c arg9 f9)

/-- The two loops of the body: the first runs every block, the second has no trip left. -/
theorem loops_run (c : Dev nD) (arg0 : Memref sig .tc .vmem S128x16x900 .f32) (harg0 : arg0.IsWhole) (arg1 : Memref sig .tc .vmem S128x8 .f32) (harg1 : arg1.IsWhole) (arg2 : Memref sig .tc .vmem S128x8 .i32) (harg2 : arg2.IsWhole) (arg3 : Memref sig .tc .vmem S8x768x900 .f32) (harg3 : arg3.IsWhole) (arg4 : Memref sig .tc .vmem S8x1x768 .f32) (harg4 : arg4.IsWhole) (arg5 : Memref sig .tc .vmem S128x16x768 .bf16) (harg5 : arg5.IsWhole) (arg6 : Memref sig .tc .vmem S392x1 .i32) (harg6 : arg6.IsWhole) (arg7 : Memref sig .tc .vmem S368x1 .f32) (harg7 : arg7.IsWhole) (arg8 : Memref sig .tc .vmem S128x2 .i32) (harg8 : arg8.IsWhole) (arg9 : Memref sig .tc .vmem S8x768x900 .bf16) (harg9 : arg9.IsWhole) (v174 : FVec Ideal S256x16 .f32) (v226 : BitVec 32) (k0_hw1 : k0_chk1 v226) (c0_i32_96 c0_i32_97 v231 : BitVec 32) (hv : v226.toNat ≤ 23)
    (f0 : Bf (F := Ideal) c arg0) (f4 : Bf (F := Ideal) c arg4) (f6 : Bf (F := Ideal) c arg6) (f7 : Bf (F := Ideal) c arg7) (f9 : Bf (F := Ideal) c arg9) (f5 : Bf (F := Ideal) c arg5)
    (he : ∀ k, (expWord c arg6 v226 k0_hw1 f6 k).toNat < 8) (hs : ∀ k, ∀ j : Fin 16, (srcWord c arg6 v226 k0_hw1 f6 k j).toNat < 128) :
    iprop(pt c arg0 f0 ∗ pt c arg4 f4 ∗ pt c arg5 f5 ∗ pt c arg6 f6 ∗ pt c arg7 f7 ∗ pt c arg9 f9)
      ⊢ wp frame (wpE (defs₀ (F := Ideal)) 𝒱₀ (c : Thread nD τ) none) Set.univ
          (Scf.Loop.for (k0_t1_loop v226) (k0_t1_ok v226 k0_hw1) c0_i32_97 (k0_t1_body (F := Ideal) arg0 harg0 arg1 harg1 arg2 harg2 arg3 harg3 arg4 harg4 arg5 harg5 arg6 harg6 arg7 harg7 arg8 harg8 arg9 harg9 v174 v226 k0_hw1 c0_i32_96) >>= fun v232 =>
            Scf.Loop.for (k0_t2_loop v226) (k0_t2_ok v226 k0_hw1) v232 (k0_t2_body (F := Ideal) arg0 harg0 arg1 harg1 arg2 harg2 arg3 harg3 arg4 harg4 arg5 harg5 arg6 harg6 arg7 harg7 arg8 harg8 arg9 harg9 v174 v226 k0_hw1 v231) >>= fun _ => pure PUnit.unit)
          (fun _ => loopInv c arg0 arg4 arg5 arg6 arg7 arg9 f0 f4 f6 f7 f9
            (outAfter c arg0 arg4 arg6 arg7 arg9 v174 v226 k0_hw1 f0 f4 f6 f7 f9 he hs (arg5.view.read (Elt Ideal) f5) v226.toNat)) := by
  have htrip : ∀ (k : Fin (k0_t1_loop v226).trips) (acc : BitVec 32), loopInv c arg0 arg4 arg5 arg6 arg7 arg9 f0 f4 f6 f7 f9 (outAfter c arg0 arg4 arg6 arg7 arg9 v174 v226 k0_hw1 f0 f4 f6 f7 f9 he hs (arg5.view.read (Elt Ideal) f5) k.val)
      ⊢ wp frame (wpE (defs₀ (F := Ideal)) 𝒱₀ (c : Thread nD τ) none) Set.univ (k0_t1_body (F := Ideal) arg0 harg0 arg1 harg1 arg2 harg2 arg3 harg3 arg4 harg4 arg5 harg5 arg6 harg6 arg7 harg7 arg8 harg8 arg9 harg9 v174 v226 k0_hw1 c0_i32_96 k acc)
        (fun _ => loopInv c arg0 arg4 arg5 arg6 arg7 arg9 f0 f4 f6 f7 f9 (outAfter c arg0 arg4 arg6 arg7 arg9 v174 v226 k0_hw1 f0 f4 f6 f7 f9 he hs (arg5.view.read (Elt Ideal) f5) (k.val + 1))) := by
    intro k acc
    unfold loopInv
    iintro ⟨H0, H4, ⟨%f5', H5, %hX⟩, H6, H7, H9⟩
    have hstep : outAfter c arg0 arg4 arg6 arg7 arg9 v174 v226 k0_hw1 f0 f4 f6 f7 f9 he hs (arg5.view.read (Elt Ideal) f5) (k.val + 1)
        = steps (srcWord c arg6 v226 k0_hw1 f6 k) (blockY c arg0 arg4 arg6 arg7 arg9 v174 v226 k0_hw1 f0 f4 f6 f7 f9 k (he k) (hs k)) (arg5.view.read (Elt Ideal) f5') 16 le_rfl := by
      rw [hX]; exact dif_pos k.isLt
    have hread := (tripRun_read c arg0 harg0 arg1 harg1 arg2 harg2 arg3 harg3 arg4 harg4 arg5 harg5 arg6 harg6 arg7 harg7 arg8 harg8 arg9 harg9 v174 v226 k0_hw1 c0_i32_96 f0 f4 f5' f6 f7 f9 k (he k) (hs k)).trans hstep.symm
    clear hstep
    have hpost : ∀ _ : BitVec 32, iprop(pt c arg0 f0 ∗ pt c arg4 f4 ∗ pt c arg5 (tripRun (F := Ideal) c arg0 harg0 arg1 harg1 arg2 harg2 arg3 harg3 arg4 harg4 arg5 harg5 arg6 harg6 arg7 harg7 arg8 harg8 arg9 harg9 v174 v226 k0_hw1 c0_i32_96 f0 f4 f5' f6 f7 f9 k (he k) (hs k)).1 ∗ pt c arg6 f6 ∗ pt c arg7 f7 ∗ pt c arg9 f9)
        ⊢ loopInv c arg0 arg4 arg5 arg6 arg7 arg9 f0 f4 f6 f7 f9 (outAfter c arg0 arg4 arg6 arg7 arg9 v174 v226 k0_hw1 f0 f4 f6 f7 f9 he hs (arg5.view.read (Elt Ideal) f5) (k.val + 1)) := by
      intro _
      unfold loopInv
      iintro ⟨H0, H4, H5, H6, H7, H9⟩
      isplitl [H0]; · iexact H0
      isplitl [H4]; · iexact H4
      isplitl [H5]
      · iexists (tripRun (F := Ideal) c arg0 harg0 arg1 harg1 arg2 harg2 arg3 harg3 arg4 harg4 arg5 harg5 arg6 harg6 arg7 harg7 arg8 harg8 arg9 harg9 v174 v226 k0_hw1 c0_i32_96 f0 f4 f5' f6 f7 f9 k (he k) (hs k)).1
        isplitl [H5]; · iexact H5
        ipureintro; exact hread
      isplitl [H6]; · iexact H6
      isplitl [H7]; · iexact H7
      iexact H9
    have hrun := ((tripRun (F := Ideal) c arg0 harg0 arg1 harg1 arg2 harg2 arg3 harg3 arg4 harg4 arg5 harg5 arg6 harg6 arg7 harg7 arg8 harg8 arg9 harg9 v174 v226 k0_hw1 c0_i32_96 f0 f4 f5' f6 f7 f9 k (he k) (hs k)).2 acc).trans (wp_mono frame _ _ hpost)
    clear hpost hread hX
    unfold loopInv at hrun
    iapply hrun
    isplitl [H0]; · iexact H0
    isplitl [H4]; · iexact H4
    isplitl [H5]; · iexact H5
    isplitl [H6]; · iexact H6
    isplitl [H7]; · iexact H7
    iexact H9
  have hinit : iprop(pt c arg0 f0 ∗ pt c arg4 f4 ∗ pt c arg5 f5 ∗ pt c arg6 f6 ∗ pt c arg7 f7 ∗ pt c arg9 f9)
      ⊢ loopInv c arg0 arg4 arg5 arg6 arg7 arg9 f0 f4 f6 f7 f9 (outAfter c arg0 arg4 arg6 arg7 arg9 v174 v226 k0_hw1 f0 f4 f6 f7 f9 he hs (arg5.view.read (Elt Ideal) f5) 0) := by
    unfold loopInv
    iintro ⟨H0, H4, H5, H6, H7, H9⟩
    isplitl [H0]; · iexact H0
    isplitl [H4]; · iexact H4
    isplitl [H5]
    · iexists f5
      isplitl [H5]; · iexact H5
      ipureintro; exact rfl
    isplitl [H6]; · iexact H6
    isplitl [H7]; · iexact H7
    iexact H9
  have htrip2 : ∀ (k : Fin (k0_t2_loop v226).trips) (acc : BitVec 32), loopInv c arg0 arg4 arg5 arg6 arg7 arg9 f0 f4 f6 f7 f9 (outAfter c arg0 arg4 arg6 arg7 arg9 v174 v226 k0_hw1 f0 f4 f6 f7 f9 he hs (arg5.view.read (Elt Ideal) f5) v226.toNat)
      ⊢ wp frame (wpE (defs₀ (F := Ideal)) 𝒱₀ (c : Thread nD τ) none) Set.univ (k0_t2_body (F := Ideal) arg0 harg0 arg1 harg1 arg2 harg2 arg3 harg3 arg4 harg4 arg5 harg5 arg6 harg6 arg7 harg7 arg8 harg8 arg9 harg9 v174 v226 k0_hw1 v231 k acc)
        (fun _ => loopInv c arg0 arg4 arg5 arg6 arg7 arg9 f0 f4 f6 f7 f9 (outAfter c arg0 arg4 arg6 arg7 arg9 v174 v226 k0_hw1 f0 f4 f6 f7 f9 he hs (arg5.view.read (Elt Ideal) f5) v226.toNat)) := fun k _ => by
    exfalso
    have h := t2_trips hv
    have hk := k.isLt
    omega
  refine hinit.trans ?_
  iintro HI
  iapply (Scf.wp_for_bind frame (wpE (defs₀ (F := Ideal)) 𝒱₀ (c : Thread nD τ) none) Set.univ (k0_t1_loop v226).lb (k0_t1_loop v226).ub (k0_t1_loop v226).st (k0_t1_ok v226 k0_hw1) _ _
    (fun n _ => loopInv c arg0 arg4 arg5 arg6 arg7 arg9 f0 f4 f6 f7 f9 (outAfter c arg0 arg4 arg6 arg7 arg9 v174 v226 k0_hw1 f0 f4 f6 f7 f9 he hs (arg5.view.read (Elt Ideal) f5) n)) htrip) $$ [HI]
  · iexact HI
  · have ht : Scf.trips (k0_t1_loop v226).lb (k0_t1_loop v226).ub (k0_t1_loop v226).st = v226.toNat := t1_trips hv
    rw [ht]
    iintro %acc HI
    iapply (Scf.wp_for_bind frame (wpE (defs₀ (F := Ideal)) 𝒱₀ (c : Thread nD τ) none) Set.univ (k0_t2_loop v226).lb (k0_t2_loop v226).ub (k0_t2_loop v226).st (k0_t2_ok v226 k0_hw1) _ _
      (fun _ _ => loopInv c arg0 arg4 arg5 arg6 arg7 arg9 f0 f4 f6 f7 f9 (outAfter c arg0 arg4 arg6 arg7 arg9 v174 v226 k0_hw1 f0 f4 f6 f7 f9 he hs (arg5.view.read (Elt Ideal) f5) v226.toNat)) htrip2) $$ [HI]
    · iexact HI
    · iintro %acc' HI
      show _ ⊢ wp _ _ _ (Prog.ret _) _
      rw [wp_ret]
      iintro HI
      imodintro
      iexact HI

end Cert.Proof.KernelIdeal

end
-- ==== Proof.Body.lean ====
/-
  The kernel's body from its first load to its last store: the routing tables, the rounded weights, the cleared output and
  the loop, run on the contents of the argument buffers.
-/
module

public import proofs.«01_k».proof.Proof.Loop

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Column numbers of the routing tables. -/
abbrev cols : IVec S128x8 32 := iota Kind.tc S128x8 32 [1] iota_S128x8_d1_w32
/-- Where each expert's stretch of slots ends. -/
def kBound (L : Vec Ideal S128x8 .f32) (M : Vec Ideal S128x8 .i32) : FVec Ideal S8x1 .f32 := k0_pay65 (F := Ideal) cols (k0_pay56 (F := Ideal) L M) (k0_pay60 (F := Ideal) L M)
/-- The rank of each row's second choice within its expert's stretch. -/
def kRank1 (L : Vec Ideal S128x8 .f32) (M : Vec Ideal S128x8 .i32) : FVec Ideal S128x1 .f32 := k0_pay67 (F := Ideal) cols (k0_pay56 (F := Ideal) L M) (k0_pay60 (F := Ideal) L M)
/-- The slot of each row's first choice. -/
def kSlot0 (L : Vec Ideal S128x8 .f32) (M : Vec Ideal S128x8 .i32) : FVec Ideal S128x1 .f32 := k0_pay68 (F := Ideal) cols (k0_pay56 (F := Ideal) L M) (k0_pay60 (F := Ideal) L M)
/-- Where the stretch of each row's second choice starts. -/
def kOff1 (L : Vec Ideal S128x8 .f32) (M : Vec Ideal S128x8 .i32) : FVec Ideal S128x1 .f32 := k0_pay69 (F := Ideal) cols (k0_pay56 (F := Ideal) L M) (k0_pay60 (F := Ideal) L M)
/-- The source row of each slot. -/
def kSrc (L : Vec Ideal S128x8 .f32) (M : Vec Ideal S128x8 .i32) : IVec S368x1 32 := k0_pay78 (k0_pay77 (kRank1 L M) (kSlot0 L M) (kOff1 L M))
/-- The expert of each block of slots. -/
def kBe (L : Vec Ideal S128x8 .f32) (M : Vec Ideal S128x8 .i32) : IVec S23x1 32 := k0_pay79 (k0_pay72 (kBound L M))
/-- The number of blocks that hold a slot in use. -/
def kNb (L : Vec Ideal S128x8 .f32) (M : Vec Ideal S128x8 .i32) : IVec S1x1 32 := k0_pay80 (kBound L M)
/-- The gate of each slot. -/
def kGates (L : Vec Ideal S128x8 .f32) (M : Vec Ideal S128x8 .i32) : FVec Ideal S368x1 .f32 := k0_pay76 (k0_pay58 (F := Ideal) L M) (k0_pay59 (F := Ideal) L M) (kRank1 L M) (kSlot0 L M) (kOff1 L M)

/-- The three stores that fill the integer column. -/
def intPieces (L : Vec Ideal S128x8 .f32) (M : Vec Ideal S128x8 .i32) : List (View.Piece (Elt Ideal) S392x1 .i32) :=
  [⟨Rect.unit (s := S392x1) ![391, 0] S1x1.size inb_S392x1_S1x1_391_0, kNb L M⟩,
   ⟨Rect.unit (s := S392x1) ![368, 0] S23x1.size inb_S392x1_S23x1_368_0, kBe L M⟩,
   ⟨Rect.unit (s := S392x1) ![0, 0] S368x1.size inb_S392x1_S368x1_0_0, kSrc L M⟩]

/-- The eight stores that keep the rounded weights, one expert each. -/
def weightPieces (c : Dev nD) (arg3 : Memref sig .tc .vmem S8x768x900 .f32) (f3 : Bf (F := Ideal) c arg3) : List (View.Piece (Elt Ideal) S8x768x900 .bf16) :=
  [⟨Rect.unit (s := S8x768x900) ![7, 0, 0] S1x768x900.size inb_S8x768x900_S1x768x900_7_0_0, k0_pay90 (F := Ideal) (arg3.view.readAt (Elt Ideal) (Rect.unit (s := S8x768x900) ![7, 0, 0] S1x768x900.size inb_S8x768x900_S1x768x900_7_0_0).toLoadRect f3)⟩,
   ⟨Rect.unit (s := S8x768x900) ![6, 0, 0] S1x768x900.size inb_S8x768x900_S1x768x900_6_0_0, k0_pay89 (F := Ideal) (arg3.view.readAt (Elt Ideal) (Rect.unit (s := S8x768x900) ![6, 0, 0] S1x768x900.size inb_S8x768x900_S1x768x900_6_0_0).toLoadRect f3)⟩,
   ⟨Rect.unit (s := S8x768x900) ![5, 0, 0] S1x768x900.size inb_S8x768x900_S1x768x900_5_0_0, k0_pay88 (F := Ideal) (arg3.view.readAt (Elt Ideal) (Rect.unit (s := S8x768x900) ![5, 0, 0] S1x768x900.size inb_S8x768x900_S1x768x900_5_0_0).toLoadRect f3)⟩,
   ⟨Rect.unit (s := S8x768x900) ![4, 0, 0] S1x768x900.size inb_S8x768x900_S1x768x900_4_0_0, k0_pay87 (F := Ideal) (k0_pay86 (F := Ideal) (arg3.view.readAt (Elt Ideal) (Rect.unit (s := S8x768x900) ![4, 0, 0] S1x768x900.size inb_S8x768x900_S1x768x900_4_0_0).toLoadRect f3))⟩,
   ⟨Rect.unit (s := S8x768x900) ![3, 0, 0] S1x768x900.size inb_S8x768x900_S1x768x900_3_0_0, k0_pay85 (F := Ideal) (arg3.view.readAt (Elt Ideal) (Rect.unit (s := S8x768x900) ![3, 0, 0] S1x768x900.size inb_S8x768x900_S1x768x900_3_0_0).toLoadRect f3)⟩,
   ⟨Rect.unit (s := S8x768x900) ![2, 0, 0] S1x768x900.size inb_S8x768x900_S1x768x900_2_0_0, k0_pay84 (F := Ideal) (arg3.view.readAt (Elt Ideal) (Rect.unit (s := S8x768x900) ![2, 0, 0] S1x768x900.size inb_S8x768x900_S1x768x900_2_0_0).toLoadRect f3)⟩,
   ⟨Rect.unit (s := S8x768x900) ![1, 0, 0] S1x768x900.size inb_S8x768x900_S1x768x900_1_0_0, k0_pay83 (F := Ideal) (arg3.view.readAt (Elt Ideal) (Rect.unit (s := S8x768x900) ![1, 0, 0] S1x768x900.size inb_S8x768x900_S1x768x900_1_0_0).toLoadRect f3)⟩,
   ⟨Rect.unit (s := S8x768x900) ![0, 0, 0] S1x768x900.size inb_S8x768x900_S1x768x900_0_0_0, k0_pay82 (F := Ideal) (arg3.view.readAt (Elt Ideal) (Rect.unit (s := S8x768x900) ![0, 0, 0] S1x768x900.size inb_S8x768x900_S1x768x900_0_0_0).toLoadRect f3)⟩]

/-- The logits as the body reads them. -/
abbrev logitsAt (c : Dev nD) (arg1 : Memref sig .tc .vmem S128x8 .f32) (f1 : Bf (F := Ideal) c arg1) : Vec Ideal S128x8 .f32 :=
  arg1.view.readAt (Elt Ideal) (Rect.unit ![0, 0] S128x8.size inb_S128x8_S128x8_0_0).toLoadRect f1
/-- The mask as the body reads it. -/
abbrev masksAt (c : Dev nD) (arg2 : Memref sig .tc .vmem S128x8 .i32) (f2 : Bf (F := Ideal) c arg2) : Vec Ideal S128x8 .i32 :=
  arg2.view.readAt (Elt Ideal) (Rect.unit ![0, 0] S128x8.size inb_S128x8_S128x8_0_0).toLoadRect f2

/-- The number of blocks, as the body reads it back from the integer column. -/
abbrev nbWord (arg6 : Memref sig .tc .vmem S392x1 .i32) (L : Vec Ideal S128x8 .f32) (M : Vec Ideal S128x8 .i32) : BitVec 32 :=
  extractAt ![0, 0] (arg6.view.readCov (intPieces L M) (Rect.unit (s := S392x1) ![391, 0] S1x1.size inb_S392x1_S1x1_391_0).toLoadRect) inpos_S1x1_p0_0

/-- The integer column when the loop starts. -/
abbrev intCol (c : Dev nD) (arg6 : Memref sig .tc .vmem S392x1 .i32) (L : Vec Ideal S128x8 .f32) (M : Vec Ideal S128x8 .i32) : Bf (F := Ideal) c arg6 :=
  arg6.view.writes (Elt Ideal) arg6.view.junk (intPieces L M)
/-- The gates of the slots when the loop starts. -/
abbrev gateCol (c : Dev nD) (arg7 : Memref sig .tc .vmem S368x1 .f32) (L : Vec Ideal S128x8 .f32) (M : Vec Ideal S128x8 .i32) : Bf (F := Ideal) c arg7 :=
  arg7.view.writes (Elt Ideal) arg7.view.junk [⟨Rect.unit ![0, 0] S368x1.size inb_S368x1_S368x1_0_0, kGates L M⟩]
/-- The rounded weights when the loop starts. -/
abbrev weightBuf (c : Dev nD) (arg3 : Memref sig .tc .vmem S8x768x900 .f32) (arg9 : Memref sig .tc .vmem S8x768x900 .bf16) (f3 : Bf (F := Ideal) c arg3) : Bf (F := Ideal) c arg9 :=
  arg9.view.writes (Elt Ideal) arg9.view.junk (weightPieces c arg3 f3)
/-- The output when the loop starts. -/
abbrev zeroOut (c : Dev nD) (arg5 : Memref sig .tc .vmem S128x16x768 .bf16) : Bf (F := Ideal) c arg5 :=
  arg5.view.writes (Elt Ideal) arg5.view.junk [⟨Rect.unit ![0, 0, 0] S128x16x768.size inb_S128x16x768_S128x16x768_0_0_0, k0_pay91 (F := Ideal)⟩]

set_option maxHeartbeats 4000000 in
/-- The whole body: the routing tables, the rounded weights, the cleared output, then the loop over the blocks. -/
theorem body_run (c : Dev nD) (arg0 : Memref sig .tc .vmem S128x16x900 .f32) (harg0 : arg0.IsWhole) (arg1 : Memref sig .tc .vmem S128x8 .f32) (harg1 : arg1.IsWhole) (arg2 : Memref sig .tc .vmem S128x8 .i32) (harg2 : arg2.IsWhole) (arg3 : Memref sig .tc .vmem S8x768x900 .f32) (harg3 : arg3.IsWhole) (arg4 : Memref sig .tc .vmem S8x1x768 .f32) (harg4 : arg4.IsWhole) (arg5 : Memref sig .tc .vmem S128x16x768 .bf16) (harg5 : arg5.IsWhole) (arg6 : Memref sig .tc .vmem S392x1 .i32) (harg6 : arg6.IsWhole) (arg7 : Memref sig .tc .vmem S368x1 .f32) (harg7 : arg7.IsWhole) (arg8 : Memref sig .tc .vmem S128x2 .i32) (harg8 : arg8.IsWhole) (arg9 : Memref sig .tc .vmem S8x768x900 .bf16) (harg9 : arg9.IsWhole)
    (f0 : Bf (F := Ideal) c arg0) (f1 : Bf (F := Ideal) c arg1) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9)
    (hv : (nbWord arg6 (logitsAt c arg1 f1) (masksAt c arg2 f2)).toNat ≤ 23)
    (he : ∀ k, (expWord c arg6 (nbWord arg6 (logitsAt c arg1 f1) (masksAt c arg2 f2)) (chk1_of hv) (intCol c arg6 (logitsAt c arg1 f1) (masksAt c arg2 f2)) k).toNat < 8)
    (hs : ∀ k, ∀ j : Fin 16, (srcWord c arg6 (nbWord arg6 (logitsAt c arg1 f1) (masksAt c arg2 f2)) (chk1_of hv) (intCol c arg6 (logitsAt c arg1 f1) (masksAt c arg2 f2)) k j).toNat < 128) :
    iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9)
      ⊢ wp frame (wpE (defs₀ (F := Ideal)) 𝒱₀ (c : Thread nD τ) none) Set.univ
          (cc0__moe_body_skel (F := Ideal) arg0 harg0 arg1 harg1 arg2 harg2 arg3 harg3 arg4 harg4 arg5 harg5 arg6 harg6 arg7 harg7 arg8 harg8 arg9 harg9)
          (fun _ => iprop(loopInv c arg0 arg4 arg5 arg6 arg7 arg9 f0 f4 (intCol c arg6 (logitsAt c arg1 f1) (masksAt c arg2 f2)) (gateCol c arg7 (logitsAt c arg1 f1) (masksAt c arg2 f2)) (weightBuf c arg3 arg9 f3)
              (outAfter c arg0 arg4 arg6 arg7 arg9 (k0_pay81 (F := Ideal)) (nbWord arg6 (logitsAt c arg1 f1) (masksAt c arg2 f2)) (chk1_of hv) f0 f4 (intCol c arg6 (logitsAt c arg1 f1) (masksAt c arg2 f2)) (gateCol c arg7 (logitsAt c arg1 f1) (masksAt c arg2 f2)) (weightBuf c arg3 arg9 f3) he hs (arg5.view.read (Elt Ideal) (zeroOut c arg5)) (nbWord arg6 (logitsAt c arg1 f1) (masksAt c arg2 f2)).toNat)
            ∗ (pt c arg1 f1 ∗ pt c arg2 f2 ∗ pt c arg3 f3 ∗ ∃ f8' : Bf (F := Ideal) c arg8, pt c arg8 f8'))) := by
  have hloop := fun a b d => loops_run c arg0 harg0 arg1 harg1 arg2 harg2 arg3 harg3 arg4 harg4 arg5 harg5 arg6 harg6 arg7 harg7 arg8 harg8 arg9 harg9 (k0_pay81 (F := Ideal)) (nbWord arg6 (logitsAt c arg1 f1) (masksAt c arg2 f2)) (chk1_of hv) a b d hv f0 f4 (intCol c arg6 (logitsAt c arg1 f1) (masksAt c arg2 f2)) (gateCol c arg7 (logitsAt c arg1 f1) (masksAt c arg2 f2)) (weightBuf c arg3 arg9 f3) (zeroOut c arg5) he hs
  unfold cc0__moe_body_skel
  iintro ⟨H0, H1, H2, H3, H4, H5, H6, H7, H8, H9⟩
  sl_exec (disch := ((with_reducible refine chk1_of ?_); exact hv))
  have hfin : ∀ a b d, iprop((pt c arg0 f0 ∗ pt c arg4 f4 ∗ pt c arg5 (zeroOut c arg5) ∗ pt c arg6 (intCol c arg6 (logitsAt c arg1 f1) (masksAt c arg2 f2)) ∗ pt c arg7 (gateCol c arg7 (logitsAt c arg1 f1) (masksAt c arg2 f2)) ∗ pt c arg9 (weightBuf c arg3 arg9 f3)) ∗ (pt c arg1 f1 ∗ pt c arg2 f2 ∗ pt c arg3 f3 ∗ ∃ f8' : Bf (F := Ideal) c arg8, pt c arg8 f8')) ⊢ _ :=
    fun a b d => (sep_mono_l (hloop a b d)).trans (wp_frame_r frame _ _)
  clear hloop
  iapply (hfin _ _ _)
  isplitl [H0 H4 H5 H6 H7 H9]
  · isplitl [H0]; · iexact H0
    isplitl [H4]; · iexact H4
    isplitl [H5]; · iexact H5
    isplitl [H6]; · iexact H6
    isplitl [H7]; · iexact H7
    iexact H9
  isplitl [H1]; · iexact H1
  isplitl [H2]; · iexact H2
  isplitl [H3]; · iexact H3
  iexists _; iexact H8

end Cert.Proof.KernelIdeal
end
-- ==== Proof.Slots.lean ====
/-
  The slots of the routing, as plain natural numbers. `I b` and `J b` are the first and the second expert of row `b`, any
  two choices at all. Each expert gets a stretch of slots as long as the number of rows that chose it, rounded up to a
  multiple of sixteen; the stretches stand one after the other in the order of the experts. Within a stretch the rows
  that chose the expert first come before the rows that chose it second, each group in the order of the rows. So no two
  choices share a slot, a block of sixteen slots belongs to one expert, and every slot in use lies below 368.
-/
module

public import Mathlib.Data.Fintype.BigOperators
public import Mathlib.Algebra.BigOperators.Fin
public import Mathlib.Algebra.Order.BigOperators.Group.Finset
public import Mathlib.Tactic.FinCases

@[expose] public section

namespace Cert.Proof.Slots

open scoped BigOperators

/-- The number of rows that chose expert `e`. -/
def cnt (I : Fin 128 → Fin 8) (e : Fin 8) : ℕ := ∑ b : Fin 128, if I b = e then 1 else 0
/-- The number of earlier rows that made the same choice as row `b`. -/
def rank (I : Fin 128 → Fin 8) (b : Fin 128) : ℕ := ∑ b' : Fin 128, if b' < b ∧ I b' = I b then 1 else 0

/-- A row's rank is below the number of rows that take the same expert. -/
theorem rank_lt_cnt (I : Fin 128 → Fin 8) (b : Fin 128) : rank I b < cnt I (I b) := by
  unfold rank cnt
  refine Finset.sum_lt_sum (fun b' _ => ?_) ⟨b, Finset.mem_univ _, by simp⟩
  by_cases h : b' < b ∧ I b' = I b
  · simp [h]
  · rw [if_neg h]; exact Nat.zero_le _

/-- Of two rows that take the same expert, the later one has the larger rank. -/
theorem rank_lt_rank (I : Fin 128 → Fin 8) {b b' : Fin 128} (hI : I b = I b') (h : b < b') : rank I b < rank I b' := by
  unfold rank
  refine Finset.sum_lt_sum (fun x _ => ?_) ⟨b, Finset.mem_univ _, by simp [h, hI]⟩
  by_cases hx : x < b ∧ I x = I b
  · rw [if_pos hx, if_pos ⟨lt_trans hx.1 h, hx.2.trans hI⟩]
  · rw [if_neg hx]; exact Nat.zero_le _

/-- Two rows that take the same expert with the same rank are the same row. -/
theorem rank_inj (I : Fin 128 → Fin 8) {b b' : Fin 128} (hI : I b = I b') (h : rank I b = rank I b') : b = b' := by
  rcases lt_trichotomy b b' with hlt | heq | hgt
  · exact absurd h (Nat.ne_of_lt (rank_lt_rank I hI hlt))
  · exact heq
  · exact absurd h.symm (Nat.ne_of_lt (rank_lt_rank I hI.symm hgt))

/-- The counts of the experts add up to the 128 rows. -/
theorem sum_cnt (I : Fin 128 → Fin 8) : ∑ e : Fin 8, cnt I e = 128 := by
  unfold cnt
  rw [Finset.sum_comm]
  simp

section Layout

variable (I J : Fin 128 → Fin 8)

/-- The number of blocks of sixteen slots that expert `e` gets. -/
def blocks (e : Fin 8) : ℕ := (cnt I e + cnt J e + 15) / 16
/-- The length of the stretch of expert `e`. -/
def len (e : Fin 8) : ℕ := blocks I J e * 16
/-- Where the stretch of expert `e` ends. -/
def bound (e : Fin 8) : ℕ := ∑ e' : Fin 8, if e' ≤ e then len I J e' else 0
/-- Where the stretch of expert `e` starts. -/
def off (e : Fin 8) : ℕ := bound I J e - len I J e
/-- The slot of row `b`'s first choice. -/
def slot0 (b : Fin 128) : ℕ := off I J (I b) + rank I b
/-- The slot of row `b`'s second choice. -/
def slot1 (b : Fin 128) : ℕ := off I J (J b) + (cnt I (J b) + rank J b)
/-- The expert of block `t`. -/
def be (t : ℕ) : ℕ := min (∑ e : Fin 8, if bound I J e ≤ t * 16 then 1 else 0) 7
/-- The number of blocks in use. -/
def nb : ℕ := bound I J 7 / 16

/-- An expert's stretch has room for all its pairs. -/
theorem len_ge (e : Fin 8) : cnt I e + cnt J e ≤ len I J e := by unfold len blocks; omega

/-- An expert's stretch ends its length after its start. -/
theorem bound_eq (e : Fin 8) : bound I J e = off I J e + len I J e := by
  have h : len I J e ≤ bound I J e := by
    unfold bound
    have := Finset.single_le_sum (f := fun e' : Fin 8 => if e' ≤ e then len I J e' else 0) (fun _ _ => Nat.zero_le _)
      (Finset.mem_univ e)
    simpa using this
  unfold off; omega

/-- Every end of a stretch, spelled out. -/
theorem bound_cases : (bound I J 0 = blocks I J 0 * 16) ∧ (bound I J 1 = bound I J 0 + blocks I J 1 * 16)
    ∧ (bound I J 2 = bound I J 1 + blocks I J 2 * 16) ∧ (bound I J 3 = bound I J 2 + blocks I J 3 * 16)
    ∧ (bound I J 4 = bound I J 3 + blocks I J 4 * 16) ∧ (bound I J 5 = bound I J 4 + blocks I J 5 * 16)
    ∧ (bound I J 6 = bound I J 5 + blocks I J 6 * 16) ∧ (bound I J 7 = bound I J 6 + blocks I J 7 * 16) := by
  unfold bound len
  simp [Fin.sum_univ_eight]

/-- The last stretch ends within the 368 slots. -/
theorem bound_last_le : bound I J 7 ≤ 368 := by
  obtain ⟨h0, h1, h2, h3, h4, h5, h6, h7⟩ := bound_cases I J
  have hI := sum_cnt I
  have hJ := sum_cnt J
  rw [Fin.sum_univ_eight] at hI hJ
  unfold blocks at *
  omega

/-- There are at most 23 blocks. -/
theorem nb_le : nb I J ≤ 23 := by have := bound_last_le I J; unfold nb; omega

/-- The last stretch ends with the last block. -/
theorem nb_mul : bound I J 7 = 16 * nb I J := by
  obtain ⟨h0, h1, h2, h3, h4, h5, h6, h7⟩ := bound_cases I J
  unfold nb; omega

/-- The expert of a block is at most 7. -/
theorem be_le (t : ℕ) : be I J t ≤ 7 := by unfold be; omega

/-- The ends of the stretches go up with the expert. -/
theorem bound_mono {e e' : Fin 8} (h : e ≤ e') : bound I J e ≤ bound I J e' := by
  unfold bound
  refine Finset.sum_le_sum fun x _ => ?_
  by_cases hx : x ≤ e
  · rw [if_pos hx, if_pos (hx.trans h)]
  · rw [if_neg hx]; exact Nat.zero_le _

/-- An earlier expert's stretch ends before a later one's starts. -/
theorem bound_le_off {e e' : Fin 8} (h : e' < e) : bound I J e' ≤ off I J e := by
  have hs : bound I J e' + len I J e ≤ bound I J e := by
    have hl : len I J e = ∑ x : Fin 8, if x = e then len I J x else 0 := by simp
    rw [hl]
    unfold bound
    rw [← Finset.sum_add_distrib]
    refine Finset.sum_le_sum fun x _ => ?_
    by_cases hx : x ≤ e'
    · have hxe : x < e := lt_of_le_of_lt hx h
      rw [if_pos hx, if_neg hxe.ne, if_pos hxe.le, add_zero]
    · rw [if_neg hx, zero_add]
      by_cases hxe : x = e
      · rw [if_pos hxe, if_pos hxe.le]
      · rw [if_neg hxe]; exact Nat.zero_le _
  unfold off; omega

/-- Every stretch ends at a multiple of sixteen. -/
theorem dvd_bound (e : Fin 8) : 16 ∣ bound I J e := by
  unfold bound
  refine Finset.dvd_sum fun x _ => ?_
  by_cases hx : x ≤ e
  · rw [if_pos hx]; exact ⟨blocks I J x, by unfold len; omega⟩
  · rw [if_neg hx]; exact dvd_zero _

/-- A slot inside the stretch of expert `e` lies in a block of expert `e`, among the blocks in use. -/
theorem be_of_mem (e : Fin 8) (s : ℕ) (h0 : off I J e ≤ s) (h1 : s < bound I J e) :
    be I J (s / 16) = e.val ∧ s < 16 * nb I J := by
  have hiff : ∀ e' : Fin 8, bound I J e' ≤ s / 16 * 16 ↔ e' < e := by
    intro e'
    constructor
    · intro h
      by_contra hne
      have := bound_mono I J (not_lt.mp hne)
      omega
    · intro h
      have hle := bound_le_off I J h
      obtain ⟨q, hq⟩ := dvd_bound I J e'
      omega
  have hsum : (∑ e' : Fin 8, if bound I J e' ≤ s / 16 * 16 then 1 else 0) = e.val := by
    rw [Finset.sum_congr rfl (fun e' _ => if_congr (hiff e') rfl rfl)]
    clear hiff h0 h1
    revert e
    decide
  refine ⟨?_, ?_⟩
  · unfold be
    rw [hsum]
    have := e.isLt
    omega
  · have hn := nb_mul I J
    have hm : bound I J e ≤ bound I J 7 := bound_mono I J (Fin.le_last e)
    omega

/-- The slot of a first choice lies in its expert's stretch. -/
theorem slot0_mem (b : Fin 128) : off I J (I b) ≤ slot0 I J b ∧ slot0 I J b < bound I J (I b) := by
  have h := rank_lt_cnt I b
  have hl := len_ge I J (I b)
  have hb := bound_eq I J (I b)
  unfold slot0
  omega

/-- The slot of a second choice lies in its expert's stretch. -/
theorem slot1_mem (b : Fin 128) : off I J (J b) ≤ slot1 I J b ∧ slot1 I J b < bound I J (J b) := by
  have h := rank_lt_cnt J b
  have hl := len_ge I J (J b)
  have hb := bound_eq I J (J b)
  unfold slot1
  omega

/-- The block of row `b`'s first slot belongs to its first expert. -/
theorem be_slot0 (b : Fin 128) : be I J (slot0 I J b / 16) = (I b).val :=
  (be_of_mem I J _ _ (slot0_mem I J b).1 (slot0_mem I J b).2).1
/-- The block of row `b`'s second slot belongs to its second expert. -/
theorem be_slot1 (b : Fin 128) : be I J (slot1 I J b / 16) = (J b).val :=
  (be_of_mem I J _ _ (slot1_mem I J b).1 (slot1_mem I J b).2).1
/-- The slot of a first choice lies in a block that the loop runs. -/
theorem slot0_lt (b : Fin 128) : slot0 I J b < 16 * nb I J :=
  (be_of_mem I J _ _ (slot0_mem I J b).1 (slot0_mem I J b).2).2
/-- The slot of a second choice lies in a block that the loop runs. -/
theorem slot1_lt (b : Fin 128) : slot1 I J b < 16 * nb I J :=
  (be_of_mem I J _ _ (slot1_mem I J b).1 (slot1_mem I J b).2).2
/-- The slot of a first choice is one of the 368. -/
theorem slot0_lt' (b : Fin 128) : slot0 I J b < 368 := by have := slot0_lt I J b; have := nb_le I J; omega
/-- The slot of a second choice is one of the 368. -/
theorem slot1_lt' (b : Fin 128) : slot1 I J b < 368 := by have := slot1_lt I J b; have := nb_le I J; omega

/-- Two rows' first slots differ. -/
theorem slot0_inj {b b' : Fin 128} (h : slot0 I J b = slot0 I J b') : b = b' := by
  have e0 := be_slot0 I J b
  rw [h, be_slot0 I J b'] at e0
  have e : I b = I b' := Fin.ext e0.symm
  refine rank_inj I e ?_
  unfold slot0 at h
  rw [e] at h
  omega

/-- Two rows' second slots differ. -/
theorem slot1_inj {b b' : Fin 128} (h : slot1 I J b = slot1 I J b') : b = b' := by
  have e0 := be_slot1 I J b
  rw [h, be_slot1 I J b'] at e0
  have e : J b = J b' := Fin.ext e0.symm
  refine rank_inj J e ?_
  unfold slot1 at h
  rw [e] at h
  omega

/-- A first slot is never a second slot. -/
theorem slot0_ne_slot1 (b b' : Fin 128) : slot0 I J b ≠ slot1 I J b' := by
  intro h
  have e0 := be_slot0 I J b
  rw [h, be_slot1 I J b'] at e0
  have e : I b = J b' := Fin.ext e0.symm
  have hr := rank_lt_cnt I b
  unfold slot0 slot1 at h
  rw [e] at h hr
  omega

end Layout

end Cert.Proof.Slots
end
-- ==== Proof.Tools.lean ====
/-
  Small readings used all through: an operation on a table, read at one entry, on the extended reals; counts as casts of
  natural numbers; and the first column where a row's test holds.
-/
module

public import Idealize.ShloMosaic.Lib.MatmulPlain
public import Idealize.ShloMosaic.Lib.ValueIdx
public import Idealize.ShloMosaic.Lib.IdealHost
public import Idealize.ShloMosaic.Lib.Pipeline.Value
public import Idealize.ShloMosaic.PureOps.Reduce
public import Mathlib.Tactic.FinCases
public import Mathlib.Tactic.NormNum

@[expose] public section

noncomputable section

namespace Cert.Proof.Tools

open Idealize.ShloMosaic Idealize.ShloMosaic.ValueIdx
open scoped BigOperators

/-! ## Products -/

/-- `K×M` by `K×N`, both contracted on their first axis. -/
def firstAxes (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- One axis is summed over. -/
theorem firstAxes_rank (K M N : ℕ) : (firstAxes K M N).contr.rank = 1 := rfl
/-- The axis summed over has length `K`. -/
theorem firstAxes_size (K M N : ℕ) :
    (firstAxes K M N).contr.size ⟨0, by rw [firstAxes_rank]; exact Nat.one_pos⟩ = K := rfl

/-- Such a product at (r, c): the accumulator plus the sum of the column products. -/
theorem matmul_firstAxes {K M N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32)
    (r : Fin M) (c : Fin N) :
    FloatOps.matmul (firstAxes K M N) prec lhs rhs acc (ix2 r c)
      = acc (ix2 r c) + ∑ k : Fin K, lhs (ix2 k r) * rhs (ix2 k c) := by
  rw [Ideal.matmul_apply, ← Equiv.sum_comp (contrEquiv1 _ K (firstAxes_rank K M N) (firstAxes_size K M N)).symm]
  refine congrArg (acc (ix2 r c) + ·) (Finset.sum_congr rfl fun k _ => ?_)
  have hk := contrEquiv1_symm_val _ K (firstAxes_rank K M N) (firstAxes_size K M N) k
  have el : (firstAxes K M N).lhsIdx (ix2 r c)
      ((contrEquiv1 _ K (firstAxes_rank K M N) (firstAxes_size K M N)).symm k) = ix2 k r := by
    funext a; apply Fin.ext
    match a with
    | ⟨0, _⟩ => exact hk
    | ⟨1, _⟩ => rfl
  have er : (firstAxes K M N).rhsIdx (ix2 r c)
      ((contrEquiv1 _ K (firstAxes_rank K M N) (firstAxes_size K M N)).symm k) = ix2 k c := by
    funext a; apply Fin.ext
    match a with
    | ⟨0, _⟩ => exact hk
    | ⟨1, _⟩ => rfl
  rw [el, er]

/-! ## Rows and columns -/

variable {α : Type}

/-- A column repeated along the second axis. -/
theorem colBroadcast {A B : ℕ} (x : (⟨2, ![A, 1]⟩ : Shape).Idx → α) (h : (⟨2, ![A, 1]⟩ : Shape).Broadcasts ⟨2, ![A, B]⟩)
    (i : Fin A) (j : Fin B) : broadcastTo ⟨2, ![A, B]⟩ x h (ix2 i j) = x (ix2 i 0) := by
  refine broadcastTo_apply x h _ _ fun a => ?_
  match a with
  | ⟨0, _⟩ =>
    show i.val = if A = 1 then 0 else i.val
    split
    · next h1 => have := i.isLt; omega
    · rfl
  | ⟨1, _⟩ => rfl

/-- A row repeated along the first axis. -/
theorem rowBroadcast {A B : ℕ} (x : (⟨2, ![1, B]⟩ : Shape).Idx → α) (h : (⟨2, ![1, B]⟩ : Shape).Broadcasts ⟨2, ![A, B]⟩)
    (i : Fin A) (j : Fin B) : broadcastTo ⟨2, ![A, B]⟩ x h (ix2 i j) = x (ix2 0 j) := by
  refine broadcastTo_apply x h _ _ fun a => ?_
  match a with
  | ⟨0, _⟩ => rfl
  | ⟨1, _⟩ =>
    show j.val = if B = 1 then 0 else j.val
    split
    · next h1 => have := j.isLt; omega
    · rfl

/-- A list of numbers stood up as a column. -/
theorem column {A : ℕ} (x : (⟨1, ![A]⟩ : Shape).Idx → α) (h : (⟨1, ![A]⟩ : Shape).ShapeCasts ⟨2, ![A, 1]⟩) (i : Fin A) :
    shapeCast ⟨2, ![A, 1]⟩ x h (ix2 i 0) = x (ix1 i) := by
  refine shapeCast_apply x h _ _ ?_
  rw [Shape.rowMajor_val_one, Shape.rowMajor_val_two]
  show i.val = i.val * 1 + 0
  omega

/-- A list of numbers laid down as a row. -/
theorem row {B : ℕ} (x : (⟨1, ![B]⟩ : Shape).Idx → α) (h : (⟨1, ![B]⟩ : Shape).ShapeCasts ⟨2, ![1, B]⟩) (j : Fin B) :
    shapeCast ⟨2, ![1, B]⟩ x h (ix2 0 j) = x (ix1 j) := by
  refine shapeCast_apply x h _ _ ?_
  rw [Shape.rowMajor_val_one, Shape.rowMajor_val_two]
  show j.val = 0 * B + j.val
  omega

/-- Reducing the last axis of two: the entries of row `i`. -/
theorem lift_last {A B : ℕ} (h : (⟨2, ![A, B]⟩ : Shape).Reduces [1] ⟨1, ![A]⟩) (i : Fin A) (k : Fin B) :
    h.lift (ix1 i) k = ix2 i k := by
  funext a; apply Fin.ext
  match a with
  | ⟨0, _⟩ => rfl
  | ⟨1, _⟩ => rfl

/-- Reducing the first axis of two: the entries of column `j`. -/
theorem lift_first {A B : ℕ} (h : (⟨2, ![A, B]⟩ : Shape).Reduces [0] ⟨1, ![B]⟩) (j : Fin B) (k : Fin A) :
    h.lift (ix1 j) k = ix2 k j := by
  funext a; apply Fin.ext
  match a with
  | ⟨0, _⟩ => rfl
  | ⟨1, _⟩ => rfl

/-- A row's sum. -/
theorem rowSum {A B : ℕ} (src : FVec Ideal ⟨2, ![A, B]⟩ .f32) (h : (⟨2, ![A, B]⟩ : Shape).Reduces [1] ⟨1, ![A]⟩)
    (hφ : FKind.Formats .f32) (hacc : (0x00000000#32 : BitVec FTy.f32.bits) = FKind.add.neutral .f32 hφ) (i : Fin A) :
    multiReduction .add [1] ⟨1, ![A]⟩ src 0x00000000#32 h hφ hacc (ix1 i) = ∑ k : Fin B, src (ix2 i k) := by
  rw [Ideal.multiReduction_add_single]
  exact Finset.sum_congr rfl fun k _ => by rw [lift_last h i k]

/-- A column's sum. -/
theorem colSum {A B : ℕ} (src : FVec Ideal ⟨2, ![A, B]⟩ .f32) (h : (⟨2, ![A, B]⟩ : Shape).Reduces [0] ⟨1, ![B]⟩)
    (hφ : FKind.Formats .f32) (hacc : (0x00000000#32 : BitVec FTy.f32.bits) = FKind.add.neutral .f32 hφ) (j : Fin B) :
    multiReduction .add [0] ⟨1, ![B]⟩ src 0x00000000#32 h hφ hacc (ix1 j) = ∑ k : Fin A, src (ix2 k j) := by
  rw [Ideal.multiReduction_add_single]
  exact Finset.sum_congr rfl fun k _ => by rw [lift_first h j k]

/-- The word of −∞ reads as the least extended real. -/
theorem ofBits_bot : Ideal.ofBits .f32 0xFF800000#32 = ⊥ := by simp [Ideal.ofBits, Ideal.ieee]

/-- A row's maximum. -/
theorem rowMax {A B : ℕ} (src : FVec Ideal ⟨2, ![A, B]⟩ .f32) (h : (⟨2, ![A, B]⟩ : Shape).Reduces [1] ⟨1, ![A]⟩)
    (hφ : FKind.Formats .f32) (hacc : (0xFF800000#32 : BitVec FTy.f32.bits) = FKind.maximumf.neutral .f32 hφ) (i : Fin A) :
    multiReduction .maximumf [1] ⟨1, ![A]⟩ src 0xFF800000#32 h hφ hacc (ix1 i)
      = (Finset.univ : Finset (Fin B)).sup fun k => (src (ix2 i k) : EReal) := by
  rw [Ideal.multiReduction_maximumf_single]
  have hb : (FloatOps.ofBits .f32 0xFF800000#32 : Ideal .f32) = (⊥ : EReal) := ofBits_bot
  rw [hb]
  show (Finset.univ : Finset (Fin B)).fold max ⊥ (src ∘ h.lift (ix1 i)) = _
  have hf : (src ∘ h.lift (ix1 i)) = fun k : Fin B => (src (ix2 i k) : EReal) := funext fun k => by
    show src (h.lift (ix1 i) k) = _
    rw [lift_last h i k]
  rw [hf]
  rfl

/-! ## Indicators and counts -/

/-- A test's outcome as a number. -/
theorem ofBool_num (p : Bool) : ((((BitVec.ofBool p).setWidth 32).toInt : ℝ) : EReal) = ((if p then 1 else 0 : ℕ) : EReal) := by
  cases p <;> simp

/-- A number below 2³¹ is read back from its signed word, as an extended real. -/
theorem ofInt_num (n : ℕ) (h : n < 2 ^ 31) : (((BitVec.ofNat 32 n).toInt : ℝ) : EReal) = ((n : ℕ) : EReal) := by
  have : (BitVec.ofNat 32 n).toInt = (n : ℤ) := by
    rw [BitVec.toInt_eq_toNat_cond, BitVec.toNat_ofNat]
    omega
  rw [this]
  simp

/-- A natural number below 2³¹ is turned into its word. -/
theorem fptosi_num (n : ℕ) (h : n < 2 ^ 31) : Ideal.fptosi 32 ((n : ℕ) : EReal) = BitVec.ofNat 32 n := by
  have hn : ((n : ℕ) : EReal) = ((n : ℝ) : EReal) := (EReal.coe_natCast (n := n)).symm
  rw [hn, Ideal.fptosi, Ideal.toIntClamped_coe]
  rw [if_pos (Nat.cast_nonneg n), Int.floor_natCast]
  have hm : max (-((2 ^ (32 - 1) : ℕ) : ℤ)) (min (((2 ^ (32 - 1) : ℕ) : ℤ) - 1) (n : ℤ)) = (n : ℤ) := by
    norm_num
    omega
  rw [hm, BitVec.ofInt_natCast]

/-- Natural numbers multiply among the extended reals as they do among themselves. -/
theorem natCast_mul (a b : ℕ) : ((a : ℕ) : EReal) * (b : EReal) = ((a * b : ℕ) : EReal) := (EReal.natCast_mul a b).symm

/-- Natural numbers are subtracted among the extended reals as they are among themselves. -/
theorem natCast_sub {a b : ℕ} (h : b ≤ a) : ((a : ℕ) : EReal) - (b : EReal) = ((a - b : ℕ) : EReal) := by
  rw [← EReal.coe_natCast, ← EReal.coe_natCast, ← EReal.coe_natCast, ← EReal.coe_sub, Nat.cast_sub h]

/-- A sum of natural numbers is the same among the extended reals. -/
theorem sum_natCast {ι : Type} (s : Finset ι) (f : ι → ℕ) : ∑ k ∈ s, ((f k : ℕ) : EReal) = ((∑ k ∈ s, f k : ℕ) : EReal) :=
  (Nat.cast_sum s f).symm

/-- The word of 16 reads as 16. -/
theorem ofBits_sixteen : Ideal.ofBits .f32 0x41800000#32 = ((16 : ℕ) : EReal) := by
  rw [← EReal.coe_natCast]
  simp [Ideal.ofBits, Ideal.ieee, -EReal.coe_mul]; norm_num
/-- The word of 15 reads as 15. -/
theorem ofBits_fifteen : Ideal.ofBits .f32 0x41700000#32 = ((15 : ℕ) : EReal) := by
  rw [← EReal.coe_natCast]
  simp [Ideal.ofBits, Ideal.ieee, -EReal.coe_mul]; norm_num
/-- The word of 7 reads as 7. -/
theorem ofBits_seven : Ideal.ofBits .f32 0x40E00000#32 = ((7 : ℕ) : EReal) := by
  rw [← EReal.coe_natCast]
  simp [Ideal.ofBits, Ideal.ieee, -EReal.coe_mul]; norm_num
/-- The word of 1/16 reads as 1/16. -/
theorem ofBits_sixteenth : Ideal.ofBits .f32 0x3D800000#32 = (((1 : ℝ) / 16 : ℝ) : EReal) := by
  simp [Ideal.ofBits, Ideal.ieee, -EReal.coe_mul]; norm_num
/-- The word of 1 reads as 1. -/
theorem ofBits_one : Ideal.ofBits .f32 0x3F800000#32 = ((1 : ℕ) : EReal) := by rw [Ideal.ofBits_one_f32, Nat.cast_one]
/-- The word of 0 reads as 0. -/
theorem ofBits_zero : Ideal.ofBits .f32 0x00000000#32 = ((0 : ℕ) : EReal) := by simp [Ideal.ofBits, Ideal.ieee]

/-- A count divided by sixteen and rounded down. -/
theorem floor_div_sixteen (n : ℕ) :
    Ideal.liftRound Int.floor (Ideal.div ((n : ℕ) : EReal) ((16 : ℕ) : EReal)) = ((n / 16 : ℕ) : EReal) := by
  have h : Ideal.div ((n : ℕ) : EReal) ((16 : ℕ) : EReal) = (((n : ℝ) / 16 : ℝ) : EReal) := by
    rw [← EReal.coe_natCast, ← EReal.coe_natCast, Ideal.div, if_neg (by rw [EReal.coe_natCast]; simp)]
    rw [← EReal.coe_inv, ← EReal.coe_mul]
    norm_num [div_eq_mul_inv]
  rw [h]
  show (((⌊(n : ℝ) / 16⌋ : ℤ) : ℝ) : EReal) = _
  have hf : ⌊(n : ℝ) / 16⌋ = ((n / 16 : ℕ) : ℤ) := by
    rw [Int.floor_eq_iff]
    have h1 : n / 16 * 16 ≤ n := Nat.div_mul_le_self n 16
    have h2 : n < (n / 16 + 1) * 16 := by omega
    have h1' : ((n / 16 : ℕ) : ℝ) * 16 ≤ n := by exact_mod_cast h1
    have h2' : (n : ℝ) < (((n / 16 : ℕ) : ℝ) + 1) * 16 := by exact_mod_cast h2
    push_cast
    constructor
    · rw [le_div_iff₀ (by norm_num)]; exact h1'
    · rw [div_lt_iff₀ (by norm_num)]; exact h2'
  rw [hf, ← EReal.coe_natCast]
  norm_cast

/-- A multiple of sixteen times one sixteenth. -/
theorem mul_sixteenth (n : ℕ) (h : 16 ∣ n) : ((n : ℕ) : EReal) * (((1 : ℝ) / 16 : ℝ) : EReal) = ((n / 16 : ℕ) : EReal) := by
  obtain ⟨q, rfl⟩ := h
  rw [← EReal.coe_natCast, ← EReal.coe_mul, Nat.mul_div_cancel_left q (by norm_num), ← EReal.coe_natCast]
  congr 1
  push_cast
  ring

/-- Two counts are equal exactly when they are equal as numbers. -/
theorem natCast_inj {a b : ℕ} : ((a : ℕ) : EReal) = (b : EReal) ↔ a = b := Nat.cast_inj
/-- Natural numbers compare among the extended reals as they do among themselves. -/
theorem natCast_le {a b : ℕ} : ((a : ℕ) : EReal) ≤ (b : EReal) ↔ a ≤ b := by
  rw [← EReal.coe_natCast, ← EReal.coe_natCast, EReal.coe_le_coe_iff, Nat.cast_le]

/-! ## The first column where a test holds -/

/-- The least of the numbers of the columns that pass a test, where one does, is the first such column. -/
theorem fold_first (q : Fin 8 → Bool) (hq : ∃ k, q k = true) :
    ∃ I : Fin 8, (Finset.univ : Finset (Fin 8)).fold IntOp.minsi 2147483647#32
        (fun k => if q k then BitVec.ofNat 32 k.val else 8#32) = BitVec.ofNat 32 I.val
      ∧ q I = true ∧ ∀ j, j < I → q j = false := by
  revert q
  decide +kernel

end Cert.Proof.Tools
end
end
-- ==== Proof.Routing.lean ====
/-
  What the routing tables hold. Each row's first expert is the first column holding the row's largest gate, its second
  expert the first column holding the largest of the row with that entry put to minus one. Given the two experts of every
  row, the tables the kernel computes with matrix products are the natural numbers of `Slots`.
-/
module

public import proofs.«01_k».proof.Proof.Body
public import proofs.«01_k».proof.Proof.Slots
public import proofs.«01_k».proof.Proof.Tools

@[expose] public section

noncomputable section

namespace Cert.Proof.KernelIdeal

open Cert.KernelIdeal Cert.KernelIdeal.Gen Cert.Proof.Tools Cert.Proof
open Idealize.ShloMosaic Idealize.ShloMosaic.ValueIdx
open scoped BigOperators

/-! ## The two experts of a row -/

/-- The first column of a row where the row's largest value stands. -/
theorem first_max (X : FVec Ideal S128x8 .f32) (mx : FVec Ideal S128x1 .f32) (b : Fin 128)
    (hmx : mx (ix2 b 0) = (Finset.univ : Finset (Fin 8)).sup fun k => (X (ix2 b k) : EReal)) :
    ∃ I : Fin 8, shapeCast S128x1 (multiReductionI .minsi [1] S128
        (select (cmpf .oeq X (broadcastTo S128x8 mx broadcasts_S128x1_S128x8)) (iota .tc S128x8 32 [1] iota_S128x8_d1_w32)
          (broadcast S128x8 8#32)) 2147483647#32 reduces_S128x8_S128 rfl) shapeCasts_S128_S128x1 (ix2 b 0)
        = BitVec.ofNat 32 I.val
      ∧ X (ix2 b I) = mx (ix2 b 0) ∧ ∀ j, j < I → X (ix2 b j) ≠ mx (ix2 b 0) := by
  classical
  have hq : ∃ k : Fin 8, (fun k : Fin 8 => decide ((X (ix2 b k) : EReal) = mx (ix2 b 0))) k = true := by
    obtain ⟨k, _, hk⟩ := Finset.exists_mem_eq_sup (Finset.univ : Finset (Fin 8)) ⟨0, Finset.mem_univ _⟩
      (fun k => (X (ix2 b k) : EReal))
    exact ⟨k, decide_eq_true (hk.symm.trans hmx.symm)⟩
  obtain ⟨I, h1, h2, h3⟩ := fold_first _ hq
  refine ⟨I, ?_, of_decide_eq_true h2, fun j hj => of_decide_eq_false (h3 j hj)⟩
  rw [← h1]
  refine (column _ _ b).trans ?_
  refine (multiReductionI_eq_fold _ _ _ _ _ _).trans ?_
  refine (Shape.Reduces.fold_filter_drop_single reduces_S128x8_S128 IntOp.minsi _ _ (ix1 b)).trans ?_
  refine congrArg (fun f => (Finset.univ : Finset (Fin 8)).fold IntOp.minsi 2147483647#32 f) (funext fun (k : Fin 8) => ?_)
  show select (cmpf .oeq X (broadcastTo S128x8 mx broadcasts_S128x1_S128x8)) (iota .tc S128x8 32 [1] iota_S128x8_d1_w32)
          (broadcast S128x8 8#32) (reduces_S128x8_S128.lift (ix1 b) k) = _
  rw [lift_last reduces_S128x8_S128 b k, select_apply, cmpf_apply, colBroadcast, iota_single_apply, broadcast_apply]
  show Scalar.select (BitVec.ofBool (decide ((X (ix2 b k) : EReal) = mx (ix2 b 0)))) (BitVec.ofNat 32 k.val) 8#32 = _
  by_cases h : (X (ix2 b k) : EReal) = mx (ix2 b 0)
  · simp [h, Scalar.select]
  · simp [h, Scalar.select]

section Experts

variable (L : Vec Ideal S128x8 .f32) (M : Vec Ideal S128x8 .i32)

/-- The kernel's first maximum is the largest gate of the row. -/
theorem pay52_apply (b : Fin 128) : k0_pay52 (F := Ideal) L M (ix2 b 0)
    = (Finset.univ : Finset (Fin 8)).sup fun k => (k0_pay51 (F := Ideal) L M (ix2 b k) : EReal) := by
  unfold k0_pay52
  exact (column _ _ b).trans (rowMax _ _ _ _ b)

/-- The kernel's second maximum is the largest entry of the row with −1 at the first expert. -/
theorem pay55_apply (b : Fin 128) : k0_pay55 (F := Ideal) L M (ix2 b 0)
    = (Finset.univ : Finset (Fin 8)).sup fun k => (k0_pay54 (F := Ideal) L M (ix2 b k) : EReal) := by
  unfold k0_pay55
  exact (column _ _ b).trans (rowMax _ _ _ _ b)

/-- The first expert of a row. -/
def fstE (b : Fin 128) : Fin 8 := Classical.choose (first_max (k0_pay51 L M) (k0_pay52 L M) b (pay52_apply L M b))
/-- The second expert of a row. -/
def sndE (b : Fin 128) : Fin 8 := Classical.choose (first_max (k0_pay54 L M) (k0_pay55 L M) b (pay55_apply L M b))

/-- The word that names the first expert. -/
theorem pay53_apply (b : Fin 128) : k0_pay53 (F := Ideal) L M (ix2 b 0) = BitVec.ofNat 32 (fstE L M b).val :=
  (Classical.choose_spec (first_max (k0_pay51 L M) (k0_pay52 L M) b (pay52_apply L M b))).1
/-- The word that names the second expert. -/
theorem pay56_apply (b : Fin 128) : k0_pay56 (F := Ideal) L M (ix2 b 0) = BitVec.ofNat 32 (sndE L M b).val :=
  (Classical.choose_spec (first_max (k0_pay54 L M) (k0_pay55 L M) b (pay55_apply L M b))).1

/-- The first expert's gate is the row's largest. -/
theorem gate_fstE (b : Fin 128) : k0_pay51 (F := Ideal) L M (ix2 b (fstE L M b)) = k0_pay52 (F := Ideal) L M (ix2 b 0) :=
  (Classical.choose_spec (first_max (k0_pay51 L M) (k0_pay52 L M) b (pay52_apply L M b))).2.1
/-- No column before the first expert has the row's maximum. -/
theorem gate_before_fstE (b : Fin 128) : ∀ j, j < fstE L M b →
    k0_pay51 (F := Ideal) L M (ix2 b j) ≠ k0_pay52 (F := Ideal) L M (ix2 b 0) :=
  (Classical.choose_spec (first_max (k0_pay51 L M) (k0_pay52 L M) b (pay52_apply L M b))).2.2
/-- The second expert has the second maximum. -/
theorem gate_sndE (b : Fin 128) : k0_pay54 (F := Ideal) L M (ix2 b (sndE L M b)) = k0_pay55 (F := Ideal) L M (ix2 b 0) :=
  (Classical.choose_spec (first_max (k0_pay54 L M) (k0_pay55 L M) b (pay55_apply L M b))).2.1
/-- No column before the second expert has the second maximum. -/
theorem gate_before_sndE (b : Fin 128) : ∀ j, j < sndE L M b →
    k0_pay54 (F := Ideal) L M (ix2 b j) ≠ k0_pay55 (F := Ideal) L M (ix2 b 0) :=
  (Classical.choose_spec (first_max (k0_pay54 L M) (k0_pay55 L M) b (pay55_apply L M b))).2.2

end Experts

/-- Two experts' words are equal exactly where the experts are. -/
theorem ofNat_eq_iff {a b : Fin 8} : (BitVec.ofNat 32 a.val == BitVec.ofNat 32 b.val) = decide (b = a) := by
  revert a b
  decide

/-! ## The tables, given the two experts of every row -/

section Tables

variable (v36 : IVec S128x1 32) (v44 : IVec S128x8 32) (I J : Fin 128 → Fin 8)

/-- `v44` marks each row's first expert. -/
def Marks : Prop := ∀ b e, v44 (ix2 b e) = (BitVec.ofBool (decide (I b = e))).setWidth 32
/-- `v36` holds each row's second expert. -/
def Names : Prop := ∀ b, v36 (ix2 b 0) = BitVec.ofNat 32 (J b).val

variable {v36 v44 I J} (hI : Marks v44 I) (hJ : Names v36 J)

include hI in
/-- The first marks: one at each row's first expert, and zero elsewhere. -/
theorem pay61_apply (b : Fin 128) (e : Fin 8) :
    k0_pay61 (F := Ideal) v44 (ix2 b e) = ((if I b = e then 1 else 0 : ℕ) : EReal) := by
  unfold k0_pay61
  show (((v44 (ix2 b e)).toInt : ℝ) : EReal) = _
  rw [hI b e, ofBool_num]
  simp

include hJ in
/-- The second marks: one at each row's second expert, and zero elsewhere. -/
theorem pay62_apply (b : Fin 128) (e : Fin 8) :
    k0_pay62 (F := Ideal) cols v36 (ix2 b e) = ((if J b = e then 1 else 0 : ℕ) : EReal) := by
  unfold k0_pay62
  show ((((BitVec.ofBool (cols (ix2 b e) == broadcastTo S128x8 v36 broadcasts_S128x1_S128x8 (ix2 b e))).setWidth 32).toInt : ℝ) : EReal) = _
  have hc : cols (ix2 b e) = BitVec.ofNat 32 e.val := iota_single_apply _ _ _ _ _ _
  rw [colBroadcast, hJ b, hc, ofBool_num]
  show ((if (BitVec.ofNat 32 e.val == BitVec.ofNat 32 (J b).val) = true then 1 else 0 : ℕ) : EReal) = _
  rw [ofNat_eq_iff]
  simp

/-- Signed comparison of the words of small numbers is that of the numbers. -/
theorem slt_ofNat {a b : ℕ} (ha : a < 2 ^ 31) (hb : b < 2 ^ 31) : (BitVec.ofNat 32 a).slt (BitVec.ofNat 32 b) = decide (a < b) := by
  have h : ∀ n, n < 2 ^ 31 → (BitVec.ofNat 32 n).toInt = (n : ℤ) := fun n hn => by
    rw [BitVec.toInt_eq_toNat_cond, BitVec.toNat_ofNat]; omega
  unfold BitVec.slt
  rw [h a ha, h b hb]
  simp

/-- Signed comparison of the words of small numbers is that of the numbers, with equality allowed. -/
theorem sle_ofNat {a b : ℕ} (ha : a < 2 ^ 31) (hb : b < 2 ^ 31) : (BitVec.ofNat 32 a).sle (BitVec.ofNat 32 b) = decide (a ≤ b) := by
  have h : ∀ n, n < 2 ^ 31 → (BitVec.ofNat 32 n).toInt = (n : ℤ) := fun n hn => by
    rw [BitVec.toInt_eq_toNat_cond, BitVec.toNat_ofNat]; omega
  unfold BitVec.sle
  rw [h a ha, h b hb]
  simp

/-- The strictly lower triangle: one where the column is before the row. -/
theorem pay63_apply (b b' : Fin 128) : k0_pay63 (F := Ideal) (ix2 b b') = ((if b' < b then 1 else 0 : ℕ) : EReal) := by
  unfold k0_pay63
  show ((((BitVec.ofBool ((iota .tc S128x128 32 [1] iota_S128x128_d1_w32 (ix2 b b')).slt
    (iota .tc S128x128 32 [0] iota_S128x128_d0_w32 (ix2 b b')))).setWidth 32).toInt : ℝ) : EReal) = _
  rw [iota_single_apply, iota_single_apply, ofBool_num]
  show ((if (BitVec.ofNat 32 b'.val).slt (BitVec.ofNat 32 b.val) = true then 1 else 0 : ℕ) : EReal) = _
  rw [slt_ofNat (by omega) (by omega)]
  simp

/-- Natural numbers add up among the extended reals as they do among themselves. -/
theorem nat_add (a b : ℕ) : ((a : ℕ) : EReal) + (b : EReal) = ((a + b : ℕ) : EReal) := (Nat.cast_add a b).symm

/-- A column of counts, a matrix of zeros and ones times a column of ones. -/
theorem count_mul (c : FVec Ideal S128x8 .f32) (K : Fin 128 → Fin 8)
    (hc : ∀ b e, c (ix2 b e) = ((if K b = e then 1 else 0 : ℕ) : EReal)) (e : Fin 8) :
    matmul dot_S128x8_S128x1_S8x1_0_0_1_1_n_n none c
      (addf (broadcast S128x1 (Scalar.ofBits .f32 0x00000000#32 : Ideal .f32)) (broadcast S128x1 (Scalar.ofBits .f32 0x3F800000#32 : Ideal .f32)))
      (constant S8x1 .f32 0x00000000#32) (ix2 e 0) = ((Slots.cnt K e : ℕ) : EReal) := by
  refine (matmul_firstAxes none c _ _ e 0).trans ?_
  have h1 : ∀ k : Fin 128, c (ix2 k e) * (addf (broadcast S128x1 (Scalar.ofBits .f32 0x00000000#32 : Ideal .f32))
      (broadcast S128x1 (Scalar.ofBits .f32 0x3F800000#32 : Ideal .f32)) (ix2 k 0)) = ((if K k = e then 1 else 0 : ℕ) : EReal) := fun k => by
    rw [hc k e]
    show ((if K k = e then 1 else 0 : ℕ) : EReal) * (Ideal.ofBits .f32 0x00000000#32 + Ideal.ofBits .f32 0x3F800000#32) = _
    rw [ofBits_zero, ofBits_one, nat_add, natCast_mul]
    simp
  rw [Finset.sum_congr rfl fun k _ => h1 k, sum_natCast]
  show Ideal.ofBits .f32 0x00000000#32 + _ = _
  rw [ofBits_zero, nat_add, Nat.zero_add]
  rfl

include hI hJ in
/-- The kernel's padded lengths of the experts' stretches. -/
theorem pay64_apply (e : Fin 8) : k0_pay64 (F := Ideal) cols v36 v44 (ix2 e 0) = ((Slots.len I J e : ℕ) : EReal) := by
  unfold k0_pay64
  show Ideal.liftRound Int.floor (Ideal.div ((matmul dot_S128x8_S128x1_S8x1_0_0_1_1_n_n none (k0_pay61 (F := Ideal) v44)
      (addf (broadcast S128x1 (Scalar.ofBits .f32 0x00000000#32 : Ideal .f32)) (broadcast S128x1 (Scalar.ofBits .f32 0x3F800000#32 : Ideal .f32)))
      (constant S8x1 .f32 0x00000000#32) (ix2 e 0) +
    matmul dot_S128x8_S128x1_S8x1_0_0_1_1_n_n none (k0_pay62 (F := Ideal) cols v36)
      (addf (broadcast S128x1 (Scalar.ofBits .f32 0x00000000#32 : Ideal .f32)) (broadcast S128x1 (Scalar.ofBits .f32 0x3F800000#32 : Ideal .f32)))
      (constant S8x1 .f32 0x00000000#32) (ix2 e 0)) + Ideal.ofBits .f32 0x41700000#32) (Ideal.ofBits .f32 0x41800000#32))
      * Ideal.ofBits .f32 0x41800000#32 = _
  rw [count_mul _ I (pay61_apply hI) e, count_mul _ J (pay62_apply hJ) e, ofBits_fifteen, ofBits_sixteen, nat_add, nat_add,
    floor_div_sixteen, natCast_mul]
  rfl

include hI hJ in
/-- The kernel's ends of the experts' stretches. -/
theorem pay65_apply (e : Fin 8) : k0_pay65 (F := Ideal) cols v36 v44 (ix2 e 0) = ((Slots.bound I J e : ℕ) : EReal) := by
  unfold k0_pay65
  refine (Ideal.matmul_plain_apply none _ _ _ e 0).trans ?_
  have h1 : ∀ k : Fin 8, (sitofp .f32 (extui 32 (cmpi .sle (iota .tc S8x8 32 [1] iota_S8x8_d1_w32) (iota .tc S8x8 32 [0] iota_S8x8_d0_w32))
      natLt_1_32) : FVec Ideal S8x8 .f32) (ix2 e k) * k0_pay64 (F := Ideal) cols v36 v44 (ix2 k 0)
      = ((if k ≤ e then Slots.len I J k else 0 : ℕ) : EReal) := fun k => by
    rw [pay64_apply hI hJ k]
    show ((((BitVec.ofBool ((iota .tc S8x8 32 [1] iota_S8x8_d1_w32 (ix2 e k)).sle
      (iota .tc S8x8 32 [0] iota_S8x8_d0_w32 (ix2 e k)))).setWidth 32).toInt : ℝ) : EReal) * _ = _
    rw [iota_single_apply, iota_single_apply, ofBool_num]
    show ((if (BitVec.ofNat 32 k.val).sle (BitVec.ofNat 32 e.val) = true then 1 else 0 : ℕ) : EReal) * _ = _
    rw [sle_ofNat (by omega) (by omega), natCast_mul]
    by_cases h : k ≤ e
    · have h' : k.val ≤ e.val := h
      simp [h, h']
    · have h' : ¬ k.val ≤ e.val := h
      simp [h, h']
  refine (congrArg₂ (· + ·) (ofBits_zero) (Finset.sum_congr rfl fun k _ => h1 k)).trans ?_
  rw [sum_natCast, nat_add, Nat.zero_add]
  rfl

include hI hJ in
/-- The kernel's starts of the experts' stretches. -/
theorem pay66_apply (e : Fin 8) : k0_pay66 (F := Ideal) cols v36 v44 (ix2 e 0) = ((Slots.off I J e : ℕ) : EReal) := by
  unfold k0_pay66
  show k0_pay65 (F := Ideal) cols v36 v44 (ix2 e 0) - k0_pay64 (F := Ideal) cols v36 v44 (ix2 e 0) = _
  rw [pay65_apply hI hJ, pay64_apply hI hJ, natCast_sub (by rw [Slots.bound_eq]; omega)]
  rfl

/-- Earlier rows with expert `e`. -/
theorem earlier_mul (c : FVec Ideal S128x8 .f32) (K : Fin 128 → Fin 8)
    (hc : ∀ b e, c (ix2 b e) = ((if K b = e then 1 else 0 : ℕ) : EReal)) (b : Fin 128) (e : Fin 8) :
    matmul dot_S128x128_S128x8_S128x8_1_0_0_1_n_n none (k0_pay63 (F := Ideal)) c (constant S128x8 .f32 0x00000000#32) (ix2 b e)
      = ((∑ b' : Fin 128, if b' < b ∧ K b' = e then 1 else 0 : ℕ) : EReal) := by
  refine (Ideal.matmul_plain_apply none _ _ _ b e).trans ?_
  have h1 : ∀ k : Fin 128, k0_pay63 (F := Ideal) (ix2 b k) * c (ix2 k e) = ((if k < b ∧ K k = e then 1 else 0 : ℕ) : EReal) := fun k => by
    rw [pay63_apply, hc, natCast_mul]
    by_cases h : k < b <;> by_cases h' : K k = e <;> simp [h, h']
  refine (congrArg₂ (· + ·) (ofBits_zero) (Finset.sum_congr rfl fun k _ => h1 k)).trans ?_
  rw [sum_natCast, nat_add, Nat.zero_add]

/-- A sum over the experts against a mark keeps the marked expert's term. -/
theorem sum_mark (e : Fin 8) (f : Fin 8 → ℕ) : ∑ k : Fin 8, (if e = k then 1 else 0) * f k = f e := by simp

include hI in
/-- The number of rows whose first expert is `k`, at any row. -/
theorem count_row (b : Fin 128) (k : Fin 8) :
    broadcastTo S128x8 (shapeCast S1x8 (multiReduction .add [0] S8 (k0_pay61 (F := Ideal) v44) 0x00000000#32 reduces_S128x8_S8 (.inl rfl) rfl) shapeCasts_S8_S1x8) broadcasts_S1x8_S128x8 (ix2 b k)
      = ((Slots.cnt I k : ℕ) : EReal) := by
  refine (rowBroadcast _ _ b k).trans ((row _ _ k).trans ((colSum _ _ _ _ k).trans ?_))
  exact (Finset.sum_congr rfl fun b' _ => pay61_apply hI b' k).trans (sum_natCast _ _)

include hI hJ in
/-- The kernel's ranks of the second choices: after all the first choices of the same expert. -/
theorem pay67_apply (b : Fin 128) :
    k0_pay67 (F := Ideal) cols v36 v44 (ix2 b 0) = ((Slots.cnt I (J b) + Slots.rank J b : ℕ) : EReal) := by
  unfold k0_pay67
  refine (column _ _ b).trans ((rowSum _ _ _ _ b).trans ?_)
  have h1 : ∀ k : Fin 8, mulf (k0_pay62 (F := Ideal) cols v36) (addf
      (broadcastTo S128x8 (shapeCast S1x8 (multiReduction .add [0] S8 (k0_pay61 (F := Ideal) v44) 0x00000000#32 reduces_S128x8_S8 (.inl rfl) rfl) shapeCasts_S8_S1x8) broadcasts_S1x8_S128x8)
      (matmul dot_S128x128_S128x8_S128x8_1_0_0_1_n_n none (k0_pay63 (F := Ideal)) (k0_pay62 (F := Ideal) cols v36) (constant S128x8 .f32 0x00000000#32)))
      (ix2 b k) = (((if J b = k then 1 else 0) * (Slots.cnt I k + ∑ b' : Fin 128, if b' < b ∧ J b' = k then 1 else 0) : ℕ) : EReal) := fun k => by
    rw [mulf_apply, addf_apply, earlier_mul _ J (pay62_apply hJ) b k, pay62_apply hJ, count_row hI b k, nat_add, natCast_mul]
  rw [Finset.sum_congr rfl fun k _ => h1 k, sum_natCast, sum_mark (J b) fun k => Slots.cnt I k + ∑ b' : Fin 128, if b' < b ∧ J b' = k then 1 else 0]
  rfl

include hI hJ in
/-- The start of the stretch of a row's expert, as a product with the row's mark. -/
theorem start_mul (c : FVec Ideal S128x8 .f32) (K : Fin 128 → Fin 8)
    (hc : ∀ b e, c (ix2 b e) = ((if K b = e then 1 else 0 : ℕ) : EReal)) (b : Fin 128) :
    matmul dot_S128x8_S8x1_S128x1_1_0_0_1_n_n none c (k0_pay66 (F := Ideal) cols v36 v44) (constant S128x1 .f32 0x00000000#32) (ix2 b 0)
      = ((Slots.off I J (K b) : ℕ) : EReal) := by
  refine (Ideal.matmul_plain_apply none _ _ _ b 0).trans ?_
  have h1 : ∀ k : Fin 8, c (ix2 b k) * k0_pay66 (F := Ideal) cols v36 v44 (ix2 k 0)
      = (((if K b = k then 1 else 0) * Slots.off I J k : ℕ) : EReal) := fun k => by
    rw [pay66_apply hI hJ, hc, natCast_mul]
  refine (congrArg₂ (· + ·) (ofBits_zero) (Finset.sum_congr rfl fun k _ => h1 k)).trans ?_
  rw [sum_natCast, nat_add, Nat.zero_add, sum_mark (K b) (Slots.off I J)]

include hI hJ in
/-- The kernel's slots of the first choices. -/
theorem pay68_apply (b : Fin 128) : k0_pay68 (F := Ideal) cols v36 v44 (ix2 b 0) = ((Slots.slot0 I J b : ℕ) : EReal) := by
  unfold k0_pay68
  refine (addf_apply _ _ _).trans ?_
  rw [start_mul hI hJ _ I (pay61_apply hI) b]
  have h1 : ∀ k : Fin 8, mulf (k0_pay61 (F := Ideal) v44)
      (matmul dot_S128x128_S128x8_S128x8_1_0_0_1_n_n none (k0_pay63 (F := Ideal)) (k0_pay61 (F := Ideal) v44) (constant S128x8 .f32 0x00000000#32))
      (ix2 b k) = (((if I b = k then 1 else 0) * (∑ b' : Fin 128, if b' < b ∧ I b' = k then 1 else 0) : ℕ) : EReal) := fun k => by
    rw [mulf_apply, earlier_mul _ I (pay61_apply hI) b k, pay61_apply hI, natCast_mul]
  refine (congrArg (fun z : EReal => ((Slots.off I J (I b) : ℕ) : EReal) + z)
    ((column _ _ b).trans ((rowSum _ _ _ _ b).trans ((Finset.sum_congr rfl fun k _ => h1 k).trans (sum_natCast _ _))))).trans ?_
  rw [sum_mark (I b) fun k => ∑ b' : Fin 128, if b' < b ∧ I b' = k then 1 else 0, nat_add]
  rfl

include hI hJ in
/-- The kernel's starts of the stretches of the second choices. -/
theorem pay69_apply (b : Fin 128) : k0_pay69 (F := Ideal) cols v36 v44 (ix2 b 0) = ((Slots.off I J (J b) : ℕ) : EReal) := by
  unfold k0_pay69
  exact start_mul hI hJ _ J (pay62_apply hJ) b

end Tables

end Cert.Proof.KernelIdeal
end
end
-- ==== Proof.Tables.lean ====
/-
  The tables the loop reads, entry by entry: the source row and the gate of each slot, the expert of each block, the
  number of blocks. Every index they hold is in range.
-/
module

public import proofs.«01_k».proof.Proof.Routing

@[expose] public section

noncomputable section

namespace Cert.Proof.KernelIdeal

open Cert.KernelIdeal Cert.KernelIdeal.Gen Cert.Proof.Tools Cert.Proof
open Idealize.ShloMosaic Idealize.ShloMosaic.ValueIdx
open scoped BigOperators

/-- The smaller of two natural numbers is the same among the extended reals. -/
theorem nat_min (a b : ℕ) : min ((a : ℕ) : EReal) (b : EReal) = ((min a b : ℕ) : EReal) := by
  rcases Nat.le_total a b with h | h
  · rw [min_eq_left (natCast_le.mpr h), Nat.min_eq_left h]
  · rw [min_eq_right (natCast_le.mpr h), Nat.min_eq_right h]

/-- Sixteen times a number, as words. -/
theorem mul16 (t : ℕ) : IntOp.muli (BitVec.ofNat 32 t) 16#32 = BitVec.ofNat 32 (t * 16) := by
  show BitVec.ofNat 32 t * BitVec.ofNat 32 16 = _
  rw [BitVec.ofNat_mul_ofNat]

/-- The expert of block `t`. -/
theorem pay72_apply (v77 : FVec Ideal S8x1 .f32) (I J : Fin 128 → Fin 8)
    (h : ∀ e, v77 (ix2 e 0) = ((Slots.bound I J e : ℕ) : EReal)) (t : Fin 23) :
    k0_pay72 (F := Ideal) v77 (ix2 t 0) = ((Slots.be I J t.val : ℕ) : EReal) := by
  unfold k0_pay72
  refine (minimumf_apply _ _ _).trans ?_
  have h1 : ∀ e : Fin 8, (sitofp .f32 (extui 32 (cmpf .ole (broadcastTo S8x23 v77 broadcasts_S8x1_S8x23)
      (sitofp .f32 (muli (iota .tc S8x23 32 [1] iota_S8x23_d1_w32) (broadcast S8x23 16#32)) : FVec Ideal S8x23 .f32)) natLt_1_32) : FVec Ideal S8x23 .f32) (ix2 e t)
      * (addf (broadcast S8x1 (Scalar.ofBits .f32 0x00000000#32 : Ideal .f32)) (broadcast S8x1 (Scalar.ofBits .f32 0x3F800000#32 : Ideal .f32)) (ix2 e 0))
      = ((if Slots.bound I J e ≤ t.val * 16 then 1 else 0 : ℕ) : EReal) := fun e => by
    show ((((BitVec.ofBool (decide ((broadcastTo S8x23 v77 broadcasts_S8x1_S8x23 (ix2 e t) : EReal) ≤
      (((IntOp.muli (iota .tc S8x23 32 [1] iota_S8x23_d1_w32 (ix2 e t)) 16#32).toInt : ℝ) : EReal)))).setWidth 32).toInt : ℝ) : EReal)
      * (Ideal.ofBits .f32 0x00000000#32 + Ideal.ofBits .f32 0x3F800000#32) = _
    have hc : iota .tc S8x23 32 [1] iota_S8x23_d1_w32 (ix2 e t) = BitVec.ofNat 32 t.val := iota_single_apply _ _ _ _ _ _
    have ht := t.isLt
    rw [colBroadcast, h e, hc, mul16, ofInt_num _ (by omega), ofBits_zero, ofBits_one, nat_add, ofBool_num, natCast_mul]
    have hd : (decide (((Slots.bound I J e : ℕ) : EReal) ≤ ((t.val * 16 : ℕ) : EReal)) : Bool) = decide (Slots.bound I J e ≤ t.val * 16) :=
      decide_eq_decide.mpr natCast_le
    rw [hd]
    simp
  have h2 := (matmul_firstAxes none (sitofp .f32 (extui 32 (cmpf .ole (broadcastTo S8x23 v77 broadcasts_S8x1_S8x23)
      (sitofp .f32 (muli (iota .tc S8x23 32 [1] iota_S8x23_d1_w32) (broadcast S8x23 16#32)) : FVec Ideal S8x23 .f32)) natLt_1_32) : FVec Ideal S8x23 .f32)
      (addf (broadcast S8x1 (Scalar.ofBits .f32 0x00000000#32 : Ideal .f32)) (broadcast S8x1 (Scalar.ofBits .f32 0x3F800000#32 : Ideal .f32)))
      (constant S23x1 .f32 0x00000000#32) t 0).trans
    ((congrArg₂ (· + ·) (ofBits_zero) ((Finset.sum_congr rfl fun e _ => h1 e).trans (sum_natCast _ _))).trans ((nat_add _ _).trans (congrArg _ (Nat.zero_add _))))
  refine (congrArg₂ min h2 ofBits_seven).trans ?_
  rw [nat_min]
  rfl

/-- The number of blocks in use. -/
theorem pay80_apply (v77 : FVec Ideal S8x1 .f32) (I J : Fin 128 → Fin 8)
    (h : ∀ e, v77 (ix2 e 0) = ((Slots.bound I J e : ℕ) : EReal)) :
    k0_pay80 (F := Ideal) v77 (ix2 0 0) = BitVec.ofNat 32 (Slots.nb I J) := by
  unfold k0_pay80
  refine (shapeCast_apply _ _ _ (ix2 0 0) rfl).trans ?_
  show Ideal.fptosi 32 (extractStridedSlice S1x1 ![7, 0] v77 slices_S8x1_o7_0_S1x1 (ix2 0 0) * Ideal.ofBits .f32 0x3D800000#32) = _
  rw [extractStridedSlice_apply ![7, 0] v77 slices_S8x1_o7_0_S1x1 (ix2 0 0) (ix2 7 0) (fun a => by
    match a with
    | ⟨0, _⟩ => rfl
    | ⟨1, _⟩ => rfl), h, ofBits_sixteenth, mul_sixteenth _ (Slots.dvd_bound I J 7)]
  have := Slots.nb_le I J
  exact fptosi_num _ (by unfold Slots.nb at this; omega)

/-! ## Slots -/

/-- The slot numbers, in every row. -/
theorem pay73_apply (b : Fin 128) (s : Fin 368) : k0_pay73 (F := Ideal) (ix2 b s) = ((s.val : ℕ) : EReal) := by
  unfold k0_pay73
  have hc : iota .tc S128x368 32 [1] iota_S128x368_d1_w32 (ix2 b s) = BitVec.ofNat 32 s.val := iota_single_apply _ _ _ _ _ _
  show (((iota .tc S128x368 32 [1] iota_S128x368_d1_w32 (ix2 b s)).toInt : ℝ) : EReal) = _
  have := s.isLt
  rw [hc, ofInt_num _ (by omega)]

/-- The marks of the first choices: one at the slot of the row, and zero elsewhere. -/
theorem pay74_apply (v : FVec Ideal S128x1 .f32) (S : Fin 128 → ℕ) (h : ∀ b, v (ix2 b 0) = ((S b : ℕ) : EReal))
    (b : Fin 128) (s : Fin 368) : k0_pay74 (F := Ideal) v (ix2 b s) = ((if S b = s.val then 1 else 0 : ℕ) : EReal) := by
  unfold k0_pay74
  show ((((BitVec.ofBool (decide ((broadcastTo S128x368 v broadcasts_S128x1_S128x368 (ix2 b s) : EReal) =
      k0_pay73 (F := Ideal) (ix2 b s)))).setWidth 32).toInt : ℝ) : EReal) = _
  rw [colBroadcast, h b, pay73_apply, ofBool_num]
  have hd : (decide (((S b : ℕ) : EReal) = ((s.val : ℕ) : EReal)) : Bool) = decide (S b = s.val) := decide_eq_decide.mpr natCast_inj
  rw [hd]
  simp

/-- The marks of the second choices are made as those of the first, from the other slots. -/
theorem pay75_eq (v86 v89 : FVec Ideal S128x1 .f32) : k0_pay75 (F := Ideal) v86 v89 = k0_pay74 (F := Ideal) (k0_pay70 v86 v89) := rfl

/-- A slot table times a column: the sum of the column's entries over the rows in that slot. -/
theorem slot_mul (v g : FVec Ideal S128x1 .f32) (S : Fin 128 → ℕ) (h : ∀ b, v (ix2 b 0) = ((S b : ℕ) : EReal)) (s : Fin 368) :
    matmul dot_S128x368_S128x1_S368x1_0_0_1_1_n_n none (k0_pay74 (F := Ideal) v) g (constant S368x1 .f32 0x00000000#32) (ix2 s 0)
      = ∑ b : Fin 128, if S b = s.val then (g (ix2 b 0) : EReal) else 0 := by
  have h1 : ∀ b : Fin 128, (k0_pay74 (F := Ideal) v (ix2 b s) : EReal) * g (ix2 b 0) = if S b = s.val then (g (ix2 b 0) : EReal) else 0 := fun b => by
    rw [pay74_apply v S h]
    by_cases hb : S b = s.val
    · rw [if_pos hb, if_pos hb, Nat.cast_one]; exact one_mul _
    · rw [if_neg hb, if_neg hb, Nat.cast_zero]; exact zero_mul _
  refine (matmul_firstAxes none (k0_pay74 (F := Ideal) v) g _ s 0).trans ((congrArg₂ (· + ·) (ofBits_zero) (Finset.sum_congr rfl fun b _ => h1 b)).trans ?_)
  rw [Nat.cast_zero]
  exact zero_add _

/-- The sum over a one-to-one placement at the place of `b`. -/
theorem sum_at (S : Fin 128 → ℕ) (hS : ∀ b b', S b = S b' → b = b') (g : Fin 128 → EReal) (b : Fin 128) :
    (∑ b' : Fin 128, if S b' = S b then g b' else 0) = g b := by
  rw [Finset.sum_eq_single b (fun b' _ hb => if_neg fun h => hb (hS _ _ h)) (fun h => absurd (Finset.mem_univ b) h), if_pos rfl]

/-- The sum at a place nothing was put. -/
theorem sum_off (S : Fin 128 → ℕ) (s : ℕ) (hs : ∀ b, S b ≠ s) (g : Fin 128 → EReal) :
    (∑ b' : Fin 128, if S b' = s then g b' else 0) = 0 :=
  Finset.sum_eq_zero fun b' _ => if_neg (hs b')

section

variable (v86 v88 v89 : FVec Ideal S128x1 .f32) (S T : Fin 128 → ℕ)
  (hS : ∀ b, v88 (ix2 b 0) = ((S b : ℕ) : EReal)) (hT : ∀ b, k0_pay70 (F := Ideal) v86 v89 (ix2 b 0) = ((T b : ℕ) : EReal))

include hS hT in
/-- The gate column: each slot adds up the shares of the pairs that have it. -/
theorem pay76_apply (v40 v41 : FVec Ideal S128x1 .f32) (s : Fin 368) :
    k0_pay76 (F := Ideal) v40 v41 v86 v88 v89 (ix2 s 0)
      = (∑ b : Fin 128, if S b = s.val then (v40 (ix2 b 0) : EReal) else 0) + ∑ b : Fin 128, if T b = s.val then (v41 (ix2 b 0) : EReal) else 0 := by
  unfold k0_pay76
  refine (congrFun (shapeCast_self _ _) _).trans ((addf_apply _ _ _).trans ?_)
  rw [pay75_eq, slot_mul v88 v40 S hS s, slot_mul _ v41 T hT s]

include hS hT in
/-- The source column: each slot adds up the row numbers of the pairs that have it. -/
theorem pay77_apply (s : Fin 368) (n : ℕ) (hn : n < 2 ^ 31)
    (h : (∑ b : Fin 128, if S b = s.val then ((b.val : ℕ) : EReal) else 0) + (∑ b : Fin 128, if T b = s.val then ((b.val : ℕ) : EReal) else 0) = ((n : ℕ) : EReal)) :
    k0_pay77 (F := Ideal) v86 v88 v89 (ix2 s 0) = BitVec.ofNat 32 n := by
  unfold k0_pay77
  have hb : ∀ b : Fin 128, (sitofp .f32 (iota .tc S128x1 32 [0] iota_S128x1_d0_w32) : FVec Ideal S128x1 .f32) (ix2 b 0) = ((b.val : ℕ) : EReal) := fun b => by
    have hc : iota .tc S128x1 32 [0] iota_S128x1_d0_w32 (ix2 b 0) = BitVec.ofNat 32 b.val := iota_single_apply _ _ _ _ _ _
    show (((iota .tc S128x1 32 [0] iota_S128x1_d0_w32 (ix2 b 0)).toInt : ℝ) : EReal) = _
    have := b.isLt
    rw [hc, ofInt_num _ (by omega)]
  show Ideal.fptosi 32 (matmul dot_S128x368_S128x1_S368x1_0_0_1_1_n_n none (k0_pay74 (F := Ideal) v88)
      (sitofp .f32 (iota .tc S128x1 32 [0] iota_S128x1_d0_w32) : FVec Ideal S128x1 .f32) (constant S368x1 .f32 0x00000000#32) (ix2 s 0)
    + matmul dot_S128x368_S128x1_S368x1_0_0_1_1_n_n none (k0_pay75 (F := Ideal) v86 v89)
      (sitofp .f32 (iota .tc S128x1 32 [0] iota_S128x1_d0_w32) : FVec Ideal S128x1 .f32) (constant S368x1 .f32 0x00000000#32) (ix2 s 0)) = _
  rw [pay75_eq, slot_mul v88 _ S hS s, slot_mul _ _ T hT s, ← fptosi_num n hn, ← h]
  refine congrArg (Ideal.fptosi 32) (congrArg₂ (· + ·) (Finset.sum_congr rfl fun b _ => ?_) (Finset.sum_congr rfl fun b _ => ?_))
  · rw [hb b]
  · rw [hb b]

end

/-! ## The kernel's own tables -/

section Own

variable (L : Vec Ideal S128x8 .f32) (M : Vec Ideal S128x8 .i32)

/-- The kernel's first marks are those of the first expert. -/
theorem marks : Marks (k0_pay60 (F := Ideal) L M) (fstE L M) := fun b e => by
  unfold k0_pay60
  show (BitVec.ofBool (cols (ix2 b e) == broadcastTo S128x8 (k0_pay53 (F := Ideal) L M) broadcasts_S128x1_S128x8 (ix2 b e))).setWidth 32 = _
  have hc : cols (ix2 b e) = BitVec.ofNat 32 e.val := iota_single_apply _ _ _ _ _ _
  rw [colBroadcast, hc, pay53_apply]
  exact congrArg (fun p => (BitVec.ofBool p).setWidth 32) ofNat_eq_iff

/-- The kernel's second words name the second expert. -/
theorem names : Names (k0_pay56 (F := Ideal) L M) (sndE L M) := fun b => pay56_apply L M b

/-- The slot of a row's first choice. -/
abbrev sl0 (b : Fin 128) : ℕ := Slots.slot0 (fstE L M) (sndE L M) b
/-- The slot of a row's second choice. -/
abbrev sl1 (b : Fin 128) : ℕ := Slots.slot1 (fstE L M) (sndE L M) b

/-- The kernel's ends of the stretches are those of `Slots`. -/
theorem kBound_apply (e : Fin 8) : kBound L M (ix2 e 0) = ((Slots.bound (fstE L M) (sndE L M) e : ℕ) : EReal) :=
  pay65_apply (marks L M) (names L M) e

/-- The kernel's slots of the first choices are those of `Slots`. -/
theorem kSlot0_apply (b : Fin 128) : kSlot0 L M (ix2 b 0) = ((sl0 L M b : ℕ) : EReal) := pay68_apply (marks L M) (names L M) b

/-- The kernel's slots of the second choices are those of `Slots`. -/
theorem kSlot1_apply (b : Fin 128) : k0_pay70 (F := Ideal) (kRank1 L M) (kOff1 L M) (ix2 b 0) = ((sl1 L M b : ℕ) : EReal) := by
  unfold k0_pay70
  refine (addf_apply _ _ _).trans ((congrArg₂ (· + ·) (pay69_apply (marks L M) (names L M) b) (pay67_apply (marks L M) (names L M) b)).trans ?_)
  exact nat_add _ _

/-- Block `t` belongs to this expert. -/
theorem kBe_apply (t : Fin 23) : kBe L M (ix2 t 0) = BitVec.ofNat 32 (Slots.be (fstE L M) (sndE L M) t.val) := by
  unfold kBe k0_pay79
  refine (congrFun (shapeCast_self _ _) _).trans ?_
  show Ideal.fptosi 32 (k0_pay72 (F := Ideal) (kBound L M) (ix2 t 0)) = _
  rw [pay72_apply _ (fstE L M) (sndE L M) (kBound_apply L M) t]
  have := Slots.be_le (fstE L M) (sndE L M) t.val
  exact fptosi_num _ (by omega)

/-- The kernel's number of blocks is that of `Slots`. -/
theorem kNb_apply : kNb L M (ix2 0 0) = BitVec.ofNat 32 (Slots.nb (fstE L M) (sndE L M)) :=
  pay80_apply _ _ _ (kBound_apply L M)

/-- Where the source row of a slot stands, from the two sums. -/
theorem kSrc_of (s : Fin 368) (n : ℕ) (hn : n < 2 ^ 31)
    (h : (∑ b : Fin 128, if sl0 L M b = s.val then ((b.val : ℕ) : EReal) else 0)
      + (∑ b : Fin 128, if sl1 L M b = s.val then ((b.val : ℕ) : EReal) else 0) = ((n : ℕ) : EReal)) :
    kSrc L M (ix2 s 0) = BitVec.ofNat 32 n := by
  unfold kSrc k0_pay78
  refine (congrFun (shapeCast_self _ _) _).trans ?_
  exact pay77_apply _ _ _ _ _ (kSlot0_apply L M) (kSlot1_apply L M) s n hn h

/-- The gate of a slot adds up the shares of the pairs that have it. -/
theorem kGates_apply (s : Fin 368) : kGates L M (ix2 s 0)
    = (∑ b : Fin 128, if sl0 L M b = s.val then (k0_pay58 (F := Ideal) L M (ix2 b 0) : EReal) else 0)
      + ∑ b : Fin 128, if sl1 L M b = s.val then (k0_pay59 (F := Ideal) L M (ix2 b 0) : EReal) else 0 :=
  pay76_apply _ _ _ _ _ (kSlot0_apply L M) (kSlot1_apply L M) _ _ s

/-- Two first choices with the same slot are of the same row. -/
theorem sl0_inj (b b' : Fin 128) : sl0 L M b = sl0 L M b' → b = b' := fun h => Slots.slot0_inj _ _ h
/-- Two second choices with the same slot are of the same row. -/
theorem sl1_inj (b b' : Fin 128) : sl1 L M b = sl1 L M b' → b = b' := fun h => Slots.slot1_inj _ _ h
/-- A first choice and a second choice never have the same slot. -/
theorem sl0_ne_sl1 (b b' : Fin 128) : sl0 L M b ≠ sl1 L M b' := Slots.slot0_ne_slot1 _ _ b b'

/-- A row's first slot. -/
abbrev s0 (b : Fin 128) : Fin 368 := ⟨sl0 L M b, Slots.slot0_lt' _ _ b⟩
/-- A row's second slot. -/
abbrev s1 (b : Fin 128) : Fin 368 := ⟨sl1 L M b, Slots.slot1_lt' _ _ b⟩

/-- The slot of a row's first choice holds the row. -/
theorem kSrc_s0 (b : Fin 128) : kSrc L M (ix2 (s0 L M b) 0) = BitVec.ofNat 32 b.val :=
  kSrc_of L M _ _ (by have := b.isLt; omega) (by
    rw [sum_at (sl0 L M) (sl0_inj L M) (fun b => ((b.val : ℕ) : EReal)) b,
      sum_off (sl1 L M) _ (fun b' => (sl0_ne_sl1 L M b b').symm) (fun b => ((b.val : ℕ) : EReal)), add_zero])

/-- The slot of a row's second choice holds the row. -/
theorem kSrc_s1 (b : Fin 128) : kSrc L M (ix2 (s1 L M b) 0) = BitVec.ofNat 32 b.val :=
  kSrc_of L M _ _ (by have := b.isLt; omega) (by
    rw [sum_at (sl1 L M) (sl1_inj L M) (fun b => ((b.val : ℕ) : EReal)) b,
      sum_off (sl0 L M) _ (fun b' => sl0_ne_sl1 L M b' b) (fun b => ((b.val : ℕ) : EReal)), zero_add])

/-- A slot of no pair holds row 0. -/
theorem kSrc_none (s : Fin 368) (h0 : ∀ b, sl0 L M b ≠ s.val) (h1 : ∀ b, sl1 L M b ≠ s.val) : kSrc L M (ix2 s 0) = 0#32 :=
  kSrc_of L M s 0 (by omega) (by rw [sum_off _ _ h0 (fun b => ((b.val : ℕ) : EReal)), sum_off _ _ h1 (fun b => ((b.val : ℕ) : EReal)), add_zero, Nat.cast_zero])

/-- The slot of a row's first choice has the row's first share. -/
theorem kGates_s0 (b : Fin 128) : kGates L M (ix2 (s0 L M b) 0) = k0_pay58 (F := Ideal) L M (ix2 b 0) := by
  rw [kGates_apply, sum_at (sl0 L M) (sl0_inj L M) (fun b => (k0_pay58 (F := Ideal) L M (ix2 b 0) : EReal)) b,
    sum_off (sl1 L M) _ (fun b' => (sl0_ne_sl1 L M b b').symm) (fun b => (k0_pay59 (F := Ideal) L M (ix2 b 0) : EReal)), add_zero]

/-- The slot of a row's second choice has the row's second share. -/
theorem kGates_s1 (b : Fin 128) : kGates L M (ix2 (s1 L M b) 0) = k0_pay59 (F := Ideal) L M (ix2 b 0) := by
  rw [kGates_apply, sum_at (sl1 L M) (sl1_inj L M) (fun b => (k0_pay59 (F := Ideal) L M (ix2 b 0) : EReal)) b,
    sum_off (sl0 L M) _ (fun b' => sl0_ne_sl1 L M b' b) (fun b => (k0_pay58 (F := Ideal) L M (ix2 b 0) : EReal)), zero_add]

/-- A slot of no pair has gate zero. -/
theorem kGates_none (s : Fin 368) (h0 : ∀ b, sl0 L M b ≠ s.val) (h1 : ∀ b, sl1 L M b ≠ s.val) : kGates L M (ix2 s 0) = (0 : EReal) := by
  rw [kGates_apply, sum_off _ _ h0 (fun b => (k0_pay58 (F := Ideal) L M (ix2 b 0) : EReal)), sum_off _ _ h1 (fun b => (k0_pay59 (F := Ideal) L M (ix2 b 0) : EReal)), add_zero]

/-! ## Every index is in range -/

/-- Every slot's source row is below 128. -/
theorem kSrc_lt (s : Fin 368) : (kSrc L M (ix2 s 0)).toNat < 128 := by
  by_cases h0 : ∃ b, sl0 L M b = s.val
  · obtain ⟨b, hb⟩ := h0
    have : s = s0 L M b := Fin.ext hb.symm
    have hlt := b.isLt
    rw [this, kSrc_s0, BitVec.toNat_ofNat]; omega
  · by_cases h1 : ∃ b, sl1 L M b = s.val
    · obtain ⟨b, hb⟩ := h1
      have : s = s1 L M b := Fin.ext hb.symm
      have hlt := b.isLt
      rw [this, kSrc_s1, BitVec.toNat_ofNat]; omega
    · rw [kSrc_none L M s (fun b hb => h0 ⟨b, hb⟩) (fun b hb => h1 ⟨b, hb⟩)]; decide

/-- Every block's expert is below 8. -/
theorem kBe_lt (t : Fin 23) : (kBe L M (ix2 t 0)).toNat < 8 := by
  have := Slots.be_le (fstE L M) (sndE L M) t.val
  rw [kBe_apply, BitVec.toNat_ofNat]; omega

/-- The number of blocks, read as a natural number. -/
theorem kNb_toNat : (kNb L M (ix2 0 0)).toNat = Slots.nb (fstE L M) (sndE L M) := by
  have := Slots.nb_le (fstE L M) (sndE L M)
  rw [kNb_apply, BitVec.toNat_ofNat]; omega

/-- The number of blocks is at most 23. -/
theorem kNb_le : (kNb L M (ix2 0 0)).toNat ≤ 23 := by rw [kNb_toNat]; exact Slots.nb_le _ _

end Own

end Cert.Proof.KernelIdeal
end
end
-- ==== Proof.Words.lean ====
/-
  The words the loop reads back from the integer column are the entries of the tables, so every one of them is in range.
-/
module

public import proofs.«01_k».proof.Proof.Tables

@[expose] public section

noncomputable section

namespace Cert.Proof.KernelIdeal

open Cert.KernelIdeal Cert.KernelIdeal.Gen Cert.Proof.Tools Cert.Proof
open Idealize.ShloMosaic Idealize.ShloMosaic.ValueIdx Idealize.ShloMosaic.TcCoe
open scoped BigOperators

/-- The loop's counter, as a word. -/
theorem iv_eq (k : ℕ) (hk : k < 23) : Scf.iv 0#32 1#32 k = BitVec.ofNat 32 k := by
  have key : ∀ n : Fin 23, Scf.iv 0#32 1#32 n.val = BitVec.ofNat 32 n.val := by decide +kernel
  exact key ⟨k, hk⟩

/-- The place of a block's expert in the integer column. -/
theorem off1_eq (v226 : BitVec 32) (k : Fin (k0_t1_loop v226).trips) (hk : k.val < 23) : k0_off1 v226 k = ![368 + k.val, 0] := by
  have key : ∀ n : Fin 23, (368#32 + BitVec.ofNat 32 n.val).toNat = 368 + n.val := by decide +kernel
  show ![(368#32 + Scf.iv 0#32 1#32 k.val).toNat, 0] = _
  rw [iv_eq _ hk, key ⟨k.val, hk⟩]

/-- The place of a slot's source row in the integer column. -/
theorem off3_eq (v226 : BitVec 32) (k : Fin (k0_t1_loop v226).trips) (hk : k.val < 23) (j : Fin 16) :
    k0_off3 v226 k (BitVec.ofNat 32 j.val) = ![16 * k.val + j.val, 0] := by
  have key : ∀ n : Fin 23, ∀ j : Fin 16, (BitVec.ofNat 32 n.val * 16#32 + BitVec.ofNat 32 j.val).toNat = 16 * n.val + j.val := by decide +kernel
  show ![(Scf.iv 0#32 1#32 k.val * 16#32 + BitVec.ofNat 32 j.val).toNat, 0] = _
  rw [iv_eq _ hk, key ⟨k.val, hk⟩ j]

/-- The place of a block's gates in the gate column. -/
theorem off20_eq (v226 : BitVec 32) (k : Fin (k0_t1_loop v226).trips) (hk : k.val < 23) : k0_off20 v226 k = ![16 * k.val, 0] := by
  have key : ∀ n : Fin 23, (BitVec.ofNat 32 n.val * 16#32).toNat = 16 * n.val := by decide +kernel
  show ![(Scf.iv 0#32 1#32 k.val * 16#32).toNat, 0] = _
  rw [iv_eq _ hk, key ⟨k.val, hk⟩]

/-- The three stores of the integer column, for any three arrays. -/
def colPieces (A : S1x1.Idx → Elt Ideal .i32) (B : S23x1.Idx → Elt Ideal .i32) (C : S368x1.Idx → Elt Ideal .i32) : List (View.Piece (Elt Ideal) S392x1 .i32) :=
  [⟨Rect.unit (s := S392x1) ![391, 0] S1x1.size inb_S392x1_S1x1_391_0, A⟩,
   ⟨Rect.unit (s := S392x1) ![368, 0] S23x1.size inb_S392x1_S23x1_368_0, B⟩,
   ⟨Rect.unit (s := S392x1) ![0, 0] S368x1.size inb_S392x1_S368x1_0_0, C⟩]

section

variable (v : View sig .tc .vmem S392x1 .i32) (f : v.ty.Contents (Elt Ideal))
  (A : S1x1.Idx → Elt Ideal .i32) (B : S23x1.Idx → Elt Ideal .i32) (C : S368x1.Idx → Elt Ideal .i32)

/-- The integer column's first 368 words are the source rows. -/
theorem col_first (s : Fin 368) (h : s.val < 392) : v.read (Elt Ideal) (v.writes (Elt Ideal) f (colPieces A B C)) (ix2 ⟨s.val, h⟩ 0) = C (ix2 s 0) := by
  have hs := s.isLt
  have h1 := View.read_writes_cons_unit_of_not_mem (off := ![391, 0]) (off' := ![391, 0]) (size := S1x1.size) v f inb_S392x1_S1x1_391_0 A
    [⟨Rect.unit (s := S392x1) ![368, 0] S23x1.size inb_S392x1_S23x1_368_0, B⟩, ⟨Rect.unit (s := S392x1) ![0, 0] S368x1.size inb_S392x1_S368x1_0_0, C⟩]
    (ix2 ⟨s.val, h⟩ 0) rfl (0 : Fin 2) (Or.inl (by show s.val < 391; omega))
  have h2 := View.read_writes_cons_unit_of_not_mem (off := ![368, 0]) (off' := ![368, 0]) (size := S23x1.size) v f inb_S392x1_S23x1_368_0 B
    [⟨Rect.unit (s := S392x1) ![0, 0] S368x1.size inb_S392x1_S368x1_0_0, C⟩] (ix2 ⟨s.val, h⟩ 0) rfl (0 : Fin 2) (Or.inl hs)
  have h3 := View.read_writes_cons_unit_of_mem (off := ![0, 0]) (off' := ![0, 0]) (size := S368x1.size) v f inb_S392x1_S368x1_0_0 C [] (ix2 ⟨s.val, h⟩ 0) (ix2 s 0) rfl (by
    intro a
    match a with
    | ⟨0, _⟩ => exact (Nat.zero_add _).symm
    | ⟨1, _⟩ => rfl)
  exact h1.trans (h2.trans h3)

/-- The integer column's next 23 words are the experts of the blocks. -/
theorem col_second (t : Fin 23) (h : 368 + t.val < 392) : v.read (Elt Ideal) (v.writes (Elt Ideal) f (colPieces A B C)) (ix2 ⟨368 + t.val, h⟩ 0) = B (ix2 t 0) := by
  have ht := t.isLt
  have h1 := View.read_writes_cons_unit_of_not_mem (off := ![391, 0]) (off' := ![391, 0]) (size := S1x1.size) v f inb_S392x1_S1x1_391_0 A
    [⟨Rect.unit (s := S392x1) ![368, 0] S23x1.size inb_S392x1_S23x1_368_0, B⟩, ⟨Rect.unit (s := S392x1) ![0, 0] S368x1.size inb_S392x1_S368x1_0_0, C⟩]
    (ix2 ⟨368 + t.val, h⟩ 0) rfl (0 : Fin 2) (Or.inl (by show 368 + t.val < 391; omega))
  have h2 := View.read_writes_cons_unit_of_mem (off := ![368, 0]) (off' := ![368, 0]) (size := S23x1.size) v f inb_S392x1_S23x1_368_0 B
    [⟨Rect.unit (s := S392x1) ![0, 0] S368x1.size inb_S392x1_S368x1_0_0, C⟩] (ix2 ⟨368 + t.val, h⟩ 0) (ix2 t 0) rfl (by
    intro a
    match a with
    | ⟨0, _⟩ => rfl
    | ⟨1, _⟩ => rfl)
  exact h1.trans h2

/-- The integer column's last word is the number of blocks. -/
theorem col_third : v.read (Elt Ideal) (v.writes (Elt Ideal) f (colPieces A B C)) (ix2 391 0) = A (ix2 0 0) :=
  View.read_writes_cons_unit_of_mem (off := ![391, 0]) (off' := ![391, 0]) (size := S1x1.size) v f inb_S392x1_S1x1_391_0 A
    [⟨Rect.unit (s := S392x1) ![368, 0] S23x1.size inb_S392x1_S23x1_368_0, B⟩, ⟨Rect.unit (s := S392x1) ![0, 0] S368x1.size inb_S392x1_S368x1_0_0, C⟩]
    (ix2 391 0) (ix2 0 0) rfl (by
    intro a
    match a with
    | ⟨0, _⟩ => rfl
    | ⟨1, _⟩ => rfl)

end

section

variable (c : Dev nD) (arg6 : Memref sig .tc .vmem S392x1 .i32) (L : Vec Ideal S128x8 .f32) (M : Vec Ideal S128x8 .i32)

/-- The kernel's three stores to the integer column, as the three pieces named here. -/
theorem intPieces_eq : intPieces L M = colPieces (kNb L M) (kBe L M) (kSrc L M) := rfl

/-- The integer column at a slot: the slot's source row. -/
theorem intCol_src (s : Fin 368) (h : s.val < 392) : arg6.view.read (Elt Ideal) (intCol c arg6 L M) (ix2 ⟨s.val, h⟩ 0) = kSrc L M (ix2 s 0) := by
  unfold intCol
  rw [intPieces_eq, col_first]

/-- The integer column at a block: the block's expert. -/
theorem intCol_be (t : Fin 23) (h : 368 + t.val < 392) : arg6.view.read (Elt Ideal) (intCol c arg6 L M) (ix2 ⟨368 + t.val, h⟩ 0) = kBe L M (ix2 t 0) := by
  unfold intCol
  rw [intPieces_eq, col_second]

/-- The integer column at its end: the number of blocks. -/
theorem intCol_nb : arg6.view.read (Elt Ideal) (intCol c arg6 L M) (ix2 391 0) = kNb L M (ix2 0 0) := by
  unfold intCol
  rw [intPieces_eq, col_third]

/-- The number of blocks that is read back is the one that was stored. -/
theorem nbWord_eq : nbWord arg6 L M = kNb L M (ix2 0 0) := by
  refine Eq.trans ?_ (intCol_nb (0 : Dev nD) arg6 L M)
  show arg6.view.read (Elt Ideal) (arg6.view.writes (Elt Ideal) arg6.view.junk (intPieces L M)) _ = _
  refine congrArg _ (funext fun a => Fin.ext ?_)
  match a with
  | ⟨0, _⟩ => rfl
  | ⟨1, _⟩ => rfl

/-- The number of blocks that is read back is at most 23. -/
theorem nbWord_le : (nbWord arg6 L M).toNat ≤ 23 := by rw [nbWord_eq]; exact kNb_le L M

/-- The number of blocks that is read back is that of `Slots`. -/
theorem nbWord_toNat : (nbWord arg6 L M).toNat = Slots.nb (fstE L M) (sndE L M) := by rw [nbWord_eq]; exact kNb_toNat L M

/-- With at most 23 blocks, the number of a trip is below 23. -/
theorem trip_lt {w : BitVec 32} (h : w.toNat ≤ 23) (k : Fin (k0_t1_loop w).trips) : k.val < 23 := by
  have h1 := k.isLt
  have h2 := t1_trips h
  omega

/-- The expert that a trip reads is the one stored for its block. -/
theorem expWord_eq (w : BitVec 32) (hw : w.toNat ≤ 23) (hw1 : k0_chk1 w) (k : Fin (k0_t1_loop w).trips) :
    expWord c arg6 w hw1 (intCol c arg6 L M) k = kBe L M (ix2 ⟨k.val, trip_lt hw k⟩ 0) := by
  refine Eq.trans ?_ (intCol_be c arg6 L M ⟨k.val, trip_lt hw k⟩ (by have := trip_lt hw k; show 368 + k.val < 392; omega))
  have ho := off1_eq w k (trip_lt hw k)
  show arg6.view.read (Elt Ideal) (intCol c arg6 L M) _ = _
  refine congrArg _ (funext fun a => Fin.ext ?_)
  match a with
  | ⟨0, _⟩ =>
    show k0_off1 w k 0 + 1 * 0 = 368 + k.val
    rw [ho]; rfl
  | ⟨1, _⟩ =>
    show k0_off1 w k 1 + 1 * 0 = 0
    rw [ho]; rfl

/-- The source rows that a trip reads are those stored for the slots of its block. -/
theorem srcWord_eq (w : BitVec 32) (hw : w.toNat ≤ 23) (hw1 : k0_chk1 w) (k : Fin (k0_t1_loop w).trips) (j : Fin 16) :
    srcWord c arg6 w hw1 (intCol c arg6 L M) k j = kSrc L M (ix2 ⟨16 * k.val + j.val, by have := trip_lt hw k; omega⟩ 0) := by
  refine Eq.trans ?_ (intCol_src c arg6 L M ⟨16 * k.val + j.val, by have := trip_lt hw k; omega⟩ (by have := trip_lt hw k; show 16 * k.val + j.val < 392; omega))
  have ho := off3_eq w k (trip_lt hw k) j
  show arg6.view.read (Elt Ideal) (intCol c arg6 L M) _ = _
  refine congrArg _ (funext fun a => Fin.ext ?_)
  match a with
  | ⟨0, _⟩ =>
    show k0_off3 w k (BitVec.ofNat 32 j.val) 0 + 1 * 0 = 16 * k.val + j.val
    rw [ho]; rfl
  | ⟨1, _⟩ =>
    show k0_off3 w k (BitVec.ofNat 32 j.val) 1 + 1 * 0 = 0
    rw [ho]; rfl

/-- The expert that a trip reads is below 8. -/
theorem expWord_lt (k : Fin (k0_t1_loop (nbWord arg6 L M)).trips) :
    (expWord c arg6 (nbWord arg6 L M) (chk1_of (nbWord_le arg6 L M)) (intCol c arg6 L M) k).toNat < 8 := by
  rw [expWord_eq c arg6 L M _ (nbWord_le arg6 L M)]
  exact kBe_lt L M _

/-- The source rows that a trip reads are below 128. -/
theorem srcWord_lt (k : Fin (k0_t1_loop (nbWord arg6 L M)).trips) (j : Fin 16) :
    (srcWord c arg6 (nbWord arg6 L M) (chk1_of (nbWord_le arg6 L M)) (intCol c arg6 L M) k j).toNat < 128 := by
  rw [srcWord_eq c arg6 L M _ (nbWord_le arg6 L M)]
  exact kSrc_lt L M _

end

end Cert.Proof.KernelIdeal
end
end
-- ==== Proof.Run.lean ====
/-
  The run of the kernel: the body's triple placed in the pipeline's one point, the launch, and what every final state
  holds — the arguments unchanged, every counter at zero, the result array at what the loop leaves.
-/
module

public import proofs.«01_k».proof.Proof.Words
public import proofs.«01_k».proof.Proof.Gen.KernelIdeal.Frame
public import Idealize.ShloMosaic.Lib.Claim

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The body on the pipeline's buffers -/

/-- The buffers the body is called with. -/
abbrev b0 : Memref sig .tc .vmem S128x16x900 .f32 := Memref.whole cc0_stg0_0
/-- The buffer of the logits. -/
abbrev b1 : Memref sig .tc .vmem S128x8 .f32 := Memref.whole cc0_stg1_0
/-- The buffer of the mask. -/
abbrev b2 : Memref sig .tc .vmem S128x8 .i32 := Memref.whole cc0_stg2_0
/-- The buffer of the weights. -/
abbrev b3 : Memref sig .tc .vmem S8x768x900 .f32 := Memref.whole cc0_stg3_0
/-- The buffer of the biases. -/
abbrev b4 : Memref sig .tc .vmem S8x1x768 .f32 := Memref.whole cc0_stg4_0
/-- The buffer of the output. -/
abbrev b5 : Memref sig .tc .vmem S128x16x768 .bf16 := Memref.whole cc0_stg5_0
/-- The integer column. -/
abbrev b6 : Memref sig .tc .vmem S392x1 .i32 := Memref.whole cc0_scratch0
/-- The gates of the slots. -/
abbrev b7 : Memref sig .tc .vmem S368x1 .f32 := Memref.whole cc0_scratch1
/-- The table of the slots of each row. -/
abbrev b8 : Memref sig .tc .vmem S128x2 .i32 := Memref.whole cc0_scratch2
/-- The rounded weights. -/
abbrev b9 : Memref sig .tc .vmem S8x768x900 .bf16 := Memref.whole cc0_scratch3

/-- What the loop leaves in the output, from the contents of the five input buffers. -/
def leaves (c : Dev nD) (f0 : Bf (F := Ideal) c b0) (f1 : Bf (F := Ideal) c b1) (f2 : Bf (F := Ideal) c b2) (f3 : Bf (F := Ideal) c b3) (f4 : Bf (F := Ideal) c b4) : S128x16x768.Idx → EReal :=
  outAfter c b0 b4 b6 b7 b9 (k0_pay81 (F := Ideal)) (nbWord b6 (logitsAt c b1 f1) (masksAt c b2 f2)) (chk1_of (nbWord_le b6 (logitsAt c b1 f1) (masksAt c b2 f2))) f0 f4
    (intCol c b6 (logitsAt c b1 f1) (masksAt c b2 f2)) (gateCol c b7 (logitsAt c b1 f1) (masksAt c b2 f2)) (weightBuf c b3 b9 f3)
    (expWord_lt c b6 (logitsAt c b1 f1) (masksAt c b2 f2)) (srcWord_lt c b6 (logitsAt c b1 f1) (masksAt c b2 f2))
    (b5.view.read (Elt Ideal) (zeroOut c b5)) (nbWord b6 (logitsAt c b1 f1) (masksAt c b2 f2)).toNat

/-- A buffer at contents equal to `X`. -/
abbrev at_ (c : Dev nD) {S : Shape} {e : EltTy} (M : Memref sig .tc .vmem S e) (X : Bf (F := Ideal) c M) : sProp 𝕄 :=
  iprop(∃ f : Bf (F := Ideal) c M, ⌜f = X⌝ ∗ pt c M f)

/-- The body on the pipeline's buffers: the inputs stay, the output holds what the loop leaves. -/
theorem sound_kernel (c : Dev nD) (f0 : Bf (F := Ideal) c b0) (f1 : Bf (F := Ideal) c b1) (f2 : Bf (F := Ideal) c b2) (f3 : Bf (F := Ideal) c b3) (f4 : Bf (F := Ideal) c b4) :
    iprop(pt c b0 f0 ∗ pt c b1 f1 ∗ pt c b2 f2 ∗ pt c b3 f3 ∗ pt c b4 f4 ∗ (∃ f5 : Bf (F := Ideal) c b5, pt c b5 f5)
        ∗ (∃ f6 : Bf (F := Ideal) c b6, pt c b6 f6) ∗ (∃ f7 : Bf (F := Ideal) c b7, pt c b7 f7) ∗ (∃ f8 : Bf (F := Ideal) c b8, pt c b8 f8) ∗ (∃ f9 : Bf (F := Ideal) c b9, pt c b9 f9))
      ⊢ wp frame (wpE (defs₀ (F := Ideal)) 𝒱₀ (c : Thread nD τ) none) Set.univ
          (cc0__moe_body (F := Ideal) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _))
          (fun _ => iprop((pt c b0 f0 ∗ pt c b1 f1 ∗ pt c b2 f2 ∗ pt c b3 f3 ∗ pt c b4 f4 ∗ (∃ f5 : Bf (F := Ideal) c b5, ⌜b5.view.read (Elt Ideal) f5 = leaves c f0 f1 f2 f3 f4⌝ ∗ pt c b5 f5))
            ∗ ((∃ f6 : Bf (F := Ideal) c b6, pt c b6 f6) ∗ (∃ f7 : Bf (F := Ideal) c b7, pt c b7 f7) ∗ (∃ f8 : Bf (F := Ideal) c b8, pt c b8 f8) ∗ (∃ f9 : Bf (F := Ideal) c b9, pt c b9 f9)))) := by
  rw [cc0__moe_body_eq_skeleton]
  iintro ⟨H0, H1, H2, H3, H4, ⟨%f5, H5⟩, ⟨%f6, H6⟩, ⟨%f7, H7⟩, ⟨%f8, H8⟩, ⟨%f9, H9⟩⟩
  have h := body_run c b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) b9 (Memref.isWhole_whole _)
    f0 f1 f2 f3 f4 f5 f6 f7 f8 f9 (nbWord_le b6 (logitsAt c b1 f1) (masksAt c b2 f2)) (expWord_lt c b6 (logitsAt c b1 f1) (masksAt c b2 f2)) (srcWord_lt c b6 (logitsAt c b1 f1) (masksAt c b2 f2))
  have h' := triple_restated h rfl .rfl (Q' := fun _ => iprop((pt c b0 f0 ∗ pt c b1 f1 ∗ pt c b2 f2 ∗ pt c b3 f3 ∗ pt c b4 f4 ∗ (∃ f5 : Bf (F := Ideal) c b5, ⌜b5.view.read (Elt Ideal) f5 = leaves c f0 f1 f2 f3 f4⌝ ∗ pt c b5 f5))
            ∗ ((∃ f6 : Bf (F := Ideal) c b6, pt c b6 f6) ∗ (∃ f7 : Bf (F := Ideal) c b7, pt c b7 f7) ∗ (∃ f8 : Bf (F := Ideal) c b8, pt c b8 f8) ∗ (∃ f9 : Bf (F := Ideal) c b9, pt c b9 f9)))) (fun _ => by
      unfold loopInv
      iintro ⟨⟨H0, H4, ⟨%g5, H5, %hg⟩, H6, H7, H9⟩, H1, H2, H3, ⟨%g8, H8⟩⟩
      isplitl [H0 H1 H2 H3 H4 H5]
      · isplitl [H0]; · iexact H0
        isplitl [H1]; · iexact H1
        isplitl [H2]; · iexact H2
        isplitl [H3]; · iexact H3
        isplitl [H4]; · iexact H4
        iexists g5
        isplitr; · (ipureintro; exact hg)
        iexact H5
      isplitl [H6]; · iexists _; iexact H6
      isplitl [H7]; · iexists _; iexact H7
      isplitl [H8]; · iexists _; iexact H8
      iexists _; iexact H9)
  iapply h'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The pipeline's proof data -/

variable (m : (ℓ : Loc nD τ sig) → Buf (Elt Ideal) ℓ) (ρ : Dev nD → PrngReg)

/-- What the body leaves in the output's buffer, from the arrays as the region finds them. -/
def out5 (c : Dev nD) (t : Fin cfg0.N) : S128x16x768.Idx → EReal :=
  leaves c (iblk m c 0 t) (iblk m c 1 t) (iblk m c 2 t) (iblk m c 3 t) (iblk m c 4 t)

/-- The proof data of the one pipeline: the inputs' buffers at their blocks, the output's at what the loop leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
  Φ _ := Pipeline.ΦA spec0 c
  q _ := fullShare
  owed _ := 0

/-- The arrays that the launch starts from are those left by the host code before it. -/
theorem A_eq (c : Dev nD) (w : Fin cfg0.W) : (dats m 0 c).A w = V m c (Pipeline.arrRef spec0 w) := by
  dsimp only [dats]

/-- The launch leaves the data's buffer at the data. -/
theorem after0_0 (c : Dev nD) (t : Fin cfg0.N) : (dats m 0 c).after 0 t = iblk m c 0 t := by dsimp only [dats]
/-- The launch leaves the logits' buffer at the logits. -/
theorem after0_1 (c : Dev nD) (t : Fin cfg0.N) : (dats m 0 c).after 1 t = iblk m c 1 t := by dsimp only [dats]
/-- The launch leaves the mask's buffer at the mask. -/
theorem after0_2 (c : Dev nD) (t : Fin cfg0.N) : (dats m 0 c).after 2 t = iblk m c 2 t := by dsimp only [dats]
/-- The launch leaves the weights' buffer at the weights. -/
theorem after0_3 (c : Dev nD) (t : Fin cfg0.N) : (dats m 0 c).after 3 t = iblk m c 3 t := by dsimp only [dats]
/-- The launch leaves the biases' buffer at the biases. -/
theorem after0_4 (c : Dev nD) (t : Fin cfg0.N) : (dats m 0 c).after 4 t = iblk m c 4 t := by dsimp only [dats]
/-- The launch leaves the output's buffer at the output named here. -/
theorem after0_5 (c : Dev nD) (t : Fin cfg0.N) : (dats m 0 c).after 5 t = out5 m c t := by dsimp only [dats]

/-- The body finds the data in the data's buffer. -/
theorem before0_0 (c : Dev nD) (t : Fin cfg0.N) (d) : (dats m 0 c).before 0 t d = iblk m c 0 t := before0_0_of m (dats m 0 c) (A_eq m c 0) (after0_0 m c) t d
/-- The body finds the logits in the logits' buffer. -/
theorem before0_1 (c : Dev nD) (t : Fin cfg0.N) (d) : (dats m 0 c).before 1 t d = iblk m c 1 t := before0_1_of m (dats m 0 c) (A_eq m c 1) (after0_1 m c) t d
/-- The body finds the mask in the mask's buffer. -/
theorem before0_2 (c : Dev nD) (t : Fin cfg0.N) (d) : (dats m 0 c).before 2 t d = iblk m c 2 t := before0_2_of m (dats m 0 c) (A_eq m c 2) (after0_2 m c) t d
/-- The body finds the weights in the weights' buffer. -/
theorem before0_3 (c : Dev nD) (t : Fin cfg0.N) (d) : (dats m 0 c).before 3 t d = iblk m c 3 t := before0_3_of m (dats m 0 c) (A_eq m c 3) (after0_3 m c) t d
/-- The body finds the biases in the biases' buffer. -/
theorem before0_4 (c : Dev nD) (t : Fin cfg0.N) (d) : (dats m 0 c).before 4 t d = iblk m c 4 t := before0_4_of m (dats m 0 c) (A_eq m c 4) (after0_4 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- Owning a whole buffer at contents is holding it at these contents. -/
theorem owns_pt (c : Dev nD) (b : Ref sig .tc) (X : b.ty.Contents (Elt Ideal)) :
    (owns (c : Thread nD τ) (Memref.whole b) fullShare X : sProp 𝕄) ⊢ (((c : Thread nD τ).loc b) ↦{fullShare} X) := by
  rw [owns_whole_eq]
  iintro ⟨%f, %h, H⟩
  subst h
  iexact H

/-- Holding a whole buffer at contents is owning it at these contents. -/
theorem pt_owns (c : Dev nD) (b : Ref sig .tc) (X : b.ty.Contents (Elt Ideal)) :
    (((c : Thread nD τ).loc b) ↦{fullShare} X : sProp 𝕄) ⊢ owns (c : Thread nD τ) (Memref.whole b) fullShare X := by
  rw [owns_whole_eq]
  iintro H
  iexists X
  isplitr; · (ipureintro; rfl)
  iexact H

set_option maxHeartbeats 2000000 in
/-- The body at the one point: the inputs' buffers hold their blocks, so the body's triple applies. -/
theorem sound_body (c : Dev nD) (t : Fin cfg0.N) :
    bodyPre m c t ⊢ wp frame (wpE (defs₀ (F := Ideal)) 𝒱₀ (c : Thread nD τ) none) Set.univ (bodyAt0 t) (fun _ => bodyPost m c t) := by
  obtain rfl := fin_N0 t
  unfold bodyPre bodyPost
  simp only [before0_0, before0_1, before0_2, before0_3, before0_4]
  rw [show (dats m 0 c).Φ t0_0.succ = Pipeline.ΦA spec0 c from rfl, show (dats m 0 c).Φ t0_0.castSucc = Pipeline.ΦA spec0 c from rfl,
    show (dats m 0 c).owesAt () t0_0.succ = (dats m 0 c).owesAt () t0_0.castSucc from rfl,
    after0_0, after0_1, after0_2, after0_3, after0_4, after0_5]
  unfold Pipeline.ΦA
  rw [scopedRest0_eq]
  have hk := sound_kernel c (iblk m c 0 t0_0) (iblk m c 1 t0_0) (iblk m c 2 t0_0) (iblk m c 3 t0_0) (iblk m c 4 t0_0)
  have hf : iprop((pt c b0 (iblk m c 0 t0_0) ∗ pt c b1 (iblk m c 1 t0_0) ∗ pt c b2 (iblk m c 2 t0_0) ∗ pt c b3 (iblk m c 3 t0_0) ∗ pt c b4 (iblk m c 4 t0_0) ∗ (∃ f5 : Bf (F := Ideal) c b5, pt c b5 f5)
      ∗ (∃ f6 : Bf (F := Ideal) c b6, pt c b6 f6) ∗ (∃ f7 : Bf (F := Ideal) c b7, pt c b7 f7) ∗ (∃ f8 : Bf (F := Ideal) c b8, pt c b8 f8) ∗ (∃ f9 : Bf (F := Ideal) c b9, pt c b9 f9))
      ∗ ((∃ r, prngReg c r) ∗ (dats m 0 c).owesAt () t0_0.castSucc)) ⊢ _ := (sep_mono_l (Q := iprop((∃ r, prngReg c r) ∗ (dats m 0 c).owesAt () t0_0.castSucc)) hk).trans (wp_frame_r frame _ _)
  refine triple_restated hf rfl ?_ ?_
  · unfold st0_0 st0_1 st0_2 st0_3 st0_4 st0_5
    iintro ⟨⟨⟨⟨%f6, H6⟩, ⟨%f7, H7⟩, ⟨%f8, H8⟩, ⟨%f9, H9⟩⟩, Hp⟩, Ho, ⟨%d0, H0⟩, ⟨%d1, H1⟩, ⟨%d2, H2⟩, ⟨%d3, H3⟩, ⟨%d4, H4⟩, ⟨%d5, H5⟩⟩
    isplitr [Hp Ho]
    · isplitl [H0]; · iapply (owns_pt c cc0_stg0_0 _); iexact H0
      isplitl [H1]; · iapply (owns_pt c cc0_stg1_0 _); iexact H1
      isplitl [H2]; · iapply (owns_pt c cc0_stg2_0 _); iexact H2
      isplitl [H3]; · iapply (owns_pt c cc0_stg3_0 _); iexact H3
      isplitl [H4]; · iapply (owns_pt c cc0_stg4_0 _); iexact H4
      isplitl [H5]; · iexists _; iapply (owns_pt c cc0_stg5_0 _); iexact H5
      isplitl [H6]; · iexists _; iexact H6
      isplitl [H7]; · iexists _; iexact H7
      isplitl [H8]; · iexists _; iexact H8
      iexists _; iexact H9
    isplitl [Hp]; · iexact Hp
    iexact Ho
  · intro _
    show iprop(((pt c b0 (iblk m c 0 t0_0) ∗ pt c b1 (iblk m c 1 t0_0) ∗ pt c b2 (iblk m c 2 t0_0) ∗ pt c b3 (iblk m c 3 t0_0) ∗ pt c b4 (iblk m c 4 t0_0) ∗ (∃ f5 : Bf (F := Ideal) c b5, ⌜b5.view.read (Elt Ideal) f5 = leaves c (iblk m c 0 t0_0) (iblk m c 1 t0_0) (iblk m c 2 t0_0) (iblk m c 3 t0_0) (iblk m c 4 t0_0)⌝ ∗ pt c b5 f5))
            ∗ ((∃ f6 : Bf (F := Ideal) c b6, pt c b6 f6) ∗ (∃ f7 : Bf (F := Ideal) c b7, pt c b7 f7) ∗ (∃ f8 : Bf (F := Ideal) c b8, pt c b8 f8) ∗ (∃ f9 : Bf (F := Ideal) c b9, pt c b9 f9)))
      ∗ ((∃ r, prngReg c r) ∗ (dats m 0 c).owesAt () t0_0.castSucc)) ⊢ _
    iintro ⟨⟨⟨H0, H1, H2, H3, H4, ⟨%f5, %hf5, H5⟩⟩, H6, H7, H8, H9⟩, Hp, Ho⟩
    isplitl [H6 H7 H8 H9 Hp]
    · isplitr [Hp]
      · isplitl [H6]; · iexact H6
        isplitl [H7]; · iexact H7
        isplitl [H8]; · iexact H8
        iexact H9
      iexact Hp
    isplitl [Ho]; · iexact Ho
    isplitl [H0]; · iapply (pt_owns c cc0_stg0_0 _); iexact H0
    isplitl [H1]; · iapply (pt_owns c cc0_stg1_0 _); iexact H1
    isplitl [H2]; · iapply (pt_owns c cc0_stg2_0 _); iexact H2
    isplitl [H3]; · iapply (pt_owns c cc0_stg3_0 _); iexact H3
    isplitl [H4]; · iapply (pt_owns c cc0_stg4_0 _); iexact H4
    have h5 : f5 = out5 m c t0_0 := hf5
    subst h5
    iapply (pt_owns c cc0_stg5_0 _); iexact H5

/-- The body table's row is the body. -/
theorem defs₀_row (t : Fin cfg0.N) : defs₀ (F := Ideal) .tc cfg0.body (cfg0.bodyArgs t (cfg0.slots t)) = bodyAt0 t := by
  unfold defs₀; rw [Defs.onTc_tc]

/-- The body does what the launch asks of it: from the buffers it is handed it ends with those named above. -/
theorem body_obligation (c : Dev nD) : BodyObligation (dats m 0 c) (defs₀ (F := Ideal)) 𝒱₀ () Set.univ := fun t => by
  rw [bigSep_W0, bigSep_W0, defs₀_row]
  exact triple_restated (sound_body m c t) rfl .rfl fun _ => .rfl

/-! ## The run -/

set_option backward.isDefEq.respectTransparency.types false in
/-- Every execution ends with each array of the pipeline at its computed contents and every counter at zero. -/
theorem run_main : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- The argument arrays end unchanged and every counter ends at zero. -/
theorem frame_claim : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

/-- The output's one block is the whole array. -/
theorem read_block5 (f : Buf (Elt Ideal) (((cfg0.win 5).arr.view.loc ((0 : Dev nD) : Thread nD τ)))) : ((cfg0.win 5).blk t0_0).view.read (Elt Ideal) f = f := by
  have hz : (fun a => (win0_5.index t0_0) a * main_v1.ty.shape.size a) = fun _ => 0 := funext fun a => by fin_cases a <;> decide
  exact Memref.read_access_unit_zero (Elt Ideal) main_v1 hz (fun a => by fin_cases a <;> decide) f

/-- The data's one block is the first argument. -/
theorem block_0 (c : Dev nD) : iblk m c 0 t0_0 = m ((c : Thread nD τ).loc main_arg0) := by
  have hz : (fun a => (win0_0.index t0_0) a * main_arg0.ty.shape.size a) = fun _ => 0 := funext fun a => by fin_cases a <;> decide
  exact (Memref.read_access_unit_zero (Elt Ideal) main_arg0 hz (fun a => by fin_cases a <;> decide) _).trans (V_main_arg0 m c)
/-- The logits' one block is the second argument. -/
theorem block_1 (c : Dev nD) : iblk m c 1 t0_0 = m ((c : Thread nD τ).loc main_arg1) := by
  have hz : (fun a => (win0_1.index t0_0) a * main_arg1.ty.shape.size a) = fun _ => 0 := funext fun a => by fin_cases a <;> decide
  exact (Memref.read_access_unit_zero (Elt Ideal) main_arg1 hz (fun a => by fin_cases a <;> decide) _).trans (V_main_arg1 m c)
/-- The mask's one block is the third argument. -/
theorem block_2 (c : Dev nD) : iblk m c 2 t0_0 = m ((c : Thread nD τ).loc main_arg2) := by
  have hz : (fun a => (win0_2.index t0_0) a * main_arg2.ty.shape.size a) = fun _ => 0 := funext fun a => by fin_cases a <;> decide
  exact (Memref.read_access_unit_zero (Elt Ideal) main_arg2 hz (fun a => by fin_cases a <;> decide) _).trans (V_main_arg2 m c)
/-- The weights' one block is the fourth argument. -/
theorem block_3 (c : Dev nD) : iblk m c 3 t0_0 = m ((c : Thread nD τ).loc main_arg3) := by
  have hz : (fun a => (win0_3.index t0_0) a * main_arg3.ty.shape.size a) = fun _ => 0 := funext fun a => by fin_cases a <;> decide
  exact (Memref.read_access_unit_zero (Elt Ideal) main_arg3 hz (fun a => by fin_cases a <;> decide) _).trans (V_main_arg3 m c)
/-- The biases' one block is the array that the host code makes of the fifth argument. -/
theorem block_4 (c : Dev nD) : iblk m c 4 t0_0 = V m c main_v0 := by
  have hz : (fun a => (win0_4.index t0_0) a * main_v0.ty.shape.size a) = fun _ => 0 := funext fun a => by fin_cases a <;> decide
  exact Memref.read_access_unit_zero (Elt Ideal) main_v0 hz (fun a => by fin_cases a <;> decide) _

/-- The result array after the run: what the loop leaves, on the arrays as the region finds them. -/
theorem result_eq (c : Dev nD) : (dats m 0 c).arrAt (5 : Fin 6) cfg0.N = out5 m c t0_0 := by
  rw [show cfg0.N = t0_0.val + 1 from N_0, (dats m 0 c).arrAt_succ (5 : Fin 6) t0_0, if_pos (flush0_5 t0_0)]
  refine (read_block5 _).symm.trans ?_
  refine (View.read_write_univ _ _).trans ?_
  exact after0_5 m c t0_0

end Cert.Proof.KernelIdeal
end
-- ==== Proof.Block.lean ====
/-
  What one block computes: at row `16 j + l` the products of source row `l` of slot `j`'s batch entry with the expert's
  weights, summed, plus the expert's bias, times the slot's gate.
-/
module

public import proofs.«01_k».proof.Proof.Words

@[expose] public section

set_option maxRecDepth 8192

noncomputable section

namespace Cert.Proof.KernelIdeal

open Cert.KernelIdeal Cert.KernelIdeal.Gen Cert.Proof.Tools Cert.Proof
open Idealize.ShloMosaic Idealize.ShloMosaic.ValueIdx Idealize.ShloMosaic.TcCoe
open scoped BigOperators

/-- A row number divided by sixteen, as the body computes it: the signed quotient, corrected for signs that differ. -/
def div16 (x : BitVec 32) : BitVec 32 :=
  Scalar.select (IntOp.andi (IntOp.cmpi .ne (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32)))) (IntOp.cmpi .ne (IntOp.remsi .vector x 16#32) 0#32))
      (IntOp.subi (IntOp.divsi .vector x 16#32) 1#32) (IntOp.divsi .vector x 16#32)

/-- Dividing the row number of a block by sixteen, as words, gives the place of its slot in the block. -/
theorem div16_eq (r : Fin 256) : div16 (BitVec.ofNat 32 r.val) = BitVec.ofNat 32 (r.val / 16) := by
  revert r
  decide +kernel

/-- The repetition matrix: row `r` belongs to slot `r / 16` of the block. -/
theorem pay81_apply (r : Fin 256) (k : Fin 16) : k0_pay81 (F := Ideal) (ix2 r k) = if r.val / 16 = k.val then 1 else 0 := by
  have h0 : (iota Kind.tc S256x16 32 [0] iota_S256x16_d0_w32 : IVec S256x16 32) (ix2 r k) = BitVec.ofNat 32 r.val := iota_single_apply _ _ _ _ _ _
  have h1 : (iota Kind.tc S256x16 32 [1] iota_S256x16_d1_w32 : IVec S256x16 32) (ix2 r k) = BitVec.ofNat 32 k.val := iota_single_apply _ _ _ _ _ _
  show ((((BitVec.ofBool (div16 ((iota Kind.tc S256x16 32 [0] iota_S256x16_d0_w32 : IVec S256x16 32) (ix2 r k)) == (iota Kind.tc S256x16 32 [1] iota_S256x16_d1_w32 : IVec S256x16 32) (ix2 r k))).setWidth 32).toInt : ℝ) : EReal) = _
  rw [h0, h1, div16_eq, ofBool_num]
  have hb : (BitVec.ofNat 32 (r.val / 16) == BitVec.ofNat 32 k.val) = decide (r.val / 16 = k.val) := by
    rw [Bool.eq_iff_iff, beq_iff_eq, decide_eq_true_iff]
    refine ⟨fun h => ?_, fun h => by rw [h]⟩
    have h' := congrArg BitVec.toNat h
    rw [BitVec.toNat_ofNat, BitVec.toNat_ofNat, Nat.mod_eq_of_lt (by have := r.isLt; omega), Nat.mod_eq_of_lt (by have := k.isLt; omega)] at h'
    exact h'
  rw [hb]
  by_cases h : r.val / 16 = k.val <;> simp [h]

/-- The sixteen gathered batch entries under one another. -/
theorem pay8_apply (X : Fin 16 → Vec Ideal S1x16x900 .f32) (j l : Fin 16) (i : Fin 900) :
    k0_pay8 (F := Ideal) (k0_pay4 (X 0)) (k0_pay5 (X 1)) (k0_pay6 (X 2)) (k0_pay7 (X 3)) (X 4) (X 5) (X 6) (X 7) (X 8) (X 9) (X 10) (X 11) (X 12) (X 13) (X 14) (X 15)
        (ix2 ⟨16 * j.val + l.val, by omega⟩ i) = X j (ix3 0 l i) := by
  have h := concatenate_ofFn_apply (t := S256x900) (s₁ := S16x900) (α := EReal) 0 (N := 16) (fun n => shapeCast S16x900 (X n) shapeCasts_S1x16x900_S16x900)
    concatenates_S16x900_S16x900_S16x900_S16x900_S16x900_S16x900_S16x900_S16x900_S16x900_S16x900_S16x900_S16x900_S16x900_S16x900_S16x900_S16x900_S256x900_d0
    rfl 16 rfl (ix2 ⟨16 * j.val + l.val, by omega⟩ i) j (by show (16 * j.val + l.val) / 16 = j.val; omega) (ix2 l i)
    (by show l.val = (16 * j.val + l.val) % 16; omega)
    (fun b hb => by
      match b with
      | ⟨0, _⟩ => exact absurd rfl hb
      | ⟨1, _⟩ => rfl)
  refine Eq.trans ?_ (h.trans ?_)
  · rfl
  · refine (shapeCast_dropUnit_apply ![16, 900] (X j) shapeCasts_S1x16x900_S16x900 _).trans ?_
    refine congrArg (X j) (funext fun a => Fin.ext ?_)
    match a with
    | ⟨0, _⟩ => rfl
    | ⟨1, _⟩ => rfl
    | ⟨2, _⟩ => rfl

/-- The block's result, from the gathered rows, the expert's weights, the gates and the expert's bias. -/
theorem pay9_apply (v : FVec Ideal S256x16 .f32) (w : FVec Ideal S768x900 .bf16) (x : FVec Ideal S256x900 .bf16) (g : Vec Ideal S16x1 .f32) (bv : Vec Ideal S1x1x768 .f32)
    (r : Fin 256) (o : Fin 768) :
    k0_pay9 (F := Ideal) v w x (constant S256x768 .f32 0x00000000#32) g bv (ix2 r o)
      = ((∑ i : Fin 900, x (ix2 r i) * w (ix2 o i)) + bv (ix3 0 0 o)) * ∑ k : Fin 16, v (ix2 r k) * g (ix2 k 0) := by
  unfold k0_pay9
  show ((matmul (F := Ideal) dot_S256x900_S768x900_S256x768_1_1_0_0_n_n none x w (constant S256x768 .f32 0x00000000#32) (ix2 r o) : EReal)
      + broadcastTo S256x768 (shapeCast S1x768 bv shapeCasts_S1x1x768_S1x768) broadcasts_S1x768_S256x768 (ix2 r o))
      * broadcastTo S256x768 (matmul (F := Ideal) (φ₂ := .f32) dot_S256x16_S16x1_S256x1_1_0_0_1_n_n none v g (constant S256x1 .f32 0x00000000#32)) broadcasts_S256x1_S256x768 (ix2 r o) = _
  have h1 : (matmul (F := Ideal) dot_S256x900_S768x900_S256x768_1_1_0_0_n_n none x w (constant S256x768 .f32 0x00000000#32) (ix2 r o) : EReal)
      = ∑ i : Fin 900, x (ix2 r i) * w (ix2 o i) := by
    refine (Ideal.matmul_transposedRhs_apply none x w _ r o).trans ?_
    refine (congrArg (· + _) (ofBits_zero.trans Nat.cast_zero)).trans (zero_add _)
  have h2 : (matmul (F := Ideal) (φ₂ := .f32) dot_S256x16_S16x1_S256x1_1_0_0_1_n_n none v g (constant S256x1 .f32 0x00000000#32) (ix2 r 0) : EReal)
      = ∑ k : Fin 16, v (ix2 r k) * g (ix2 k 0) := by
    refine (Ideal.matmul_plain_apply none v g _ r 0).trans ?_
    refine (congrArg (· + _) (ofBits_zero.trans Nat.cast_zero)).trans (zero_add _)
  have h3 : shapeCast S1x768 bv shapeCasts_S1x1x768_S1x768 (ix2 0 o) = bv (ix3 0 0 o) := by
    refine (shapeCast_dropUnit_apply ![1, 768] bv shapeCasts_S1x1x768_S1x768 _).trans ?_
    refine congrArg bv (funext fun a => Fin.ext ?_)
    match a with
    | ⟨0, _⟩ => rfl
    | ⟨1, _⟩ => rfl
    | ⟨2, _⟩ => rfl
  have e1 : broadcastTo S256x768 (shapeCast S1x768 bv shapeCasts_S1x1x768_S1x768) broadcasts_S1x768_S256x768 (ix2 r o) = bv (ix3 0 0 o) := (rowBroadcast _ _ r o).trans h3
  have e2 := (colBroadcast (matmul (F := Ideal) (φ₂ := .f32) dot_S256x16_S16x1_S256x1_1_0_0_1_n_n none v g (constant S256x1 .f32 0x00000000#32)) broadcasts_S256x1_S256x768 r o).trans h2
  exact congrArg₂ (· * ·) (congrArg₂ (· + ·) h1 e1) e2

end Cert.Proof.KernelIdeal
end
-- ==== Proof.Stored.lean ====
/-
  What the loop reads — the rounded weights, the gates of the slots, the gathered rows — and with it the value of one
  block's result.
-/
module

public import proofs.«01_k».proof.Proof.Block

@[expose] public section

set_option maxRecDepth 8192

noncomputable section

namespace Cert.Proof.KernelIdeal

open Cert.KernelIdeal Cert.KernelIdeal.Gen Cert.Proof.Tools Cert.Proof
open Idealize.ShloMosaic Idealize.ShloMosaic.ValueIdx Idealize.ShloMosaic.TcCoe
open Idealize.SL Idealize.SL.RA Idealize.SL.BI
open Idealize.SL.Sem
open scoped BigOperators

/-- One of the eight experts' matrices lies inside the array of all. -/
theorem expert_inb (n : ℕ) (h : n < 8) (a : Fin 3) : (![n, 0, 0] : Fin 3 → ℕ) a + S1x768x900.size a ≤ S8x768x900.size a := by
  match a with
  | ⟨0, _⟩ => exact h
  | ⟨1, _⟩ => exact le_rfl
  | ⟨2, _⟩ => exact le_rfl

/-- The stores of the first `n` experts' matrices, the last first. -/
def experts (P : Fin 8 → S1x768x900.Idx → Elt Ideal .bf16) : (n : ℕ) → n ≤ 8 → List (View.Piece (Elt Ideal) S8x768x900 .bf16)
  | 0, _ => []
  | n + 1, h => ⟨Rect.unit (s := S8x768x900) ![n, 0, 0] S1x768x900.size (expert_inb n h), P ⟨n, h⟩⟩ :: experts P n (Nat.le_of_succ_le h)

/-- After the stores expert `e`'s matrix is the one stored for it. -/
theorem experts_read (v : View sig .tc .vmem S8x768x900 .bf16) (f : v.ty.Contents (Elt Ideal)) (P : Fin 8 → S1x768x900.Idx → Elt Ideal .bf16)
    (e : Fin 8) (o : Fin 768) (i : Fin 900) : ∀ (n : ℕ) (h : n ≤ 8), e.val < n →
      v.read (Elt Ideal) (v.writes (Elt Ideal) f (experts P n h)) (ix3 e o i) = P e (ix3 0 o i)
  | 0, _, he => absurd he (Nat.not_lt_zero _)
  | n + 1, h, he => by
    by_cases hn : e.val = n
    · refine (View.read_writes_cons_unit_of_mem (off := ![n, 0, 0]) (off' := ![n, 0, 0]) (size := S1x768x900.size) v f (expert_inb n h) (P ⟨n, h⟩) (experts P n (Nat.le_of_succ_le h))
        (ix3 e o i) (ix3 0 o i) rfl (fun a => ?_)).trans ?_
      · match a with
        | ⟨0, _⟩ => exact hn
        | ⟨1, _⟩ => exact (Nat.zero_add _).symm
        | ⟨2, _⟩ => exact (Nat.zero_add _).symm
      · have : (⟨n, h⟩ : Fin 8) = e := Fin.ext hn.symm
        rw [this]
    · refine (View.read_writes_cons_unit_of_not_mem (off := ![n, 0, 0]) (off' := ![n, 0, 0]) (size := S1x768x900.size) v f (expert_inb n h) (P ⟨n, h⟩) (experts P n (Nat.le_of_succ_le h))
        (ix3 e o i) rfl (0 : Fin 3) (Or.inl ?_)).trans (experts_read v f P e o i n _ ?_)
      · show e.val < n
        omega
      · omega

/-- The rounding of one expert's matrix changes nothing. -/
theorem round_apply (X : FVec Ideal S1x768x900 .f32) (o : Fin 768) (i : Fin 900) : k0_pay82 (F := Ideal) X (ix3 0 o i) = X (ix3 0 o i) := by
  unfold k0_pay82
  refine (shapeCast_addUnit_apply ![768, 900] _ shapeCasts_S768x900_S1x768x900 _).trans ?_
  refine (shapeCast_dropUnit_apply ![768, 900] X shapeCasts_S1x768x900_S768x900 _).trans ?_
  refine congrArg X (funext fun a => Fin.ext ?_)
  match a with
  | ⟨0, _⟩ => rfl
  | ⟨1, _⟩ => rfl
  | ⟨2, _⟩ => rfl

/-- The rounded weights are the weights. -/
theorem weightBuf_read (c : Dev nD) (arg3 : Memref sig .tc .vmem S8x768x900 .f32) (arg9 : Memref sig .tc .vmem S8x768x900 .bf16) (f3 : Bf (F := Ideal) c arg3)
    (e : Fin 8) (o : Fin 768) (i : Fin 900) :
    arg9.view.read (Elt Ideal) (weightBuf c arg3 arg9 f3) (ix3 e o i) = arg3.view.read (Elt Ideal) f3 (ix3 e o i) := by
  have h : weightPieces c arg3 f3 = experts (fun n => k0_pay82 (F := Ideal) (arg3.view.readAt (Elt Ideal) (Rect.unit (s := S8x768x900) ![n.val, 0, 0] S1x768x900.size (expert_inb n.val n.isLt)).toLoadRect f3)) 8 le_rfl := rfl
  unfold weightBuf
  rw [h, experts_read _ _ _ e o i 8 le_rfl e.isLt, round_apply, View.readAt_unit arg3.view f3 _ rfl (expert_inb e.val e.isLt)]
  refine congrArg (arg3.view.read (Elt Ideal) f3) (funext fun a => Fin.ext ?_)
  match a with
  | ⟨0, _⟩ => show e.val + 1 * 0 = e.val; omega
  | ⟨1, _⟩ => show 0 + 1 * o.val = o.val; omega
  | ⟨2, _⟩ => show 0 + 1 * i.val = i.val; omega

/-- A store of the whole column of gates is read back. -/
theorem column_read (v : View sig .tc .vmem S368x1 .f32) (f : v.ty.Contents (Elt Ideal)) (G : S368x1.Idx → Elt Ideal .f32) (s : Fin 368) :
    v.read (Elt Ideal) (v.writes (Elt Ideal) f [⟨Rect.unit (s := S368x1) ![0, 0] S368x1.size inb_S368x1_S368x1_0_0, G⟩]) (ix2 s 0) = G (ix2 s 0) :=
  View.read_writes_cons_unit_of_mem (off := ![0, 0]) (off' := ![0, 0]) (size := S368x1.size) v f inb_S368x1_S368x1_0_0 G [] (ix2 s 0) (ix2 s 0) rfl (by
    intro a
    match a with
    | ⟨0, _⟩ => exact (Nat.zero_add _).symm
    | ⟨1, _⟩ => rfl)

/-- A store of the whole output is read back. -/
theorem whole_read (v : View sig .tc .vmem S128x16x768 .bf16) (f : v.ty.Contents (Elt Ideal)) (G : S128x16x768.Idx → Elt Ideal .bf16) (b : Fin 128) (l : Fin 16) (o : Fin 768) :
    v.read (Elt Ideal) (v.writes (Elt Ideal) f [⟨Rect.unit (s := S128x16x768) ![0, 0, 0] S128x16x768.size inb_S128x16x768_S128x16x768_0_0_0, G⟩]) (ix3 b l o) = G (ix3 b l o) :=
  View.read_writes_cons_unit_of_mem (off := ![0, 0, 0]) (off' := ![0, 0, 0]) (size := S128x16x768.size) v f inb_S128x16x768_S128x16x768_0_0_0 G [] (ix3 b l o) (ix3 b l o) rfl (by
    intro a
    match a with
    | ⟨0, _⟩ => exact (Nat.zero_add _).symm
    | ⟨1, _⟩ => exact (Nat.zero_add _).symm
    | ⟨2, _⟩ => exact (Nat.zero_add _).symm)

/-- The gates read back are the gates computed. -/
theorem gateCol_read (c : Dev nD) (arg7 : Memref sig .tc .vmem S368x1 .f32) (L : Vec Ideal S128x8 .f32) (M : Vec Ideal S128x8 .i32) (s : Fin 368) :
    arg7.view.read (Elt Ideal) (gateCol c arg7 L M) (ix2 s 0) = kGates L M (ix2 s 0) := by
  unfold gateCol
  exact column_read arg7.view _ (kGates L M) s

/-- The output is zero when the loop starts. -/
theorem zeroOut_read (c : Dev nD) (arg5 : Memref sig .tc .vmem S128x16x768 .bf16) (b : Fin 128) (l : Fin 16) (o : Fin 768) :
    arg5.view.read (Elt Ideal) (zeroOut c arg5) (ix3 b l o) = (0 : EReal) := by
  unfold zeroOut
  refine (whole_read arg5.view _ (k0_pay91 (F := Ideal)) b l o).trans ?_
  show Ideal.ofBits .bf16 0#16 = 0
  simp [Ideal.ofBits, Ideal.ieee]

section

variable (c : Dev nD) (arg0 : Memref sig .tc .vmem S128x16x900 .f32) (arg4 : Memref sig .tc .vmem S8x1x768 .f32) (arg6 : Memref sig .tc .vmem S392x1 .i32) (arg7 : Memref sig .tc .vmem S368x1 .f32) (arg9 : Memref sig .tc .vmem S8x768x900 .bf16)
  (w : BitVec 32) (hw : w.toNat ≤ 23) (hw1 : k0_chk1 w)
  (f0 : Bf (F := Ideal) c arg0) (f4 : Bf (F := Ideal) c arg4) (f6 : Bf (F := Ideal) c arg6) (f7 : Bf (F := Ideal) c arg7) (f9 : Bf (F := Ideal) c arg9) (k : Fin (k0_t1_loop w).trips)
  (he : (expWord c arg6 w hw1 f6 k).toNat < 8) (hs : ∀ j : Fin 16, (srcWord c arg6 w hw1 f6 k j).toNat < 128)

/-- The result of a block at row `16 j + l`. -/
theorem blockY_apply (j l : Fin 16) (o : Fin 768) :
    blockY c arg0 arg4 arg6 arg7 arg9 (k0_pay81 (F := Ideal)) w hw1 f0 f4 f6 f7 f9 k he hs (ix2 ⟨16 * j.val + l.val, by omega⟩ o)
      = (((∑ i : Fin 900, (arg0.view.read (Elt Ideal) f0 (ix3 ⟨_, hs j⟩ l i) : EReal) * arg9.view.read (Elt Ideal) f9 (ix3 ⟨_, he⟩ o i))
          + arg4.view.read (Elt Ideal) f4 (ix3 ⟨_, he⟩ 0 o)) * arg7.view.read (Elt Ideal) f7 (ix2 ⟨16 * k.val + j.val, by have := trip_lt hw k; omega⟩ 0) : EReal) := by
  unfold blockY
  rw [pay9_apply]
  have hx : ∀ i : Fin 900, (k0_pay8 (k0_pay4 (arg0.view.readAt (Elt Ideal) (Rect.unit (s := S128x16x900) (k0_off4 (srcWord c arg6 w hw1 f6 k 0)) S1x16x900.size (chk3_of (hs 0)).1).toLoadRect f0)) (k0_pay5 (arg0.view.readAt (Elt Ideal) (Rect.unit (s := S128x16x900) (k0_off4 (srcWord c arg6 w hw1 f6 k 1)) S1x16x900.size (chk3_of (hs 1)).1).toLoadRect f0)) (k0_pay6 (arg0.view.readAt (Elt Ideal) (Rect.unit (s := S128x16x900) (k0_off4 (srcWord c arg6 w hw1 f6 k 2)) S1x16x900.size (chk3_of (hs 2)).1).toLoadRect f0)) (k0_pay7 (arg0.view.readAt (Elt Ideal) (Rect.unit (s := S128x16x900) (k0_off4 (srcWord c arg6 w hw1 f6 k 3)) S1x16x900.size (chk3_of (hs 3)).1).toLoadRect f0)) (arg0.view.readAt (Elt Ideal) (Rect.unit (s := S128x16x900) (k0_off4 (srcWord c arg6 w hw1 f6 k 4)) S1x16x900.size (chk3_of (hs 4)).1).toLoadRect f0) (arg0.view.readAt (Elt Ideal) (Rect.unit (s := S128x16x900) (k0_off4 (srcWord c arg6 w hw1 f6 k 5)) S1x16x900.size (chk3_of (hs 5)).1).toLoadRect f0) (arg0.view.readAt (Elt Ideal) (Rect.unit (s := S128x16x900) (k0_off4 (srcWord c arg6 w hw1 f6 k 6)) S1x16x900.size (chk3_of (hs 6)).1).toLoadRect f0) (arg0.view.readAt (Elt Ideal) (Rect.unit (s := S128x16x900) (k0_off4 (srcWord c arg6 w hw1 f6 k 7)) S1x16x900.size (chk3_of (hs 7)).1).toLoadRect f0) (arg0.view.readAt (Elt Ideal) (Rect.unit (s := S128x16x900) (k0_off4 (srcWord c arg6 w hw1 f6 k 8)) S1x16x900.size (chk3_of (hs 8)).1).toLoadRect f0) (arg0.view.readAt (Elt Ideal) (Rect.unit (s := S128x16x900) (k0_off4 (srcWord c arg6 w hw1 f6 k 9)) S1x16x900.size (chk3_of (hs 9)).1).toLoadRect f0) (arg0.view.readAt (Elt Ideal) (Rect.unit (s := S128x16x900) (k0_off4 (srcWord c arg6 w hw1 f6 k 10)) S1x16x900.size (chk3_of (hs 10)).1).toLoadRect f0) (arg0.view.readAt (Elt Ideal) (Rect.unit (s := S128x16x900) (k0_off4 (srcWord c arg6 w hw1 f6 k 11)) S1x16x900.size (chk3_of (hs 11)).1).toLoadRect f0) (arg0.view.readAt (Elt Ideal) (Rect.unit (s := S128x16x900) (k0_off4 (srcWord c arg6 w hw1 f6 k 12)) S1x16x900.size (chk3_of (hs 12)).1).toLoadRect f0) (arg0.view.readAt (Elt Ideal) (Rect.unit (s := S128x16x900) (k0_off4 (srcWord c arg6 w hw1 f6 k 13)) S1x16x900.size (chk3_of (hs 13)).1).toLoadRect f0) (arg0.view.readAt (Elt Ideal) (Rect.unit (s := S128x16x900) (k0_off4 (srcWord c arg6 w hw1 f6 k 14)) S1x16x900.size (chk3_of (hs 14)).1).toLoadRect f0) (arg0.view.readAt (Elt Ideal) (Rect.unit (s := S128x16x900) (k0_off4 (srcWord c arg6 w hw1 f6 k 15)) S1x16x900.size (chk3_of (hs 15)).1).toLoadRect f0)) (ix2 ⟨16 * j.val + l.val, by omega⟩ i)
      = arg0.view.read (Elt Ideal) f0 (ix3 ⟨_, hs j⟩ l i) := fun i => by
    refine (pay8_apply (fun j => arg0.view.readAt (Elt Ideal) (Rect.unit (s := S128x16x900) (k0_off4 (srcWord c arg6 w hw1 f6 k j)) S1x16x900.size (chk3_of (hs j)).1).toLoadRect f0) j l i).trans ?_
    rw [View.readAt_unit arg0.view f0 _ rfl (chk3_of (hs j)).1]
    refine congrArg (arg0.view.read (Elt Ideal) f0) (funext fun a => Fin.ext ?_)
    match a with
    | ⟨0, _⟩ => show (srcWord c arg6 w hw1 f6 k j).toNat + 1 * 0 = _; rfl
    | ⟨1, _⟩ => show 0 + 1 * l.val = l.val; omega
    | ⟨2, _⟩ => show 0 + 1 * i.val = i.val; omega
  have hwt : ∀ i : Fin 900, k0_pay3 (arg9.view.readAt (Elt Ideal) (Rect.unit (s := S8x768x900) (k0_off2 (expWord c arg6 w hw1 f6 k)) S1x768x900.size (chk2_of he).1).toLoadRect f9) (ix2 o i)
      = arg9.view.read (Elt Ideal) f9 (ix3 ⟨_, he⟩ o i) := fun i => by
    unfold k0_pay3
    refine (shapeCast_dropUnit_apply ![768, 900] _ shapeCasts_S1x768x900_S768x900 _).trans ?_
    rw [View.readAt_unit arg9.view f9 _ rfl (chk2_of he).1]
    refine congrArg (arg9.view.read (Elt Ideal) f9) (funext fun a => Fin.ext ?_)
    match a with
    | ⟨0, _⟩ => show (expWord c arg6 w hw1 f6 k).toNat + 1 * 0 = _; rfl
    | ⟨1, _⟩ => show 0 + 1 * o.val = o.val; omega
    | ⟨2, _⟩ => show 0 + 1 * i.val = i.val; omega
  have hb : arg4.view.readAt (Elt Ideal) (Rect.unit (s := S8x1x768) (k0_off21 (expWord c arg6 w hw1 f6 k)) S1x1x768.size (chk2_of he).2).toLoadRect f4 (ix3 0 0 o)
      = arg4.view.read (Elt Ideal) f4 (ix3 ⟨_, he⟩ 0 o) := by
    rw [View.readAt_unit arg4.view f4 _ rfl (chk2_of he).2]
    refine congrArg (arg4.view.read (Elt Ideal) f4) (funext fun a => Fin.ext ?_)
    match a with
    | ⟨0, _⟩ => show (expWord c arg6 w hw1 f6 k).toNat + 1 * 0 = _; rfl
    | ⟨1, _⟩ => rfl
    | ⟨2, _⟩ => show 0 + 1 * o.val = o.val; omega
  have hg : ∀ q : Fin 16, arg7.view.readAt (Elt Ideal) (Rect.unit (s := S368x1) (k0_off20 w k) S16x1.size (k0_off20_inb w hw1 k)).toLoadRect f7 (ix2 q 0)
      = arg7.view.read (Elt Ideal) f7 (ix2 ⟨16 * k.val + q.val, by have := trip_lt hw k; omega⟩ 0) := fun q => by
    rw [View.readAt_unit arg7.view f7 _ rfl (k0_off20_inb w hw1 k)]
    refine congrArg (arg7.view.read (Elt Ideal) f7) (funext fun a => Fin.ext ?_)
    have h0 := off20_eq w k (trip_lt hw k)
    match a with
    | ⟨0, _⟩ =>
      show k0_off20 w k 0 + 1 * q.val = 16 * k.val + q.val
      rw [h0]; show 16 * k.val + 1 * q.val = _; omega
    | ⟨1, _⟩ =>
      show k0_off20 w k 1 + 1 * 0 = 0
      rw [h0]; rfl
  have hsum : ∑ q : Fin 16, k0_pay81 (F := Ideal) (ix2 ⟨16 * j.val + l.val, by omega⟩ q) * (arg7.view.readAt (Elt Ideal) (Rect.unit (s := S368x1) (k0_off20 w k) S16x1.size (k0_off20_inb w hw1 k)).toLoadRect f7 (ix2 q 0) : EReal)
      = arg7.view.read (Elt Ideal) f7 (ix2 ⟨16 * k.val + j.val, by have := trip_lt hw k; omega⟩ 0) := by
    rw [Finset.sum_eq_single j]
    · rw [pay81_apply, if_pos (by show (16 * j.val + l.val) / 16 = j.val; omega), hg]
      exact one_mul (_ : EReal)
    · intro q _ hq
      rw [pay81_apply, if_neg (by
        intro h
        apply hq
        apply Fin.ext
        have h' : (16 * j.val + l.val) / 16 = q.val := h
        omega)]
      exact zero_mul (_ : EReal)
    · intro h; exact absurd (Finset.mem_univ _) h
  exact congrArg₂ (fun a b : EReal => a * b) (congrArg₂ (fun a b : EReal => a + b) (Finset.sum_congr rfl fun i _ => congrArg₂ (fun a b : EReal => a * b) (hx i) (hwt i)) hb) hsum

end

end Cert.Proof.KernelIdeal
-- ==== Proof.Output.lean ====
/-
  What the loop leaves in the output: at batch entry `b` the two slots of `b` contribute, every other slot of every block
  adds nothing.
-/
module

public import proofs.«01_k».proof.Proof.Stored
public import proofs.«01_k».proof.Proof.Run

@[expose] public section

set_option maxRecDepth 8192

noncomputable section

namespace Cert.Proof.KernelIdeal

open Cert.KernelIdeal Cert.KernelIdeal.Gen Cert.Proof.Tools Cert.Proof
open Idealize.ShloMosaic Idealize.ShloMosaic.ValueIdx Idealize.ShloMosaic.TcCoe
open Idealize.SL Idealize.SL.RA Idealize.SL.BI
open Idealize.SL.Sem
open scoped BigOperators

/-- The read-modify-writes of a trip add the rows of the block's result whose batch entry is asked for. -/
theorem steps_apply (sb : Fin 16 → BitVec 32) (y : S256x768.Idx → EReal) (X : S128x16x768.Idx → EReal) (b : Fin 128) (l : Fin 16) (o : Fin 768) :
    ∀ (n : ℕ) (h : n ≤ 16), steps sb y X n h (ix3 b l o)
      = X (ix3 b l o) + ∑ j : Fin n, if b.val = (sb (Fin.castLE h j)).toNat then y (ix2 ⟨16 * j.val + l.val, by omega⟩ o) else 0
  | 0, _ => by rw [Finset.univ_eq_empty, Finset.sum_empty, add_zero]; rfl
  | n + 1, h => by
    have ih := steps_apply sb y X b l o n (Nat.le_of_succ_le h)
    rw [Fin.sum_univ_castSucc, ← add_assoc]
    have e : steps sb y X (n + 1) h (ix3 b l o) = if b.val = (sb ⟨n, h⟩).toNat then steps sb y X n (Nat.le_of_succ_le h) (ix3 b l o) + y (ix2 ⟨16 * n + l.val, by omega⟩ o) else steps sb y X n (Nat.le_of_succ_le h) (ix3 b l o) := rfl
    rw [e, ih]
    show _ = _ + (if b.val = (sb ⟨n, h⟩).toNat then y (ix2 ⟨16 * n + l.val, by omega⟩ o) else 0)
    by_cases hb : b.val = (sb ⟨n, h⟩).toNat
    · rw [if_pos hb, if_pos hb]; rfl
    · rw [if_neg hb, if_neg hb, add_zero]; rfl

section

variable (L : Vec Ideal S128x8 .f32) (M : Vec Ideal S128x8 .i32)
  (x : S128x16x900.Idx → EReal) (W : S8x768x900.Idx → EReal) (B : S8x1x768.Idx → EReal) (b : Fin 128) (l : Fin 16) (o : Fin 768)

/-- Expert `e`'s layer on row `l` of batch entry `b`. -/
def layer (e : Fin 8) : EReal := (∑ i : Fin 900, x (ix3 b l i) * W (ix3 e o i)) + B (ix3 e 0 o)

/-- What slot `s` adds to batch entry `b`. -/
def slotVal (s : Fin 368) : EReal :=
  if b.val = (kSrc L M (ix2 s 0)).toNat then layer x W B b l o ⟨(kBe L M (ix2 ⟨s.val / 16, by omega⟩ 0)).toNat, kBe_lt L M _⟩ * kGates L M (ix2 s 0) else 0

/-- The same for any number. -/
def slotAt (s : ℕ) : EReal := if h : s < 368 then slotVal L M x W B b l o ⟨s, h⟩ else 0

/-- At the number of a slot, `slotAt` is that slot's contribution. -/
theorem slotAt_of {s : ℕ} (h : s < 368) : slotAt L M x W B b l o s = slotVal L M x W B b l o ⟨s, h⟩ := dif_pos h

/-- A sum over blocks of sixteen slots is the sum over all their slots. -/
theorem blocks_sum (F : ℕ → EReal) (n : ℕ) : ∑ t ∈ Finset.range n, ∑ j : Fin 16, F (16 * t + j.val) = ∑ s ∈ Finset.range (16 * n), F s := by
  induction n with
  | zero => rfl
  | succ n ih => rw [Finset.sum_range_succ, ih, Nat.mul_succ, Finset.sum_range_add, Finset.sum_range fun j => F (16 * n + j)]

/-- A number below 2³² is read back from its word. -/
theorem toNat_small {n : ℕ} (h : n < 2 ^ 32) : (BitVec.ofNat 32 n).toNat = n := by
  rw [BitVec.toNat_ofNat]; exact Nat.mod_eq_of_lt h

/-- All blocks together: the two slots of the batch entry. -/
theorem slots_sum : ∑ s ∈ Finset.range (16 * Slots.nb (fstE L M) (sndE L M)), slotAt L M x W B b l o s
    = layer x W B b l o (fstE L M b) * k0_pay58 (F := Ideal) L M (ix2 b 0) + layer x W B b l o (sndE L M b) * k0_pay59 (F := Ideal) L M (ix2 b 0) := by
  have hb := b.isLt
  have hle := Slots.nb_le (fstE L M) (sndE L M)
  rw [Finset.sum_eq_add (s0 L M b).val (s1 L M b).val (sl0_ne_sl1 L M b b)]
  · rw [slotAt_of L M x W B b l o (s0 L M b).isLt, slotAt_of L M x W B b l o (s1 L M b).isLt]
    unfold slotVal
    have e0 : (⟨(kBe L M (ix2 ⟨(s0 L M b).val / 16, by omega⟩ 0)).toNat, kBe_lt L M _⟩ : Fin 8) = fstE L M b := by
      refine Fin.ext ?_
      show (kBe L M (ix2 ⟨(s0 L M b).val / 16, by omega⟩ 0)).toNat = _
      rw [kBe_apply]
      have h : Slots.be (fstE L M) (sndE L M) ((s0 L M b).val / 16) = (fstE L M b).val := Slots.be_slot0 _ _ b
      show (BitVec.ofNat 32 (Slots.be (fstE L M) (sndE L M) ((s0 L M b).val / 16))).toNat = _
      rw [h]; exact toNat_small (by omega)
    have e1 : (⟨(kBe L M (ix2 ⟨(s1 L M b).val / 16, by omega⟩ 0)).toNat, kBe_lt L M _⟩ : Fin 8) = sndE L M b := by
      refine Fin.ext ?_
      show (kBe L M (ix2 ⟨(s1 L M b).val / 16, by omega⟩ 0)).toNat = _
      rw [kBe_apply]
      have h : Slots.be (fstE L M) (sndE L M) ((s1 L M b).val / 16) = (sndE L M b).val := Slots.be_slot1 _ _ b
      show (BitVec.ofNat 32 (Slots.be (fstE L M) (sndE L M) ((s1 L M b).val / 16))).toNat = _
      rw [h]; exact toNat_small (by omega)
    show (if b.val = (kSrc L M (ix2 (s0 L M b) 0)).toNat then layer x W B b l o (⟨(kBe L M (ix2 ⟨(s0 L M b).val / 16, by omega⟩ 0)).toNat, kBe_lt L M _⟩ : Fin 8) * kGates L M (ix2 (s0 L M b) 0) else 0)
      + (if b.val = (kSrc L M (ix2 (s1 L M b) 0)).toNat then layer x W B b l o (⟨(kBe L M (ix2 ⟨(s1 L M b).val / 16, by omega⟩ 0)).toNat, kBe_lt L M _⟩ : Fin 8) * kGates L M (ix2 (s1 L M b) 0) else 0) = _
    rw [e0, e1, kSrc_s0, kSrc_s1, toNat_small (by omega), if_pos rfl, if_pos rfl, kGates_s0, kGates_s1]
  · intro s hs hne
    have hs' : s < 368 := by have := Finset.mem_range.1 hs; omega
    rw [slotAt_of L M x W B b l o hs']
    unfold slotVal
    by_cases h0 : ∃ b', sl0 L M b' = s
    · obtain ⟨b', h0⟩ := h0
      have e : (⟨s, hs'⟩ : Fin 368) = s0 L M b' := Fin.ext h0.symm
      rw [e, kSrc_s0, toNat_small (by omega)]
      refine if_neg fun h => hne.1 ?_
      rw [Fin.ext h]; exact h0.symm
    · by_cases h1 : ∃ b', sl1 L M b' = s
      · obtain ⟨b', h1⟩ := h1
        have e : (⟨s, hs'⟩ : Fin 368) = s1 L M b' := Fin.ext h1.symm
        rw [e, kSrc_s1, toNat_small (by omega)]
        refine if_neg fun h => hne.2 ?_
        rw [Fin.ext h]; exact h1.symm
      · have hg : kGates L M (ix2 ⟨s, hs'⟩ 0) = (0 : EReal) := kGates_none L M ⟨s, hs'⟩ (fun b' h => h0 ⟨b', h⟩) (fun b' h => h1 ⟨b', h⟩)
        by_cases h : b.val = (kSrc L M (ix2 ⟨s, hs'⟩ 0)).toNat
        · rw [if_pos h, hg, mul_zero]
        · rw [if_neg h]
  · intro h; exact absurd (Finset.mem_range.2 (Slots.slot0_lt _ _ b)) h
  · intro h; exact absurd (Finset.mem_range.2 (Slots.slot1_lt _ _ b)) h

end

section

variable (c : Dev nD) (f0 : Bf (F := Ideal) c b0) (f1 : Bf (F := Ideal) c b1) (f2 : Bf (F := Ideal) c b2) (f3 : Bf (F := Ideal) c b3) (f4 : Bf (F := Ideal) c b4)
  (b : Fin 128) (l : Fin 16) (o : Fin 768)

/-- A layer on the rounded weights is the layer on the weights. -/
theorem layer_rounded (e : Fin 8) :
    (∑ i : Fin 900, (b0.view.read (Elt Ideal) f0 (ix3 b l i) : EReal) * b9.view.read (Elt Ideal) (weightBuf c b3 b9 f3) (ix3 e o i)) + b4.view.read (Elt Ideal) f4 (ix3 e 0 o)
      = layer (b0.view.read (Elt Ideal) f0) (b3.view.read (Elt Ideal) f3) (b4.view.read (Elt Ideal) f4) b l o e := by
  unfold layer
  refine congrArg₂ (fun a b : EReal => a + b) (Finset.sum_congr rfl fun i _ => congrArg₂ (fun a b : EReal => a * b) rfl ?_) rfl
  exact weightBuf_read c b3 b9 f3 e o i

set_option maxHeartbeats 1000000 in
/-- The blocks so far: their slots' contributions. -/
theorem outAfter_apply (n : ℕ) (hn : n ≤ (nbWord b6 (logitsAt c b1 f1) (masksAt c b2 f2)).toNat) :
    outAfter c b0 b4 b6 b7 b9 (k0_pay81 (F := Ideal)) (nbWord b6 (logitsAt c b1 f1) (masksAt c b2 f2)) (chk1_of (nbWord_le b6 (logitsAt c b1 f1) (masksAt c b2 f2))) f0 f4
      (intCol c b6 (logitsAt c b1 f1) (masksAt c b2 f2)) (gateCol c b7 (logitsAt c b1 f1) (masksAt c b2 f2)) (weightBuf c b3 b9 f3)
      (expWord_lt c b6 (logitsAt c b1 f1) (masksAt c b2 f2)) (srcWord_lt c b6 (logitsAt c b1 f1) (masksAt c b2 f2))
      (b5.view.read (Elt Ideal) (zeroOut c b5)) n (ix3 b l o)
    = ∑ t ∈ Finset.range n, ∑ j : Fin 16, slotAt (logitsAt c b1 f1) (masksAt c b2 f2) (b0.view.read (Elt Ideal) f0) (b3.view.read (Elt Ideal) f3) (b4.view.read (Elt Ideal) f4) b l o (16 * t + j.val) := by
  generalize hL : logitsAt c b1 f1 = L at *
  generalize hM : masksAt c b2 f2 = M at *
  have hw := nbWord_le b6 L M
  have htr := t1_trips hw
  induction n with
  | zero => exact zeroOut_read c b5 b l o
  | succ n ih =>
    have hlt : n < (k0_t1_loop (nbWord b6 L M)).trips := by omega
    have hn23 : n < 23 := by omega
    rw [Finset.sum_range_succ, ← ih (by omega)]
    refine (congrFun (dif_pos hlt) _).trans ?_
    refine (steps_apply _ _ _ b l o 16 le_rfl).trans ?_
    refine congrArg₂ (fun a b : EReal => a + b) rfl (Finset.sum_congr rfl fun j _ => ?_)
    have hj := j.isLt
    rw [slotAt_of L M _ _ _ b l o (show 16 * n + j.val < 368 by omega)]
    have hsrc := srcWord_eq c b6 L M (nbWord b6 L M) hw (chk1_of hw) ⟨n, hlt⟩ j
    have hexp := expWord_eq c b6 L M (nbWord b6 L M) hw (chk1_of hw) ⟨n, hlt⟩
    have hdiv : (⟨(16 * n + j.val) / 16, by omega⟩ : Fin 23) = ⟨n, hn23⟩ := Fin.ext (by show (16 * n + j.val) / 16 = n; omega)
    unfold slotVal
    show (if b.val = (srcWord c b6 (nbWord b6 L M) (chk1_of hw) (intCol c b6 L M) ⟨n, hlt⟩ j).toNat then _ else _)
      = if b.val = (kSrc L M (ix2 ⟨16 * n + j.val, by omega⟩ 0)).toNat then layer _ _ _ b l o ⟨(kBe L M (ix2 (⟨(16 * n + j.val) / 16, by omega⟩ : Fin 23) 0)).toNat, kBe_lt L M _⟩ * kGates L M (ix2 ⟨16 * n + j.val, by omega⟩ 0) else 0
    by_cases hb : b.val = (kSrc L M (ix2 ⟨16 * n + j.val, by omega⟩ 0)).toNat
    · rw [if_pos hb, if_pos (hb.trans (congrArg BitVec.toNat hsrc).symm)]
      refine (blockY_apply c b0 b4 b6 b7 b9 (nbWord b6 L M) hw (chk1_of hw) f0 f4 (intCol c b6 L M) (gateCol c b7 L M) (weightBuf c b3 b9 f3) ⟨n, hlt⟩ _ _ j l o).trans ?_
      have ee : (⟨_, expWord_lt c b6 L M ⟨n, hlt⟩⟩ : Fin 8) = ⟨(kBe L M (ix2 (⟨(16 * n + j.val) / 16, by omega⟩ : Fin 23) 0)).toNat, kBe_lt L M _⟩ := by
        refine Fin.ext ?_
        show (expWord c b6 (nbWord b6 L M) (chk1_of hw) (intCol c b6 L M) ⟨n, hlt⟩).toNat = (kBe L M (ix2 (⟨(16 * n + j.val) / 16, by omega⟩ : Fin 23) 0)).toNat
        rw [hdiv]
        exact congrArg BitVec.toNat hexp
      have es : (⟨_, srcWord_lt c b6 L M ⟨n, hlt⟩ j⟩ : Fin 128) = b := Fin.ext ((congrArg BitVec.toNat hsrc).trans hb.symm)
      have hg : b7.view.read (Elt Ideal) (gateCol c b7 L M) (ix2 ⟨16 * n + j.val, by omega⟩ 0) = kGates L M (ix2 ⟨16 * n + j.val, by omega⟩ 0) := gateCol_read c b7 L M ⟨16 * n + j.val, by omega⟩
      refine congrArg₂ (fun a b : EReal => a * b) ?_ hg
      refine Eq.trans ?_ (congrArg₂ (fun q e => layer (b0.view.read (Elt Ideal) f0) (b3.view.read (Elt Ideal) f3) (b4.view.read (Elt Ideal) f4) q l o e) es ee)
      exact layer_rounded c f0 f3 f4 _ l o _
    · rw [if_neg hb, if_neg (fun h => hb (h.trans (congrArg BitVec.toNat hsrc)))]

/-- What the loop leaves at `(b, l, o)`: the two chosen experts' layers, each times its gate. -/
theorem leaves_apply : leaves c f0 f1 f2 f3 f4 (ix3 b l o)
    = layer (b0.view.read (Elt Ideal) f0) (b3.view.read (Elt Ideal) f3) (b4.view.read (Elt Ideal) f4) b l o (fstE (logitsAt c b1 f1) (masksAt c b2 f2) b) * k0_pay58 (F := Ideal) (logitsAt c b1 f1) (masksAt c b2 f2) (ix2 b 0)
      + layer (b0.view.read (Elt Ideal) f0) (b3.view.read (Elt Ideal) f3) (b4.view.read (Elt Ideal) f4) b l o (sndE (logitsAt c b1 f1) (masksAt c b2 f2) b) * k0_pay59 (F := Ideal) (logitsAt c b1 f1) (masksAt c b2 f2) (ix2 b 0) := by
  unfold leaves
  rw [outAfter_apply c f0 f1 f2 f3 f4 b l o _ le_rfl, blocks_sum, nbWord_toNat, slots_sum]

end

end Cert.Proof.KernelIdeal
-- ==== Proof.Gate.lean ====
/-
  A row's gates: the softmax of its logits, times one where the mask is one and zero elsewhere. With finite logits no gate
  is negative.
-/
module

public import proofs.«01_k».proof.Proof.Tools

@[expose] public section

noncomputable section

namespace Cert.Proof.Gate

open Idealize.ShloMosaic Idealize.ShloMosaic.ValueIdx
open scoped BigOperators

variable (L : (⟨2, ![128, 8]⟩ : Shape).Idx → EReal) (M : (⟨2, ![128, 8]⟩ : Shape).Idx → BitVec 32)

/-- The greatest logit of row `b`. -/
def top (b : Fin 128) : EReal := (Finset.univ : Finset (Fin 8)).sup fun k => L (ix2 b k)
/-- The exponential of a logit less the row's greatest. -/
def wt (b : Fin 128) (e : Fin 8) : EReal := Ideal.exp (L (ix2 b e) - top L b)
/-- One where the mask is one, else zero. -/
def open' (b : Fin 128) (e : Fin 8) : EReal := ((if M (ix2 b e) == 1#32 then 1 else 0 : ℕ) : EReal)
/-- The gate of expert `e` in row `b`. -/
def gate (b : Fin 128) (e : Fin 8) : EReal := Ideal.div (wt L b e) (∑ k : Fin 8, wt L b k) * open' M b e

/-- Every logit is a real number. -/
def Finite : Prop := ∀ i, L i ≠ ⊤ ∧ L i ≠ ⊥

/-- An exponential is never negative. -/
theorem exp_nonneg (x : EReal) : 0 ≤ Ideal.exp x := by
  induction x using EReal.rec with
  | bot => exact le_refl _
  | top => exact le_top
  | coe r => exact EReal.coe_nonneg.mpr (Real.exp_pos r).le

/-- An exponential is positive, except that of −∞. -/
theorem exp_pos {x : EReal} (h : x ≠ ⊥) : 0 < Ideal.exp x := by
  induction x using EReal.rec with
  | bot => exact absurd rfl h
  | top => exact EReal.zero_lt_top
  | coe r => exact EReal.coe_pos.mpr (Real.exp_pos r)

variable {L}

/-- The largest of a row of finite logits is not +∞. -/
theorem top_finite (hL : Finite L) (b : Fin 128) : top L b ≠ ⊤ := by
  obtain ⟨k, _, hk⟩ := Finset.exists_mem_eq_sup (Finset.univ : Finset (Fin 8)) ⟨0, Finset.mem_univ _⟩
    (fun k => (L (ix2 b k) : EReal))
  unfold top
  rw [hk]
  exact (hL _).1

/-- With finite logits every exponential of a row is positive. -/
theorem wt_pos (hL : Finite L) (b : Fin 128) (e : Fin 8) : 0 < wt L b e := by
  refine exp_pos ?_
  rw [sub_eq_add_neg]
  intro h
  rcases EReal.add_eq_bot_iff.mp h with h | h
  · exact (hL _).2 h
  · exact top_finite hL b (EReal.neg_eq_bot_iff.mp h)

/-- With finite logits the sum of a row's exponentials is positive. -/
theorem sum_pos (hL : Finite L) (b : Fin 128) : 0 < ∑ k : Fin 8, wt L b k :=
  lt_of_lt_of_le (wt_pos hL b 0)
    (Finset.single_le_sum (f := fun k => wt L b k) (fun k _ => (wt_pos hL b k).le) (Finset.mem_univ 0))

/-- With finite logits no gate is negative. -/
theorem gate_nonneg (hL : Finite L) (b : Fin 128) (e : Fin 8) : 0 ≤ gate L M b e := by
  unfold gate Ideal.div
  rw [if_neg (sum_pos hL b).ne']
  refine mul_nonneg (mul_nonneg (wt_pos hL b e).le (EReal.inv_nonneg_of_nonneg (sum_pos hL b).le)) ?_
  unfold open'
  split
  · rw [Nat.cast_one]; exact zero_le_one
  · rw [Nat.cast_zero]

end Cert.Proof.Gate
-- ==== Proof.KernelGate.lean ====
/-
  The kernel's gates, its two experts and its two shares, with finite logits: the first expert is the first place of the
  row's greatest gate, the second the first place of the greatest of the others.
-/
module

public import proofs.«01_k».proof.Proof.Routing
public import proofs.«01_k».proof.Proof.Gate

@[expose] public section

noncomputable section

namespace Cert.Proof.KernelIdeal

open Cert.KernelIdeal Cert.KernelIdeal.Gen Cert.Proof.Tools Cert.Proof
open Idealize.ShloMosaic Idealize.ShloMosaic.ValueIdx
open scoped BigOperators

/-- The kernel's gates are the gates. -/
theorem pay51_apply (L : Vec Ideal S128x8 .f32) (M : Vec Ideal S128x8 .i32) (b : Fin 128) (e : Fin 8) :
    k0_pay51 (F := Ideal) L M (ix2 b e) = Gate.gate L M b e := by
  have htop : ∀ k : Fin 8, broadcastTo S128x8 (shapeCast S128x1 (multiReduction .maximumf [1] S128 L 0xFF800000#32
      reduces_S128x8_S128 (.inl rfl) rfl : FVec Ideal S128 .f32) shapeCasts_S128_S128x1) broadcasts_S128x1_S128x8 (ix2 b k)
      = Gate.top L b := fun k => by
    rw [colBroadcast]
    exact (column _ _ b).trans (rowMax _ _ _ _ b)
  have hexp : ∀ k : Fin 8, (exp (subf L (broadcastTo S128x8 (shapeCast S128x1 (multiReduction .maximumf [1] S128 L 0xFF800000#32
      reduces_S128x8_S128 (.inl rfl) rfl : FVec Ideal S128 .f32) shapeCasts_S128_S128x1) broadcasts_S128x1_S128x8)) : FVec Ideal S128x8 .f32)
      (ix2 b k) = Gate.wt L b k := fun k => by
    unfold Gate.wt
    rw [← htop k]
    rfl
  have hsum : broadcastTo S128x8 (shapeCast S128x1 (multiReduction .add [1] S128 (exp (subf L (broadcastTo S128x8 (shapeCast S128x1
      (multiReduction .maximumf [1] S128 L 0xFF800000#32 reduces_S128x8_S128 (.inl rfl) rfl : FVec Ideal S128 .f32) shapeCasts_S128_S128x1)
      broadcasts_S128x1_S128x8)) : FVec Ideal S128x8 .f32) 0x00000000#32 reduces_S128x8_S128 (.inl rfl) rfl) shapeCasts_S128_S128x1)
      broadcasts_S128x1_S128x8 (ix2 b e) = ∑ k : Fin 8, Gate.wt L b k := by
    rw [colBroadcast]
    refine ((column _ _ b).trans (rowSum _ _ _ _ b)).trans ?_
    exact Finset.sum_congr rfl fun k _ => hexp k
  have hmask : (sitofp .f32 (extui 32 (cmpi .eq M (broadcast S128x8 1#32)) natLt_1_32) : FVec Ideal S128x8 .f32) (ix2 b e)
      = Gate.open' M b e := ofBool_num _
  unfold k0_pay51 Gate.gate
  exact congrArg₂ (fun x y : EReal => x * y) (congrArg₂ Ideal.div (hexp e) hsum) hmask

/-- The word of −1 reads as −1. -/
theorem ofBits_neg_one : Ideal.ofBits .f32 0xBF800000#32 = ((-(1 : ℝ) : ℝ) : EReal) := by
  simp [Ideal.ofBits, Ideal.ieee, -EReal.coe_mul, -EReal.coe_neg]; norm_num

/-- The gates with the first expert's put to minus one. -/
theorem pay54_apply (L : Vec Ideal S128x8 .f32) (M : Vec Ideal S128x8 .i32) (b : Fin 128) (e : Fin 8) :
    k0_pay54 (F := Ideal) L M (ix2 b e) = if e = fstE L M b then ((-(1 : ℝ) : ℝ) : EReal) else Gate.gate L M b e := by
  unfold k0_pay54
  have hi : iota .tc S128x8 32 [1] iota_S128x8_d1_w32 (ix2 b e) = BitVec.ofNat 32 e.val := iota_single_apply _ _ _ _ _ _
  show Scalar.select (BitVec.ofBool (iota .tc S128x8 32 [1] iota_S128x8_d1_w32 (ix2 b e)
    == broadcastTo S128x8 (k0_pay53 (F := Ideal) L M) broadcasts_S128x1_S128x8 (ix2 b e))) (Ideal.ofBits .f32 0xBF800000#32)
    (k0_pay51 (F := Ideal) L M (ix2 b e)) = _
  rw [hi, colBroadcast, pay53_apply, ofNat_eq_iff, ofBits_neg_one, pay51_apply]
  by_cases h : e = fstE L M b
  · simp [Scalar.select, h]
  · rw [if_neg h, decide_eq_false (fun h' => h h'.symm)]
    rfl

section Finite

variable (L : Vec Ideal S128x8 .f32) (M : Vec Ideal S128x8 .i32) (hL : Gate.Finite L) (b : Fin 128)

/-- No gate of a row is above that of the kernel's first expert. -/
theorem fst_ge (q : Fin 8) : Gate.gate L M b q ≤ Gate.gate L M b (fstE L M b) := by
  rw [← pay51_apply, ← pay51_apply, gate_fstE, pay52_apply]
  exact Finset.le_sup (f := fun k => (k0_pay51 (F := Ideal) L M (ix2 b k) : EReal)) (Finset.mem_univ q)

/-- No column before the kernel's first expert has the same gate. -/
theorem fst_first (j : Fin 8) (hj : j < fstE L M b) : Gate.gate L M b j ≠ Gate.gate L M b (fstE L M b) := by
  rw [← pay51_apply, ← pay51_apply, gate_fstE]
  exact gate_before_fstE L M b j hj

/-- With the first expert's gate replaced by −1, the second expert has the largest entry. -/
theorem snd_ge' (q : Fin 8) : k0_pay54 (F := Ideal) L M (ix2 b q) ≤ (k0_pay54 (F := Ideal) L M (ix2 b (sndE L M b)) : EReal) := by
  rw [gate_sndE, pay55_apply]
  exact Finset.le_sup (f := fun k => (k0_pay54 (F := Ideal) L M (ix2 b k) : EReal)) (Finset.mem_univ q)

/-- There is an expert other than a given one. -/
theorem other (I : Fin 8) : ∃ q : Fin 8, q ≠ I := by revert I; decide

include hL in
/-- The kernel's two experts are different. -/
theorem snd_ne : sndE L M b ≠ fstE L M b := by
  intro h
  obtain ⟨q, hq⟩ := other (fstE L M b)
  have h1 := snd_ge' L M b q
  rw [pay54_apply, pay54_apply, if_neg hq, if_pos h] at h1
  have h2 := (Gate.gate_nonneg M hL b q).trans h1
  exact absurd h2 (not_le.mpr (EReal.coe_neg'.mpr (by norm_num)))

include hL in
/-- The kernel's second maximum is the gate of its second expert. -/
theorem snd_gate : k0_pay55 (F := Ideal) L M (ix2 b 0) = Gate.gate L M b (sndE L M b) := by
  rw [← gate_sndE, pay54_apply, if_neg (snd_ne L M hL b)]

include hL in
/-- No gate but the first expert's is above that of the second expert. -/
theorem snd_ge (q : Fin 8) (hq : q ≠ fstE L M b) : Gate.gate L M b q ≤ Gate.gate L M b (sndE L M b) := by
  have h1 := snd_ge' L M b q
  rwa [pay54_apply, pay54_apply, if_neg hq, if_neg (snd_ne L M hL b)] at h1

include hL in
/-- No column before the second expert, but for the first expert's, has the same gate as the second expert. -/
theorem snd_first (j : Fin 8) (hj : j < sndE L M b) (hI : j ≠ fstE L M b) : Gate.gate L M b j ≠ Gate.gate L M b (sndE L M b) := by
  have h1 := gate_before_sndE L M b j hj
  rwa [← gate_sndE, pay54_apply, pay54_apply, if_neg hI, if_neg (snd_ne L M hL b)] at h1

/-- The sum of the two gates and a small constant, by which both are divided. -/
def denom : EReal := Gate.gate L M b (fstE L M b) + Gate.gate L M b (sndE L M b) + Ideal.ofBits .f32 0x3089705F#32

/-- The small constant added to the denominator is positive. -/
theorem eps_pos : (0 : EReal) < Ideal.ofBits .f32 0x3089705F#32 := by
  simp [Ideal.ofBits, Ideal.ieee, -EReal.coe_mul]

include hL in
/-- The denominator is not zero. -/
theorem denom_ne : denom L M b ≠ 0 :=
  (lt_of_lt_of_le eps_pos (le_add_of_nonneg_left (add_nonneg (Gate.gate_nonneg M hL b _) (Gate.gate_nonneg M hL b _)))).ne'

include hL in
/-- The kernel's denominator: the two gates and the small constant. -/
theorem pay57_apply : k0_pay57 (F := Ideal) L M (ix2 b 0) = denom L M b := by
  unfold k0_pay57 denom
  refine congrArg₂ (fun x y : EReal => x + y) (congrArg₂ (fun x y : EReal => x + y) ?_ (snd_gate L M hL b)) rfl
  exact (gate_fstE L M b).symm.trans (pay51_apply L M b _)

include hL in
/-- The kernel's first share: the first expert's gate over the denominator. -/
theorem pay58_apply : k0_pay58 (F := Ideal) L M (ix2 b 0) = Ideal.div (Gate.gate L M b (fstE L M b)) (denom L M b) := by
  unfold k0_pay58
  exact congrArg₂ Ideal.div ((gate_fstE L M b).symm.trans (pay51_apply L M b _)) (pay57_apply L M hL b)

include hL in
/-- The kernel's second share: the second expert's gate over the denominator. -/
theorem pay59_apply : k0_pay59 (F := Ideal) L M (ix2 b 0) = Ideal.div (Gate.gate L M b (sndE L M b)) (denom L M b) := by
  unfold k0_pay59
  exact congrArg₂ Ideal.div (snd_gate L M hL b) (pay57_apply L M hL b)

end Finite

end Cert.Proof.KernelIdeal
-- ==== Proof.Contract.lean ====
/-
  The reference's two contractions read at one entry: the products of every expert's weights with every row, and the sum
  over the experts weighted by the shares.
-/
module

public import proofs.«01_k».proof.Proof.Gen.ReferenceIdeal
public import proofs.«01_k».proof.Proof.Tools

@[expose] public section

noncomputable section

namespace Cert.Proof.ReferenceIdeal

open Cert.ReferenceIdeal Cert.ReferenceIdeal.Gen
open Idealize.ShloMosaic Idealize.ShloMosaic.ValueIdx
open scoped BigOperators

/-- Expert `e`'s output feature `o` times row `(b, l)`. -/
theorem weights_apply (W : FVec Ideal S8x768x900 .f32) (x : FVec Ideal S128x16x900 .f32)
    (e : Fin 8) (o : Fin 768) (b : Fin 128) (l : Fin 16) :
    (Host.dotGeneral dot_S8x768x900_S128x16x900_S8x768x128x16_2_2_01_01_n_n none W x : FVec Ideal S8x768x128x16 .f32) (ix4 e o b l)
      = ∑ i : Fin 900, W (ix3 e o i) * x (ix3 b l i) := by
  show FloatOps.dotGeneral _ none _ W x (ix4 e o b l) = _
  rw [Ideal.dotGeneral_apply, ← Equiv.sum_comp
    (contrEquiv1 dot_S8x768x900_S128x16x900_S8x768x128x16_2_2_01_01_n_n 900 rfl rfl).symm]
  refine Finset.sum_congr rfl fun k _ => ?_
  have hk := contrEquiv1_symm_val dot_S8x768x900_S128x16x900_S8x768x128x16_2_2_01_01_n_n 900 rfl rfl k
  have el : dot_S8x768x900_S128x16x900_S8x768x128x16_2_2_01_01_n_n.lhsIdx (ix4 e o b l)
      ((contrEquiv1 dot_S8x768x900_S128x16x900_S8x768x128x16_2_2_01_01_n_n 900 rfl rfl).symm k) = ix3 e o k := by
    funext a; apply Fin.ext
    match a with
    | ⟨0, _⟩ => rfl
    | ⟨1, _⟩ => rfl
    | ⟨2, _⟩ => exact hk
  have er : dot_S8x768x900_S128x16x900_S8x768x128x16_2_2_01_01_n_n.rhsIdx (ix4 e o b l)
      ((contrEquiv1 dot_S8x768x900_S128x16x900_S8x768x128x16_2_2_01_01_n_n 900 rfl rfl).symm k) = ix3 b l k := by
    funext a; apply Fin.ext
    match a with
    | ⟨0, _⟩ => rfl
    | ⟨1, _⟩ => rfl
    | ⟨2, _⟩ => exact hk
  rw [el, er]

/-- The sum over the experts, each weighted by the row's share of it. -/
theorem combine_apply (Y : FVec Ideal S8x128x16x768 .f32) (s : FVec Ideal S128x8 .f32)
    (b : Fin 128) (l : Fin 16) (o : Fin 768) :
    (Host.dotGeneral dot_S8x128x16x768_S128x8_S128x16x768_0_1_23_n_1_0 none Y s : FVec Ideal S128x16x768 .f32) (ix3 b l o)
      = ∑ e : Fin 8, Y (ix4 e b l o) * s (ix2 b e) := by
  show FloatOps.dotGeneral _ none _ Y s (ix3 b l o) = _
  rw [Ideal.dotGeneral_apply, ← Equiv.sum_comp
    (contrEquiv1 dot_S8x128x16x768_S128x8_S128x16x768_0_1_23_n_1_0 8 rfl rfl).symm]
  refine Finset.sum_congr rfl fun k _ => ?_
  have hk := contrEquiv1_symm_val dot_S8x128x16x768_S128x8_S128x16x768_0_1_23_n_1_0 8 rfl rfl k
  have el : dot_S8x128x16x768_S128x8_S128x16x768_0_1_23_n_1_0.lhsIdx (ix3 b l o)
      ((contrEquiv1 dot_S8x128x16x768_S128x8_S128x16x768_0_1_23_n_1_0 8 rfl rfl).symm k) = ix4 k b l o := by
    funext a; apply Fin.ext
    match a with
    | ⟨0, _⟩ => exact hk
    | ⟨1, _⟩ => rfl
    | ⟨2, _⟩ => rfl
    | ⟨3, _⟩ => rfl
  have er : dot_S8x128x16x768_S128x8_S128x16x768_0_1_23_n_1_0.rhsIdx (ix3 b l o)
      ((contrEquiv1 dot_S8x128x16x768_S128x8_S128x16x768_0_1_23_n_1_0 8 rfl rfl).symm k) = ix2 b k := by
    funext a; apply Fin.ext
    match a with
    | ⟨0, _⟩ => rfl
    | ⟨1, _⟩ => exact hk
  rw [el, er]

end Cert.Proof.ReferenceIdeal
-- ==== Proof.RefGate.lean ====
/-
  The reference's gates read at one entry.
-/
module

public import proofs.«01_k».proof.Proof.Gen.ReferenceIdeal
public import proofs.«01_k».proof.Proof.Gate

@[expose] public section

noncomputable section

namespace Cert.Proof.ReferenceIdeal

open Cert.ReferenceIdeal Cert.ReferenceIdeal.Gen Cert.Proof Cert.Proof.Tools
open Idealize.ShloMosaic Idealize.ShloMosaic.ValueIdx
open scoped BigOperators

/-- The shape of a row-wise reduction of an array of 128 rows by 8. -/
theorem reduces : S128x8.Reduces [1] S128 := by decide

/-- A list of row values stood beside the table. -/
def spread (x : FVec Ideal S128 .f32) : FVec Ideal S128x8 .f32 :=
  broadcastInDim S128x8 ![0, 1] bcast_S128x1_S128x8_0_1 (broadcastInDim S128x1 ![0] bcast_S128_S128x1_0 x)

/-- A vector stood up as a column keeps its entries. -/
theorem stand_apply {α : Type} (x : S128.Idx → α) (b : Fin 128) :
    broadcastInDim S128x1 ![0] bcast_S128_S128x1_0 x (ix2 b 0) = x (ix1 b) := by
  refine broadcastInDim_apply _ _ x _ _ fun a => ?_
  match a with
  | ⟨0, _⟩ => rfl

/-- A column copied to eight columns has the column's entry in each. -/
theorem beside_apply {α : Type} (x : S128x1.Idx → α) (b : Fin 128) (e : Fin 8) :
    broadcastInDim S128x8 ![0, 1] bcast_S128x1_S128x8_0_1 x (ix2 b e) = x (ix2 b 0) := by
  refine broadcastInDim_apply _ _ x _ _ fun a => ?_
  match a with
  | ⟨0, _⟩ => rfl
  | ⟨1, _⟩ => rfl

/-- A vector spread over eight columns has the row's entry in each. -/
theorem spread_apply (x : FVec Ideal S128 .f32) (b : Fin 128) (e : Fin 8) : spread x (ix2 b e) = x (ix1 b) :=
  (beside_apply _ b e).trans (stand_apply x b)

/-- The sum of a row. -/
theorem rowSum_apply (x : FVec Ideal S128x8 .f32) (b : Fin 128) :
    Host.reduceAdd x (constant S_ .f32 0x00000000#32) reducesTo_S128x8_S128_d1 h_S_ (ix1 b) = ∑ k : Fin 8, x (ix2 b k) := by
  rw [hostReduceAdd_apply, Ideal.hostReduceAdd_single _ reduces]
  refine (congrArg₂ (fun u v : EReal => u + v) (ofBits_zero.trans Nat.cast_zero)
    (Finset.sum_congr rfl fun k _ => congrArg x (lift_last reduces b k))).trans (zero_add _)

/-- The greatest of a row. -/
def rowTop (L : FVec Ideal S128x8 .f32) : FVec Ideal S128 .f32 :=
  maximumf (broadcastInDim S128 ![] bcast_S_S128 (constant S_ .f32 0xFF800000#32))
    (Host.reduce FloatOps.maximumf L (constant S_ .f32 0xFF800000#32) reducesTo_S128x8_S128_d1 h_S_)

/-- The reduction by maximum from −∞ is the largest logit of the row. -/
theorem reduceMax_apply (L : FVec Ideal S128x8 .f32) (b : Fin 128) :
    Host.reduce (FloatOps.maximumf (F := Ideal) (φ := .f32)) L (constant S_ .f32 0xFF800000#32) reducesTo_S128x8_S128_d1 h_S_ (ix1 b) = Gate.top L b := by
  show Host.reduce (max : EReal → EReal → EReal) L (constant (F := Ideal) S_ .f32 0xFF800000#32) reducesTo_S128x8_S128_d1 h_S_ (ix1 b) = _
  rw [Host.reduce_eq_fold_single _ L _ _ reduces]
  have hb : (constant (F := Ideal) S_ .f32 0xFF800000#32 (Shape.Idx.first h_S_)) = (⊥ : EReal) := ofBits_bot
  rw [hb]
  have hf : (L ∘ reduces.lift (ix1 b)) = fun k : Fin 8 => (L (ix2 b k) : EReal) :=
    funext fun k => congrArg L (lift_last reduces b k)
  rw [hf]
  rfl

/-- The row maximum that the reference's softmax subtracts is the largest logit of the row. -/
theorem rowTop_apply (L : FVec Ideal S128x8 .f32) (b : Fin 128) : rowTop L (ix1 b) = Gate.top L b := by
  unfold rowTop
  have hb : (broadcastInDim S128 ![] bcast_S_S128 (constant (F := Ideal) S_ .f32 0xFF800000#32) (ix1 b)) = (⊥ : EReal) := ofBits_bot
  refine (congrArg₂ (fun u v : EReal => max u v) hb (reduceMax_apply L b)).trans ?_
  exact max_eq_right bot_le

/-- The exponentials. -/
def weights (L : FVec Ideal S128x8 .f32) : FVec Ideal S128x8 .f32 := Host.exp (subf L (spread (rowTop L)))

/-- The exponentials of the reference's softmax. -/
theorem weights_eq (L : FVec Ideal S128x8 .f32) (b : Fin 128) (e : Fin 8) : weights L (ix2 b e) = Gate.wt L b e := by
  unfold Gate.wt
  rw [← rowTop_apply L b, ← spread_apply (rowTop L) b e]
  rfl

/-- The mask as numbers. -/
def masked (M : IVec S128x8 32) : FVec Ideal S128x8 .f32 :=
  uitofp .f32 (cmpi .eq M (broadcastInDim S128x8 ![] bcast_S_S128x8 (constantI S_ 32 1#32)))

/-- A truth value, taken as a number, is one or zero. -/
theorem ofBool_nat (p : Bool) : (((BitVec.ofBool p).toNat : ℝ) : EReal) = ((if p then 1 else 0 : ℕ) : EReal) := by
  cases p <;> simp

/-- The reference's mask: one where the mask's word is one, and zero elsewhere. -/
theorem masked_apply (M : IVec S128x8 32) (b : Fin 128) (e : Fin 8) : masked M (ix2 b e) = Gate.open' M b e :=
  ofBool_nat _

/-- The gates. -/
def gates (L : FVec Ideal S128x8 .f32) (M : IVec S128x8 32) : FVec Ideal S128x8 .f32 :=
  mulf (Host.divf (weights L) (spread (Host.reduceAdd (weights L) (constant S_ .f32 0x00000000#32) reducesTo_S128x8_S128_d1 h_S_)))
    (masked M)

/-- The reference's gates are the gates defined here. -/
theorem gates_apply (L : FVec Ideal S128x8 .f32) (M : IVec S128x8 32) (b : Fin 128) (e : Fin 8) :
    gates L M (ix2 b e) = Gate.gate L M b e := by
  unfold gates Gate.gate
  refine congrArg₂ (fun x y : EReal => x * y) (congrArg₂ Ideal.div (weights_eq L b e) ?_) (masked_apply M b e)
  rw [spread_apply, rowSum_apply]
  exact Finset.sum_congr rfl fun k _ => weights_eq L b k

end Cert.Proof.ReferenceIdeal
-- ==== Proof.TopTwo.lean ====
/-
  A stable sort of eight values, greatest first, read at its first two positions: the first place of the greatest value,
  then the first place of the greatest of the others.
-/
module

public import Idealize.ShloMosaic.Lib.SortFacts
public import Mathlib.Data.EReal.Basic
public import Mathlib.Tactic.NormNum
public import Mathlib.Tactic.Push

@[expose] public section

noncomputable section

namespace Cert.Proof.TopTwo

open Idealize.ShloMosaic

/-- Sorting a list that already stands in rising order of its places never meets a tie backwards: a comparison may as
    well break ties by place. -/
theorem sort_ties {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

variable (v : Fin 8 → EReal)

/-- Greater first. -/
def gtB (a b : Fin 8) : Bool := decide (v b < v a)
/-- Greater first, and of equals the earlier place first. -/
def gtLex (a b : Fin 8) : Bool := decide (v b < v a ∨ (v a = v b ∧ a < b))

/-- A stable sort by value is the sort by value and then by place. -/
theorem sort_lex : sortPositions 8 (gtB v) = sortPositions 8 (gtLex v) := by
  refine sort_ties _ _ (fun a b hab => ?_) _ (by decide)
  unfold gtB gtLex
  refine decide_eq_decide.mpr ⟨Or.inl, ?_⟩
  rintro (h | ⟨_, h⟩)
  · exact h
  · exact absurd h (not_lt.mpr hab.le)

/-- The place that each entry comes from is the same for both sorts. -/
theorem sortedFrom_lex : sortedFrom (gtB v) = sortedFrom (gtLex v) := by
  funext k
  unfold sortedFrom
  rw [List.get_of_eq (sort_lex v)]
  rfl

/-- The sort leaves no later entry that belongs before an earlier one. -/
theorem no_inversion (i j : Fin 8) (hij : i < j) : gtLex v (sortedFrom (gtLex v) j) (sortedFrom (gtLex v) i) = false := by
  refine sortedFrom_noInversion (gtLex v) (gtLex v) ?_ (fun _ _ h => h) ?_ i j hij
  · intro a b hab
    have hab := of_decide_eq_true hab
    refine decide_eq_false ?_
    rintro (h | ⟨e, h⟩)
    · rcases hab with h' | ⟨e', _⟩
      · exact lt_asymm h h'
      · exact absurd h (by rw [e']; exact lt_irrefl _)
    · rcases hab with h' | ⟨_, h'⟩
      · exact absurd h' (by rw [e]; exact lt_irrefl _)
      · exact lt_asymm h h'
  · intro a b c hab hbc
    have hab := of_decide_eq_false hab
    have hbc := of_decide_eq_false hbc
    push Not at hab hbc
    refine decide_eq_false ?_
    push Not
    have hle : v a ≤ v c := hab.1.trans hbc.1
    refine ⟨hle, fun e => ?_⟩
    have eab : v a = v b := le_antisymm hab.1 (hbc.1.trans e.symm.le)
    exact (hbc.2 (eab.symm.trans e)).trans (hab.2 eab)

/-- The first sorted position comes from the first place of the greatest value. -/
theorem sorted_zero (I : Fin 8) (hI : ∀ q, v q ≤ v I) (hf : ∀ j, j < I → v j ≠ v I) : sortedFrom (gtB v) 0 = I := by
  rw [sortedFrom_lex]
  obtain ⟨j, hj⟩ := sortedFrom_surjective (gtLex v) I
  by_cases h0 : j = 0
  · rw [← h0, hj]
  · have hn := of_decide_eq_false (no_inversion v 0 j (Fin.pos_of_ne_zero h0))
    rw [hj] at hn
    push Not at hn
    have e := le_antisymm hn.1 (hI _)
    rcases lt_or_eq_of_le (hn.2 e) with h | h
    · exact absurd e.symm (hf _ h)
    · exact h

/-- The second comes from the first place of the greatest of the others. -/
theorem sorted_one (I J : Fin 8) (hI : ∀ q, v q ≤ v I) (hf : ∀ j, j < I → v j ≠ v I) (hJI : J ≠ I)
    (hJ : ∀ q, q ≠ I → v q ≤ v J) (hg : ∀ j, j < J → j ≠ I → v j ≠ v J) : sortedFrom (gtB v) 1 = J := by
  have h0 := sorted_zero v I hI hf
  have hinj := sortedFrom_injective (gtB v)
  have h1 : sortedFrom (gtB v) 1 ≠ I := fun e => absurd (hinj (e.trans h0.symm)) (by decide)
  rw [sortedFrom_lex] at h0 hinj h1 ⊢
  obtain ⟨j, hj⟩ := sortedFrom_surjective (gtLex v) J
  by_cases e1 : j = 1
  · rw [← e1, hj]
  · have e0 : j ≠ 0 := fun e => hJI (by rw [← hj, e, h0])
    have hlt : (1 : Fin 8) < j := by
      clear hj
      revert e0 e1; revert j; decide
    have hn := of_decide_eq_false (no_inversion v 1 j hlt)
    rw [hj] at hn
    push Not at hn
    have e := le_antisymm hn.1 (hJ _ h1)
    rcases lt_or_eq_of_le (hn.2 e) with h | h
    · exact absurd e.symm (hg _ h h1)
    · exact h

end Cert.Proof.TopTwo
-- ==== Proof.RefPick.lean ====
/-
  Which experts the reference keeps: the two places the sort puts first, marked in a table of zeros.
-/
module

public import proofs.«01_k».proof.Proof.Gen.ReferenceIdeal
public import proofs.«01_k».proof.Proof.Tools
public import proofs.«01_k».proof.Proof.TopTwo
public import Idealize.ShloMosaic.Lib.Routing.OpsPair
public import Idealize.ShloMosaic.Lib.Routing.OpsSet

@[expose] public section

noncomputable section

namespace Cert.Proof.ReferenceIdeal

open Cert.ReferenceIdeal Cert.ReferenceIdeal.Gen Cert.Proof Cert.Proof.Tools
open Idealize.ShloMosaic Idealize.ShloMosaic.ValueIdx
open scoped BigOperators

/-- The places of a row's two greatest. -/
def places (G : FVec Ideal S128x8 .f32) : IVec S128x2 32 :=
  (Host.topK S128x2 1 (FloatOps.cmpfTotal .gt) G sliceFits_S128x8_S128x2).2

/-- The reference's two places in a row are the first two of the stable sort of the row from the largest gate down. -/
theorem places_apply (G : FVec Ideal S128x8 .f32) (b : Fin 128) (k : Fin 2) :
    places G (ix2 b k) = BitVec.ofNat 32 (sortedFrom (TopTwo.gtB fun e => G (ix2 b e)) (k.castLE (by decide))).val := by
  have hj : ∀ e e' : Fin 8, Shape.Idx.along (s := S128x8) (ix2 b e) 1 e' = ix2 b e' := fun e e' => by
    funext a; apply Fin.ext
    match a with
    | ⟨0, _⟩ => rfl
    | ⟨1, _⟩ => rfl
  have hR : (fun p q : Fin 8 => (FloatOps.cmpfTotal (F := Ideal) (φ := .f32) .gt (G (Shape.Idx.along (s := S128x8) (ix2 b (k.castLE (by decide))) 1 p))
      (G (Shape.Idx.along (s := S128x8) (ix2 b (k.castLE (by decide))) 1 q)) == 1#1)) = TopTwo.gtB fun e => G (ix2 b e) := by
    funext p q
    rw [hj, hj]
    show (BitVec.ofBool (decide ((G (ix2 b q) : EReal) < G (ix2 b p))) == 1#1) = decide _
    by_cases h : (G (ix2 b q) : EReal) < G (ix2 b p)
    · simp [h]
    · simp [h]
  unfold places Host.topK
  show extractStridedSlice S128x2 (fun _ => 0) (Host.sort2 S128x8 1 (fun l r => FloatOps.cmpfTotal (F := Ideal) (φ := .f32) .gt l.1 r.1) G
    (fun i => if hd : 1 < S128x8.rank then iotaInDim S128x8 32 ⟨1, hd⟩ i else 0#32)).2 sliceFits_S128x8_S128x2 (ix2 b k) = _
  refine (extractStridedSlice_apply _ _ _ _ (ix2 b (k.castLE (by decide) : Fin 8)) fun a => ?_).trans ?_
  · match a with
    | ⟨0, _⟩ => exact (Nat.zero_add _).symm
    | ⟨1, _⟩ => exact (Nat.zero_add _).symm
  · rw [← hR]
    rfl

/-- The row numbers, twice over. -/
def rowsTable : IVec S128x2x1 32 :=
  broadcastInDim S128x2x1 ![0, 1] bcast_S128x2_S128x2x1_0_1 (broadcastInDim S128x2 ![0, 1] bcast_S128x1_S128x2_0_1
    (select (cmpi .slt (broadcastInDim S128x1 ![0] bcast_S128_S128x1_0 (iotaInDim S128 32 0))
        (broadcastInDim S128x1 ![] bcast_S_S128x1 (constantI S_ 32 0#32)))
      (addi (broadcastInDim S128x1 ![0] bcast_S128_S128x1_0 (iotaInDim S128 32 0))
        (broadcastInDim S128x1 ![] bcast_S_S128x1 (constantI S_ 32 128#32)))
      (broadcastInDim S128x1 ![0] bcast_S128_S128x1_0 (iotaInDim S128 32 0))))

/-- The places, negative ones counted from the end. -/
def placesTable (P : IVec S128x2 32) : IVec S128x2x1 32 :=
  broadcastInDim S128x2x1 ![0, 1] bcast_S128x2_S128x2x1_0_1
    (select (cmpi .slt P (broadcastInDim S128x2 ![] bcast_S_S128x2 (constantI S_ 32 0#32)))
      (addi P (broadcastInDim S128x2 ![] bcast_S_S128x2 (constantI S_ 32 8#32))) P)

/-- An array given a last axis of length one keeps its entries. -/
theorem deep_apply {α : Type} (x : S128x2.Idx → α) (b : Fin 128) (k : Fin 2) :
    broadcastInDim S128x2x1 ![0, 1] bcast_S128x2_S128x2x1_0_1 x (ix3 b k 0) = x (ix2 b k) := by
  refine broadcastInDim_apply _ _ x _ _ fun a => ?_
  match a with
  | ⟨0, _⟩ => rfl
  | ⟨1, _⟩ => rfl

/-- A column copied to two columns has the column's entry in both. -/
theorem twice_apply {α : Type} (x : S128x1.Idx → α) (b : Fin 128) (k : Fin 2) :
    broadcastInDim S128x2 ![0, 1] bcast_S128x1_S128x2_0_1 x (ix2 b k) = x (ix2 b 0) := by
  refine broadcastInDim_apply _ _ x _ _ fun a => ?_
  match a with
  | ⟨0, _⟩ => rfl
  | ⟨1, _⟩ => rfl

/-- A vector stood up as a column keeps its entries. -/
theorem line_apply {α : Type} (x : S128.Idx → α) (b : Fin 128) :
    broadcastInDim S128x1 ![0] bcast_S128_S128x1_0 x (ix2 b 0) = x (ix1 b) := by
  refine broadcastInDim_apply _ _ x _ _ fun a => ?_
  match a with
  | ⟨0, _⟩ => rfl

/-- A number below 128 is not negative as a signed word. -/
theorem toNat_small (n : ℕ) (h : n < 128) : (BitVec.ofNat 32 n).toNat < 2 ^ (32 - 1) := by
  rw [BitVec.toNat_ofNat]; omega

/-- A number below 2³¹ is read back from its signed word. -/
theorem toInt_small (n : ℕ) (h : n < 2 ^ 31) : (BitVec.ofNat 32 n).toInt = (n : ℤ) := by
  rw [BitVec.toInt_eq_toNat_cond, BitVec.toNat_ofNat]; omega

/-- The row numbers given to the scatter. -/
theorem rowsTable_apply (b : Fin 128) (k : Fin 2) : rowsTable (ix3 b k 0) = BitVec.ofNat 32 b.val := by
  unfold rowsTable
  rw [deep_apply, twice_apply, select_apply]
  have h : broadcastInDim S128x1 ![0] bcast_S128_S128x1_0 (iotaInDim S128 32 0) (ix2 b 0) = BitVec.ofNat 32 b.val := line_apply _ b
  show Scalar.select (IntOp.cmpi .slt (broadcastInDim S128x1 ![0] bcast_S128_S128x1_0 (iotaInDim S128 32 0) (ix2 b 0)) 0#32) _
    (broadcastInDim S128x1 ![0] bcast_S128_S128x1_0 (iotaInDim S128 32 0) (ix2 b 0)) = _
  rw [h]
  exact Routing.wrap_of_lt _ _ (toNat_small _ b.isLt)

/-- The column numbers given to the scatter: the places, which need no wrapping. -/
theorem placesTable_apply (P : IVec S128x2 32) (b : Fin 128) (k : Fin 2) (e : Fin 8) (h : P (ix2 b k) = BitVec.ofNat 32 e.val) :
    placesTable P (ix3 b k 0) = BitVec.ofNat 32 e.val := by
  unfold placesTable
  rw [deep_apply, select_apply]
  show Scalar.select (IntOp.cmpi .slt (P (ix2 b k)) 0#32) _ (P (ix2 b k)) = _
  rw [h]
  exact Routing.wrap_of_lt _ _ (toNat_small _ (by omega))

/-- Row number and place, side by side. -/
def pairs (P : IVec S128x2 32) : IVec S128x2x2 32 :=
  concatenate S128x2x2 2 [⟨S128x2x1, rowsTable⟩, ⟨S128x2x1, placesTable P⟩] concatenates_S128x2x1_S128x2x1_S128x2x2_d2

/-- The first component of the scatter's index is the row. -/
theorem pairs_row (P : IVec S128x2 32) (b : Fin 128) (k : Fin 2) : pairs P (ix3 b k 0) = BitVec.ofNat 32 b.val := by
  refine (concatenate_apply_piece (2 : Fin S128x2x2.rank) [⟨S128x2x1, rowsTable⟩, ⟨S128x2x1, placesTable P⟩]
    concatenates_S128x2x1_S128x2x1_S128x2x2_d2 (ix3 b k 0) 0 Nat.zero_lt_two
    S128x2x1 rowsTable rfl rfl 0 rfl (ix3 b k 0) (fun a ha => ?_) rfl).trans (rowsTable_apply b k)
  match a with
  | ⟨0, _⟩ => rfl
  | ⟨1, _⟩ => rfl
  | ⟨2, _⟩ => exact absurd rfl ha

/-- The second component of the scatter's index is the place. -/
theorem pairs_place (P : IVec S128x2 32) (b : Fin 128) (k : Fin 2) : pairs P (ix3 b k 1) = placesTable P (ix3 b k 0) := by
  refine (concatenate_apply_piece (2 : Fin S128x2x2.rank) [⟨S128x2x1, rowsTable⟩, ⟨S128x2x1, placesTable P⟩]
    concatenates_S128x2x1_S128x2x1_S128x2x2_d2 (ix3 b k 1) 1 Nat.one_lt_two
    S128x2x1 (placesTable P) rfl rfl 1 rfl (ix3 b k 0) (fun a ha => ?_) rfl)
  match a with
  | ⟨0, _⟩ => rfl
  | ⟨1, _⟩ => rfl
  | ⟨2, _⟩ => exact absurd rfl ha

/-- The table of kept experts. -/
def kept (P : IVec S128x2 32) : IVec S128x8 1 :=
  Host.scatter scatter_S128x8_S128x2x2_S128x2_n_01_01_2 (fun _ b => b) (broadcastInDim S128x8 ![] bcast_S_S128x8 (constantI S_ 1 0#1))
    (pairs P) (broadcastInDim S128x2 ![] bcast_S_S128x2 (constantI S_ 1 1#1))

/-- An entry is marked exactly where it is one of its row's two places. -/
theorem kept_apply (P : IVec S128x2 32) (I J : Fin 128 → Fin 8) (h0 : ∀ b, P (ix2 b 0) = BitVec.ofNat 32 (I b).val)
    (h1 : ∀ b, P (ix2 b 1) = BitVec.ofNat 32 (J b).val) (b : Fin 128) (e : Fin 8) :
    kept P (ix2 b e) = BitVec.ofBool (decide (e = I b ∨ e = J b)) := by
  have hlands : ∀ (b' : Fin 128) (k : Fin 2), scatter_S128x8_S128x2x2_S128x2_n_01_01_2.resultIdx? (ix2 b' k) (pairs P) = some (ix2 b e)
      ↔ b' = b ∧ (if k = 0 then I b' else J b') = e := fun b' k => by
    refine (Routing.scatter_lands2 scatter_S128x8_S128x2x2_S128x2_n_01_01_2 rfl rfl rfl (pairs P) b' k b e).trans ?_
    have hp : placesTable P (ix3 b' k 0) = BitVec.ofNat 32 (if k = 0 then I b' else J b').val := by
      refine placesTable_apply P b' k _ ?_
      match k with
      | ⟨0, _⟩ => exact h0 b'
      | ⟨1, _⟩ => exact h1 b'
    rw [pairs_row, pairs_place, hp, toInt_small _ (by omega), toInt_small _ (by omega)]
    refine and_congr ?_ ?_
    · rw [Nat.cast_inj, Fin.val_inj]
    · rw [Nat.cast_inj, Fin.val_inj]
  unfold kept
  by_cases h : e = I b ∨ e = J b
  · rw [decide_eq_true h]
    rcases h with h | h
    · exact Routing.scatter_set_hit _ _ _ _ _ _ (fun _ _ => rfl) (ix2 b 0) ((hlands b 0).mpr ⟨rfl, h.symm⟩)
    · exact Routing.scatter_set_hit _ _ _ _ _ _ (fun _ _ => rfl) (ix2 b 1) ((hlands b 1).mpr ⟨rfl, h.symm⟩)
  · rw [decide_eq_false h]
    refine Routing.scatter_set_miss _ _ _ _ _ fun k hk => h ?_
    rw [show k = ix2 (k 0) (k 1) from (eq_ix2 k)] at hk
    obtain ⟨hb, he⟩ := (hlands (k 0) (k 1)).mp hk
    rw [← hb, ← he]
    split
    · exact Or.inl rfl
    · exact Or.inr rfl

end Cert.Proof.ReferenceIdeal
-- ==== Proof.RefValue.lean ====
/-
  The reference's result read at one entry, given the two places its sort finds in each row: the two experts' layers,
  each times its share.
-/
module

public import proofs.«01_k».proof.Proof.Gen.ReferenceIdeal.Run
public import proofs.«01_k».proof.Proof.Contract
public import proofs.«01_k».proof.Proof.RefGate
public import proofs.«01_k».proof.Proof.RefPick

@[expose] public section

noncomputable section

namespace Cert.Proof.ReferenceIdeal

open Cert.ReferenceIdeal Cert.ReferenceIdeal.Gen Cert.Proof Cert.Proof.Tools
open Idealize.ShloMosaic Idealize.ShloMosaic.ValueIdx
open scoped BigOperators

/-- The gates of the kept experts, zero elsewhere. -/
def keptGates (G : FVec Ideal S128x8 .f32) : FVec Ideal S128x8 .f32 := mulf G (uitofp .f32 (kept (places G)))

/-- The shares: the kept gates over their row's sum and a small constant. -/
def shares (G : FVec Ideal S128x8 .f32) : FVec Ideal S128x8 .f32 :=
  Host.divf (keptGates G) (broadcastInDim S128x8 ![0, 1] bcast_S128x1_S128x8_0_1
    (addf (broadcastInDim S128x1 ![0] bcast_S128_S128x1_0
        (Host.reduceAdd (keptGates G) (constant S_ .f32 0x00000000#32) reducesTo_S128x8_S128_d1 h_S_))
      (broadcastInDim S128x1 ![] bcast_S_S128x1 (constant S_ .f32 0x3089705F#32))))

/-- Every expert's layer on every row. -/
def layers (x : FVec Ideal S128x16x900 .f32) (W : FVec Ideal S8x768x900 .f32) (B : FVec Ideal S8x768 .f32) : FVec Ideal S8x128x16x768 .f32 :=
  addf (transpose S8x128x16x768 [0, 2, 3, 1] (Host.dotGeneral dot_S8x768x900_S128x16x900_S8x768x128x16_2_2_01_01_n_n none W x)
      transposes_S8x768x128x16_S8x128x16x768_0_2_3_1)
    (broadcastInDim S8x128x16x768 ![0, 1, 2, 3] bcast_S8x1x1x768_S8x128x16x768_0_1_2_3
      (broadcastInDim S8x1x1x768 ![0, 3] bcast_S8x768_S8x1x1x768_0_3 B))

/-- The reference's result. -/
def result (x : FVec Ideal S128x16x900 .f32) (L : FVec Ideal S128x8 .f32) (M : IVec S128x8 32) (W : FVec Ideal S8x768x900 .f32)
    (B : FVec Ideal S8x768 .f32) : FVec Ideal S128x16x768 .bf16 :=
  truncf .bf16 (Host.dotGeneral dot_S8x128x16x768_S128x8_S128x16x768_0_1_23_n_1_0 none (layers x W B) (shares (gates L M)))

/-- The array that the reference leaves is `result` of its five arguments. -/
theorem res_eq (m : (ℓ : Loc nD τ sig) → Buf (Elt Ideal) ℓ) (c : Dev nD) :
    Value.res_main_v48 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- Every expert's layer: the product of its weights and the data, plus its bias. -/
theorem layers_apply (x : FVec Ideal S128x16x900 .f32) (W : FVec Ideal S8x768x900 .f32) (B : FVec Ideal S8x768 .f32)
    (e : Fin 8) (b : Fin 128) (l : Fin 16) (o : Fin 768) :
    layers x W B (ix4 e b l o) = (∑ i : Fin 900, W (ix3 e o i) * x (ix3 b l i)) + B (ix2 e o) := by
  unfold layers
  refine congrArg₂ (fun u v : EReal => u + v) ?_ ?_
  · refine (transpose_apply _ _ _ (ix4 e b l o) (ix4 e o b l) fun a => ?_).trans (weights_apply W x e o b l)
    match a with
    | ⟨0, _⟩ => rfl
    | ⟨1, _⟩ => rfl
    | ⟨2, _⟩ => rfl
    | ⟨3, _⟩ => rfl
  · refine (broadcastInDim_apply _ _ _ (ix4 e b l o) (ix4 e 0 0 o) fun a => ?_).trans
      (broadcastInDim_apply _ _ _ (ix4 e 0 0 o) (ix2 e o) fun a => ?_)
    · match a with
      | ⟨0, _⟩ => rfl
      | ⟨1, _⟩ => rfl
      | ⟨2, _⟩ => rfl
      | ⟨3, _⟩ => rfl
    · match a with
      | ⟨0, _⟩ => rfl
      | ⟨1, _⟩ => rfl

section Row

variable (G : FVec Ideal S128x8 .f32) (I J : Fin 128 → Fin 8)
  (h0 : ∀ b, places G (ix2 b 0) = BitVec.ofNat 32 (I b).val) (h1 : ∀ b, places G (ix2 b 1) = BitVec.ofNat 32 (J b).val)

include h0 h1 in
/-- The gates that are kept: those of the two experts taken; the others are zero. -/
theorem keptGates_apply (b : Fin 128) (e : Fin 8) : keptGates G (ix2 b e) = if e = I b ∨ e = J b then (G (ix2 b e) : EReal) else 0 := by
  unfold keptGates
  refine (congrArg (fun u : EReal => G (ix2 b e) * u)
    ((congrArg (fun v : BitVec 1 => ((v.toNat : ℝ) : EReal)) (kept_apply (places G) I J h0 h1 b e)).trans (ofBool_nat _))).trans ?_
  show (G (ix2 b e) : EReal) * ((if decide (e = I b ∨ e = J b) = true then 1 else 0 : ℕ) : EReal) = _
  by_cases h : e = I b ∨ e = J b
  · rw [if_pos h, if_pos (decide_eq_true h), Nat.cast_one]
    exact mul_one _
  · rw [if_neg h, if_neg (by rw [decide_eq_false h]; exact Bool.false_ne_true), Nat.cast_zero]
    exact mul_zero _

include h0 h1 in
/-- The kept gates of a row add up to the two gates. -/
theorem keptSum (b : Fin 128) (hIJ : J b ≠ I b) : ∑ e : Fin 8, (keptGates G (ix2 b e) : EReal) = G (ix2 b (I b)) + G (ix2 b (J b)) := by
  rw [Finset.sum_eq_add (I b) (J b) hIJ.symm]
  · rw [keptGates_apply G I J h0 h1, keptGates_apply G I J h0 h1, if_pos (Or.inl rfl), if_pos (Or.inr rfl)]
  · intro e _ he
    rw [keptGates_apply G I J h0 h1, if_neg (not_or.mpr he)]
  · exact fun h => absurd (Finset.mem_univ _) h
  · exact fun h => absurd (Finset.mem_univ _) h

include h0 h1 in
/-- The reference's shares: the kept gate over the sum of the two gates and the small constant. -/
theorem shares_apply (b : Fin 128) (e : Fin 8) (hIJ : J b ≠ I b) :
    shares G (ix2 b e) = Ideal.div (if e = I b ∨ e = J b then (G (ix2 b e) : EReal) else 0)
      (G (ix2 b (I b)) + G (ix2 b (J b)) + Ideal.ofBits .f32 0x3089705F#32) := by
  unfold shares
  refine congrArg₂ Ideal.div (keptGates_apply G I J h0 h1 b e) ?_
  rw [beside_apply]
  refine congrArg₂ (fun u v : EReal => u + v) ?_ rfl
  rw [stand_apply, rowSum_apply]
  exact keptSum G I J h0 h1 b hIJ

end Row

/-- The result at one entry: two experts' layers, each times its share. -/
theorem result_apply (x : FVec Ideal S128x16x900 .f32) (L : FVec Ideal S128x8 .f32) (M : IVec S128x8 32) (W : FVec Ideal S8x768x900 .f32)
    (B : FVec Ideal S8x768 .f32) (I J : Fin 128 → Fin 8)
    (h0 : ∀ b, places (gates L M) (ix2 b 0) = BitVec.ofNat 32 (I b).val)
    (h1 : ∀ b, places (gates L M) (ix2 b 1) = BitVec.ofNat 32 (J b).val)
    (b : Fin 128) (l : Fin 16) (o : Fin 768) (hIJ : J b ≠ I b) (d : EReal)
    (hd : d = Gate.gate L M b (I b) + Gate.gate L M b (J b) + Ideal.ofBits .f32 0x3089705F#32) (hd0 : d ≠ 0) :
    result x L M W B (ix3 b l o)
      = ((∑ i : Fin 900, W (ix3 (I b) o i) * x (ix3 b l i)) + B (ix2 (I b) o)) * Ideal.div (Gate.gate L M b (I b)) d
      + ((∑ i : Fin 900, W (ix3 (J b) o i) * x (ix3 b l i)) + B (ix2 (J b) o)) * Ideal.div (Gate.gate L M b (J b)) d := by
  have hs : ∀ e : Fin 8, shares (gates L M) (ix2 b e) = Ideal.div (if e = I b ∨ e = J b then Gate.gate L M b e else 0) d := fun e => by
    rw [shares_apply (gates L M) I J h0 h1 b e hIJ, gates_apply, gates_apply, gates_apply, ← hd]
  unfold result
  refine (combine_apply (layers x W B) (shares (gates L M)) b l o).trans ?_
  rw [Finset.sum_eq_add (I b) (J b) hIJ.symm]
  · rw [hs, hs, if_pos (Or.inl rfl), if_pos (Or.inr rfl), layers_apply, layers_apply]
  · intro e _ he
    rw [hs, if_neg (not_or.mpr he), Ideal.zero_div hd0]
    exact mul_zero _
  · exact fun h => absurd (Finset.mem_univ _) h
  · exact fun h => absurd (Finset.mem_univ _) h

end Cert.Proof.ReferenceIdeal
-- ==== Proof.Equation.lean ====
/-
  With finite logits, what the kernel's loop leaves is the reference's result.
-/
module

public import proofs.«01_k».proof.Proof.Output
public import proofs.«01_k».proof.Proof.KernelGate
public import proofs.«01_k».proof.Proof.RefValue

@[expose] public section

noncomputable section

namespace Cert.Proof.Equation

open Cert.KernelIdeal (S128x8 S128x16x768)
open Cert.Proof Cert.Proof.KernelIdeal
open Idealize.ShloMosaic Idealize.ShloMosaic.ValueIdx
open scoped BigOperators

section Places

variable (L : Vec Ideal S128x8 .f32) (M : Vec Ideal S128x8 .i32) (hL : Gate.Finite L) (b : Fin 128)

/-- A row of the reference's gates is the row of gates defined here. -/
theorem gates_row : (fun e : Fin 8 => (ReferenceIdeal.gates L M (ix2 b e) : EReal)) = fun e => Gate.gate L M b e :=
  funext fun e => ReferenceIdeal.gates_apply L M b e

/-- The sort's first place is the kernel's first expert. -/
theorem places_fst : ReferenceIdeal.places (ReferenceIdeal.gates L M) (ix2 b 0) = BitVec.ofNat 32 (fstE L M b).val := by
  rw [ReferenceIdeal.places_apply]
  refine congrArg (fun e : Fin 8 => BitVec.ofNat 32 e.val) ?_
  rw [gates_row]
  exact TopTwo.sorted_zero _ (fstE L M b) (fst_ge L M b) (fst_first L M b)

include hL in
/-- The sort's second place is the kernel's second expert. -/
theorem places_snd : ReferenceIdeal.places (ReferenceIdeal.gates L M) (ix2 b 1) = BitVec.ofNat 32 (sndE L M b).val := by
  rw [ReferenceIdeal.places_apply]
  refine congrArg (fun e : Fin 8 => BitVec.ofNat 32 e.val) ?_
  rw [gates_row]
  exact TopTwo.sorted_one _ (fstE L M b) (sndE L M b) (fst_ge L M b) (fst_first L M b) (snd_ne L M hL b)
    (fun q hq => snd_ge L M hL b q hq) (fun j hj hI => snd_first L M hL b j hj hI)

end Places

/-- One layer, its factors in either order, the bias read from either of its two shapes. -/
theorem layer_eq (x : FVec Ideal Cert.ReferenceIdeal.S128x16x900 .f32) (W : FVec Ideal Cert.ReferenceIdeal.S8x768x900 .f32)
    (B : FVec Ideal Cert.ReferenceIdeal.S8x768 .f32) (B' : FVec Ideal Cert.KernelIdeal.S8x1x768 .f32)
    (hB : ∀ e o, B' (ix3 e 0 o) = B (ix2 e o)) (b : Fin 128) (l : Fin 16) (o : Fin 768) (e : Fin 8) :
    layer x W B' b l o e = (∑ i : Fin 900, W (ix3 e o i) * x (ix3 b l i)) + B (ix2 e o) := by
  unfold layer
  refine congrArg₂ (fun u v : EReal => u + v) (Finset.sum_congr rfl fun i _ => ?_) (hB e o)
  exact mul_comm _ _

/-- The kernel's result is the reference's. -/
theorem leaves_eq (c : Dev Cert.KernelIdeal.nD) (x : FVec Ideal Cert.ReferenceIdeal.S128x16x900 .f32) (L : Vec Ideal S128x8 .f32)
    (M : Vec Ideal S128x8 .i32) (W : FVec Ideal Cert.ReferenceIdeal.S8x768x900 .f32)
    (B : FVec Ideal Cert.ReferenceIdeal.S8x768 .f32) (B' : FVec Ideal Cert.KernelIdeal.S8x1x768 .f32)
    (hB : ∀ e o, B' (ix3 e 0 o) = B (ix2 e o)) (hL : Gate.Finite L) :
    leaves c x L M W B' = ReferenceIdeal.result x L M W B := by
  funext i
  obtain ⟨b, l, o, rfl⟩ : ∃ (b : Fin 128) (l : Fin 16) (o : Fin 768), i = ix3 b l o := ⟨i 0, i 1, i 2, eq_ix3 i⟩
  have h1 : logitsAt c b1 L = L := Memref.readAt_unit_zero (Elt Ideal) Cert.KernelIdeal.cc0_stg1_0 (funext fun a => by fin_cases a <;> rfl) _ L
  have h2 : masksAt c b2 M = M := Memref.readAt_unit_zero (Elt Ideal) Cert.KernelIdeal.cc0_stg2_0 (funext fun a => by fin_cases a <;> rfl) _ M
  refine (leaves_apply c x L M W B' b l o).trans ?_
  rw [h1, h2, pay58_apply L M hL, pay59_apply L M hL]
  refine Eq.trans ?_ (ReferenceIdeal.result_apply x L M W B (fstE L M) (sndE L M) (places_fst L M) (places_snd L M hL) b l o
    (snd_ne L M hL b) (denom L M b) rfl (denom_ne L M hL b)).symm
  exact congrArg₂ (fun u v : EReal => u + v)
    (congrArg (fun u : EReal => u * _) (layer_eq x W B B' hB b l o _)) (congrArg (fun u : EReal => u * _) (layer_eq x W B B' hB b l o _))

end Cert.Proof.Equation
-- ==== Proof.Kernel.lean ====
/-
  The kernel's run from a memory whose logits are finite ends with the reference's result of the same arguments.
-/
module

public import proofs.«01_k».proof.Proof.Run
public import proofs.«01_k».proof.Proof.Equation

@[expose] public section

noncomputable section

namespace Cert.Proof.KernelIdeal

open Cert.KernelIdeal Cert.KernelIdeal.Gen Cert.Proof
open Idealize.ShloMosaic Idealize.ShloMosaic.TcCoe Idealize.ShloMosaic.ValueIdx Idealize.SL.Sem

variable (m : (ℓ : Loc nD τ sig) → Buf (Elt Ideal) ℓ) (ρ : Dev nD → PrngReg)

/-- The bias as the region finds it: the argument, a unit axis put in. -/
theorem bias_eq (c : Dev nD) : V m c main_v0 = shapeCast S8x1x768 (m ((c : Thread nD τ).loc main_arg4)) shapeCasts_S8x768_S8x1x768 := by
  show (StableHlo.reshape (τ := τ) (Val := Elt Ideal) main_arg4 main_v0 (rfl : (.f32 : EltTy) = .f32) shapeCasts_S8x768_S8x1x768).result
    (fun b => m (c, b)) (Proc.devRef .tc main_v0) = _
  exact StableHlo.reshape_result (τ := τ) (Val := Elt Ideal) main_arg4 main_v0 rfl shapeCasts_S8x768_S8x1x768
    (by decide) (by decide) (fun b => m (c, b))

/-- The biases with an axis of length one in the middle hold the same numbers. -/
theorem bias_apply (B : FVec Ideal S8x768 .f32) (e : Fin 8) (o : Fin 768) :
    shapeCast S8x1x768 B shapeCasts_S8x768_S8x1x768 (ix3 e 0 o) = B (ix2 e o) := by
  refine shapeCast_apply B _ _ _ ?_
  rw [Shape.rowMajor_val_two, Shape.rowMajor_val_three]
  show e.val * 768 + o.val = (e.val * 1 + 0) * 768 + o.val
  omega

/-- What the run leaves in the result array. -/
theorem out_eq (c : Dev nD) (hL : Gate.Finite (m ((c : Thread nD τ).loc main_arg1))) :
    out5 m c t0_0 = ReferenceIdeal.result (m ((c : Thread nD τ).loc main_arg0)) (m ((c : Thread nD τ).loc main_arg1))
      (m ((c : Thread nD τ).loc main_arg2)) (m ((c : Thread nD τ).loc main_arg3)) (m ((c : Thread nD τ).loc main_arg4)) := by
  unfold out5
  rw [block_0, block_1, block_2, block_3, block_4, bias_eq]
  exact Equation.leaves_eq c _ _ _ _ _ _ (bias_apply _) hL

/-- The run: the result array at the reference's result, the arguments as they were. -/
theorem value_claim (hL : ∀ c : Dev nD, Gate.Finite (m ((c : Thread nD τ).loc main_arg1))) :
    θ_run defs (onTc (τ := τ) (main (F := Ideal))) ⟨m, fun _ => 0, ρ⟩ (fun r => ∀ c : Dev nD,
      r.2.mem ((c.tc : Thread nD τ).loc main_v1) = ReferenceIdeal.result (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 5).trans ((result_eq m c).trans (out_eq m c (hL c))), h.2 c⟩)
    (θ_run_and (run_main m ρ) (unchanged m ρ))

end Cert.Proof.KernelIdeal
-- ==== Proof.Finite.lean ====
/-
  The precondition read: every logit is a real number.
-/
module

public import proofs.«01_k».proof.Pre_finite_logits
public import proofs.«01_k».proof.Proof.Gate

@[expose] public section

noncomputable section

namespace Cert.Proof.Gate

open Idealize.ShloMosaic Idealize.ShloMosaic.ValueIdx

/-- The side condition the precondition's one broadcast takes. -/
instance finiteFacts : Cert.Pre_finite_logits.Facts where
  bcast_S_S128x8 := by decide

/-- The word of +∞ reads as the greatest extended real. -/
theorem ofBits_top : Ideal.ofBits .f32 0x7F800000#32 = ⊤ := by simp [Ideal.ofBits, Ideal.ieee]

/-- An absolute value below infinity is a real number's. -/
theorem finite_of_abs {x : EReal} (h : max x (-x) < ⊤) : x ≠ ⊤ ∧ x ≠ ⊥ := by
  constructor
  · rintro rfl
    exact absurd h (by simp)
  · rintro rfl
    exact absurd h (by simp)

/-- Where the precondition holds, every logit is finite. -/
theorem finite_of_pre (x : FVec Ideal Cert.Pre_finite_logits.S128x16x900 .f32) (L : FVec Ideal Cert.Pre_finite_logits.S128x8 .f32)
    (M : IVec Cert.Pre_finite_logits.S128x8 32) (W : FVec Ideal Cert.Pre_finite_logits.S8x768x900 .f32) (B : FVec Ideal Cert.Pre_finite_logits.S8x768 .f32)
    (h : Cert.Pre_finite_logits.fn (F := Ideal) x L M W B = fun _ => 1#1) : Finite L := fun i => by
  have hi : BitVec.ofBool (decide (max (L i : EReal) (-(L i : EReal)) < Ideal.ofBits .f32 0x7F800000#32)) = 1#1 := congrFun h i
  rw [ofBits_top] at hi
  refine finite_of_abs ?_
  by_contra hn
  rw [decide_eq_false hn] at hi
  exact absurd hi (by decide)

end Cert.Proof.Gate
-- ==== Proof.lean ====
/-
  The certificate's claims. The kernel and the reference run to the end from any memory, leave their arguments as they
  were and every semaphore counter at zero; and from memories with the same arguments, the logits finite, both end with
  the same result.
-/
module

public import proofs.«01_k».proof.Defs
public import proofs.«01_k».proof.Proof.Kernel
public import proofs.«01_k».proof.Proof.Finite
public import proofs.«01_k».proof.Proof.Gen.KernelIdeal
public import proofs.«01_k».proof.Proof.Gen.ReferenceIdeal
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.SL.Sem

/-- The reference is host operations only: its run leaves the arguments, and it declares no semaphore. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- The kernel's run leaves the arguments and every counter at zero. -/
theorem kernel_frame : Cert.quiescent_KernelIdeal := fun m g _ => Cert.Proof.KernelIdeal.frame_claim m g

/-- With finite logits kernel and reference compute the same result. -/
theorem same_result : Cert.algebraic_KernelIdeal_ReferenceIdeal_pre_finite_logits := fun m g m' g' hpre heq =>
  ⟨fun c => ReferenceIdeal.result (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)),
    KernelIdeal.value_claim m g fun c => Gate.finite_of_pre _ _ _ _ _ (hpre c),
    (θ_run _ _ _).mono (fun r h c => ⟨(h c).1.trans ((ReferenceIdeal.res_eq m' c).trans (by
      obtain ⟨e0, e1, e2, e3, e4⟩ := heq c
      rw [e0, e1, e2, e3, e4])), (h c).2⟩) (Cert.ReferenceIdeal.Value.run m' g')⟩

theorem claim : Cert.Claim :=
  ⟨Cert.KernelIdeal.Gen.facts, Cert.ReferenceIdeal.Gen.facts, Gate.finiteFacts, kernel_frame, fun m g _ => kernel_frame m g trivial,
    reference_frame, fun m g _ => reference_frame m g trivial, same_result⟩

end Cert.Proof

end
